-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_device [hPre_device : Cert.Pre_device.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_device.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)) (m ((c.tc : Thread Cert.Kernel8Ideal.nD Cert.Kernel8Ideal.τ).loc Cert.Kernel8Ideal.main_arg12)) (m ((c.tc : Thread Cert.Kernel8Ideal.nD Cert.Kernel8Ideal.τ).loc Cert.Kernel8Ideal.main_arg13)) (m ((c.tc : Thread Cert.Kernel8Ideal.nD Cert.Kernel8Ideal.τ).loc Cert.Kernel8Ideal.main_arg14)) (m ((c.tc : Thread Cert.Kernel8Ideal.nD Cert.Kernel8Ideal.τ).loc Cert.Kernel8Ideal.main_arg15)) (m ((c.tc : Thread Cert.Kernel8Ideal.nD Cert.Kernel8Ideal.τ).loc Cert.Kernel8Ideal.main_arg16)) (m ((c.tc : Thread Cert.Kernel8Ideal.nD Cert.Kernel8Ideal.τ).loc Cert.Kernel8Ideal.main_arg17)) (m ((c.tc : Thread Cert.Kernel8Ideal.nD Cert.Kernel8Ideal.τ).loc Cert.Kernel8Ideal.main_arg18)) (m ((c.tc : Thread Cert.Kernel8Ideal.nD Cert.Kernel8Ideal.τ).loc Cert.Kernel8Ideal.main_arg19)) (m ((c.tc : Thread Cert.Kernel8Ideal.nD Cert.Kernel8Ideal.τ).loc Cert.Kernel8Ideal.main_arg20)) (m ((c.tc : Thread Cert.Kernel8Ideal.nD Cert.Kernel8Ideal.τ).loc Cert.Kernel8Ideal.main_arg21)) (m ((c.tc : Thread Cert.Kernel8Ideal.nD Cert.Kernel8Ideal.τ).loc Cert.Kernel8Ideal.main_arg22)) (m ((c.tc : Thread Cert.Kernel8Ideal.nD Cert.Kernel8Ideal.τ).loc Cert.Kernel8Ideal.main_arg23)) (m ((c.tc : Thread Cert.Kernel8Ideal.nD Cert.Kernel8Ideal.τ).loc Cert.Kernel8Ideal.main_arg24)) (m ((c.tc : Thread Cert.Kernel8Ideal.nD Cert.Kernel8Ideal.τ).loc Cert.Kernel8Ideal.main_arg25)) (m ((c.tc : Thread Cert.Kernel8Ideal.nD Cert.Kernel8Ideal.τ).loc Cert.Kernel8Ideal.main_arg26)) (m ((c.tc : Thread Cert.Kernel8Ideal.nD Cert.Kernel8Ideal.τ).loc Cert.Kernel8Ideal.main_arg27)) (m ((c.tc : Thread Cert.Kernel8Ideal.nD Cert.Kernel8Ideal.τ).loc Cert.Kernel8Ideal.main_arg28)) (m ((c.tc : Thread Cert.Kernel8Ideal.nD Cert.Kernel8Ideal.τ).loc Cert.Kernel8Ideal.main_arg29)) (m ((c.tc : Thread Cert.Kernel8Ideal.nD Cert.Kernel8Ideal.τ).loc Cert.Kernel8Ideal.main_arg30)) (m ((c.tc : Thread Cert.Kernel8Ideal.nD Cert.Kernel8Ideal.τ).loc Cert.Kernel8Ideal.main_arg31))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_device [hPre_device : Cert.Pre_device.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_device.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8)) (m ((c.tc : Thread Cert.Reference8Ideal.nD Cert.Reference8Ideal.τ).loc Cert.Reference8Ideal.main_arg9)) (m ((c.tc : Thread Cert.Reference8Ideal.nD Cert.Reference8Ideal.τ).loc Cert.Reference8Ideal.main_arg10)) (m ((c.tc : Thread Cert.Reference8Ideal.nD Cert.Reference8Ideal.τ).loc Cert.Reference8Ideal.main_arg11)) (m ((c.tc : Thread Cert.Reference8Ideal.nD Cert.Reference8Ideal.τ).loc Cert.Reference8Ideal.main_arg12)) (m ((c.tc : Thread Cert.Reference8Ideal.nD Cert.Reference8Ideal.τ).loc Cert.Reference8Ideal.main_arg13)) (m ((c.tc : Thread Cert.Reference8Ideal.nD Cert.Reference8Ideal.τ).loc Cert.Reference8Ideal.main_arg14)) (m ((c.tc : Thread Cert.Reference8Ideal.nD Cert.Reference8Ideal.τ).loc Cert.Reference8Ideal.main_arg15)) (m ((c.tc : Thread Cert.Reference8Ideal.nD Cert.Reference8Ideal.τ).loc Cert.Reference8Ideal.main_arg16)) (m ((c.tc : Thread Cert.Reference8Ideal.nD Cert.Reference8Ideal.τ).loc Cert.Reference8Ideal.main_arg17)) (m ((c.tc : Thread Cert.Reference8Ideal.nD Cert.Reference8Ideal.τ).loc Cert.Reference8Ideal.main_arg18)) (m ((c.tc : Thread Cert.Reference8Ideal.nD Cert.Reference8Ideal.τ).loc Cert.Reference8Ideal.main_arg19)) (m ((c.tc : Thread Cert.Reference8Ideal.nD Cert.Reference8Ideal.τ).loc Cert.Reference8Ideal.main_arg20)) (m ((c.tc : Thread Cert.Reference8Ideal.nD Cert.Reference8Ideal.τ).loc Cert.Reference8Ideal.main_arg21)) (m ((c.tc : Thread Cert.Reference8Ideal.nD Cert.Reference8Ideal.τ).loc Cert.Reference8Ideal.main_arg22)) (m ((c.tc : Thread Cert.Reference8Ideal.nD Cert.Reference8Ideal.τ).loc Cert.Reference8Ideal.main_arg23)) (m ((c.tc : Thread Cert.Reference8Ideal.nD Cert.Reference8Ideal.τ).loc Cert.Reference8Ideal.main_arg24)) (m ((c.tc : Thread Cert.Reference8Ideal.nD Cert.Reference8Ideal.τ).loc Cert.Reference8Ideal.main_arg25)) (m ((c.tc : Thread Cert.Reference8Ideal.nD Cert.Reference8Ideal.τ).loc Cert.Reference8Ideal.main_arg26)) (m ((c.tc : Thread Cert.Reference8Ideal.nD Cert.Reference8Ideal.τ).loc Cert.Reference8Ideal.main_arg27)) (m ((c.tc : Thread Cert.Reference8Ideal.nD Cert.Reference8Ideal.τ).loc Cert.Reference8Ideal.main_arg28)) (m ((c.tc : Thread Cert.Reference8Ideal.nD Cert.Reference8Ideal.τ).loc Cert.Reference8Ideal.main_arg29)) (m ((c.tc : Thread Cert.Reference8Ideal.nD Cert.Reference8Ideal.τ).loc Cert.Reference8Ideal.main_arg30)) (m ((c.tc : Thread Cert.Reference8Ideal.nD Cert.Reference8Ideal.τ).loc Cert.Reference8Ideal.main_arg31))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15)
      ∧ r.2.mem ((c.tc : Thread Cert.Kernel7.nD Cert.Kernel7.τ).loc Cert.Kernel7.main_arg16) = m ((c.tc : Thread Cert.Kernel7.nD Cert.Kernel7.τ).loc Cert.Kernel7.main_arg16)
      ∧ r.2.mem ((c.tc : Thread Cert.Kernel7.nD Cert.Kernel7.τ).loc Cert.Kernel7.main_arg17) = m ((c.tc : Thread Cert.Kernel7.nD Cert.Kernel7.τ).loc Cert.Kernel7.main_arg17)
      ∧ r.2.mem ((c.tc : Thread Cert.Kernel7.nD Cert.Kernel7.τ).loc Cert.Kernel7.main_arg18) = m ((c.tc : Thread Cert.Kernel7.nD Cert.Kernel7.τ).loc Cert.Kernel7.main_arg18))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
      ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
      ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
      ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15)
      ∧ r.2.mem ((c.tc : Thread Cert.Reference7Ideal.nD Cert.Reference7Ideal.τ).loc Cert.Reference7Ideal.main_arg16) = m ((c.tc : Thread Cert.Reference7Ideal.nD Cert.Reference7Ideal.τ).loc Cert.Reference7Ideal.main_arg16)
      ∧ r.2.mem ((c.tc : Thread Cert.Reference7Ideal.nD Cert.Reference7Ideal.τ).loc Cert.Reference7Ideal.main_arg17) = m ((c.tc : Thread Cert.Reference7Ideal.nD Cert.Reference7Ideal.τ).loc Cert.Reference7Ideal.main_arg17)
      ∧ r.2.mem ((c.tc : Thread Cert.Reference7Ideal.nD Cert.Reference7Ideal.τ).loc Cert.Reference7Ideal.main_arg18) = m ((c.tc : Thread Cert.Reference7Ideal.nD Cert.Reference7Ideal.τ).loc Cert.Reference7Ideal.main_arg18))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19)
      ∧ r.2.mem ((c.tc : Thread Cert.Kernel8.nD Cert.Kernel8.τ).loc Cert.Kernel8.main_arg20) = m ((c.tc : Thread Cert.Kernel8.nD Cert.Kernel8.τ).loc Cert.Kernel8.main_arg20)
      ∧ r.2.mem ((c.tc : Thread Cert.Kernel8.nD Cert.Kernel8.τ).loc Cert.Kernel8.main_arg21) = m ((c.tc : Thread Cert.Kernel8.nD Cert.Kernel8.τ).loc Cert.Kernel8.main_arg21)
      ∧ r.2.mem ((c.tc : Thread Cert.Kernel8.nD Cert.Kernel8.τ).loc Cert.Kernel8.main_arg22) = m ((c.tc : Thread Cert.Kernel8.nD Cert.Kernel8.τ).loc Cert.Kernel8.main_arg22)
      ∧ r.2.mem ((c.tc : Thread Cert.Kernel8.nD Cert.Kernel8.τ).loc Cert.Kernel8.main_arg23) = m ((c.tc : Thread Cert.Kernel8.nD Cert.Kernel8.τ).loc Cert.Kernel8.main_arg23)
      ∧ r.2.mem ((c.tc : Thread Cert.Kernel8.nD Cert.Kernel8.τ).loc Cert.Kernel8.main_arg24) = m ((c.tc : Thread Cert.Kernel8.nD Cert.Kernel8.τ).loc Cert.Kernel8.main_arg24)
      ∧ r.2.mem ((c.tc : Thread Cert.Kernel8.nD Cert.Kernel8.τ).loc Cert.Kernel8.main_arg25) = m ((c.tc : Thread Cert.Kernel8.nD Cert.Kernel8.τ).loc Cert.Kernel8.main_arg25)
      ∧ r.2.mem ((c.tc : Thread Cert.Kernel8.nD Cert.Kernel8.τ).loc Cert.Kernel8.main_arg26) = m ((c.tc : Thread Cert.Kernel8.nD Cert.Kernel8.τ).loc Cert.Kernel8.main_arg26)
      ∧ r.2.mem ((c.tc : Thread Cert.Kernel8.nD Cert.Kernel8.τ).loc Cert.Kernel8.main_arg27) = m ((c.tc : Thread Cert.Kernel8.nD Cert.Kernel8.τ).loc Cert.Kernel8.main_arg27)
      ∧ r.2.mem ((c.tc : Thread Cert.Kernel8.nD Cert.Kernel8.τ).loc Cert.Kernel8.main_arg28) = m ((c.tc : Thread Cert.Kernel8.nD Cert.Kernel8.τ).loc Cert.Kernel8.main_arg28)
      ∧ r.2.mem ((c.tc : Thread Cert.Kernel8.nD Cert.Kernel8.τ).loc Cert.Kernel8.main_arg29) = m ((c.tc : Thread Cert.Kernel8.nD Cert.Kernel8.τ).loc Cert.Kernel8.main_arg29)
      ∧ r.2.mem ((c.tc : Thread Cert.Kernel8.nD Cert.Kernel8.τ).loc Cert.Kernel8.main_arg30) = m ((c.tc : Thread Cert.Kernel8.nD Cert.Kernel8.τ).loc Cert.Kernel8.main_arg30)
      ∧ r.2.mem ((c.tc : Thread Cert.Kernel8.nD Cert.Kernel8.τ).loc Cert.Kernel8.main_arg31) = m ((c.tc : Thread Cert.Kernel8.nD Cert.Kernel8.τ).loc Cert.Kernel8.main_arg31))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
      ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
      ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
      ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
      ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
      ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
      ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
      ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
      ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
      ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
      ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
      ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
      ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31))
      ∧ r.2.sem = fun _ => 0)

def quiescent_Kernel8Ideal_pre_device [hKernel8Ideal : Cert.Kernel8Ideal.Facts] [hPre_device : Cert.Pre_device.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_device m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
      ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
      ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
      ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
      ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
      ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
      ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
      ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
      ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
      ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
      ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
      ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
      ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19)
      ∧ r.2.mem ((c.tc : Thread Cert.Reference8Ideal.nD Cert.Reference8Ideal.τ).loc Cert.Reference8Ideal.main_arg20) = m ((c.tc : Thread Cert.Reference8Ideal.nD Cert.Reference8Ideal.τ).loc Cert.Reference8Ideal.main_arg20)
      ∧ r.2.mem ((c.tc : Thread Cert.Reference8Ideal.nD Cert.Reference8Ideal.τ).loc Cert.Reference8Ideal.main_arg21) = m ((c.tc : Thread Cert.Reference8Ideal.nD Cert.Reference8Ideal.τ).loc Cert.Reference8Ideal.main_arg21)
      ∧ r.2.mem ((c.tc : Thread Cert.Reference8Ideal.nD Cert.Reference8Ideal.τ).loc Cert.Reference8Ideal.main_arg22) = m ((c.tc : Thread Cert.Reference8Ideal.nD Cert.Reference8Ideal.τ).loc Cert.Reference8Ideal.main_arg22)
      ∧ r.2.mem ((c.tc : Thread Cert.Reference8Ideal.nD Cert.Reference8Ideal.τ).loc Cert.Reference8Ideal.main_arg23) = m ((c.tc : Thread Cert.Reference8Ideal.nD Cert.Reference8Ideal.τ).loc Cert.Reference8Ideal.main_arg23)
      ∧ r.2.mem ((c.tc : Thread Cert.Reference8Ideal.nD Cert.Reference8Ideal.τ).loc Cert.Reference8Ideal.main_arg24) = m ((c.tc : Thread Cert.Reference8Ideal.nD Cert.Reference8Ideal.τ).loc Cert.Reference8Ideal.main_arg24)
      ∧ r.2.mem ((c.tc : Thread Cert.Reference8Ideal.nD Cert.Reference8Ideal.τ).loc Cert.Reference8Ideal.main_arg25) = m ((c.tc : Thread Cert.Reference8Ideal.nD Cert.Reference8Ideal.τ).loc Cert.Reference8Ideal.main_arg25)
      ∧ r.2.mem ((c.tc : Thread Cert.Reference8Ideal.nD Cert.Reference8Ideal.τ).loc Cert.Reference8Ideal.main_arg26) = m ((c.tc : Thread Cert.Reference8Ideal.nD Cert.Reference8Ideal.τ).loc Cert.Reference8Ideal.main_arg26)
      ∧ r.2.mem ((c.tc : Thread Cert.Reference8Ideal.nD Cert.Reference8Ideal.τ).loc Cert.Reference8Ideal.main_arg27) = m ((c.tc : Thread Cert.Reference8Ideal.nD Cert.Reference8Ideal.τ).loc Cert.Reference8Ideal.main_arg27)
      ∧ r.2.mem ((c.tc : Thread Cert.Reference8Ideal.nD Cert.Reference8Ideal.τ).loc Cert.Reference8Ideal.main_arg28) = m ((c.tc : Thread Cert.Reference8Ideal.nD Cert.Reference8Ideal.τ).loc Cert.Reference8Ideal.main_arg28)
      ∧ r.2.mem ((c.tc : Thread Cert.Reference8Ideal.nD Cert.Reference8Ideal.τ).loc Cert.Reference8Ideal.main_arg29) = m ((c.tc : Thread Cert.Reference8Ideal.nD Cert.Reference8Ideal.τ).loc Cert.Reference8Ideal.main_arg29)
      ∧ r.2.mem ((c.tc : Thread Cert.Reference8Ideal.nD Cert.Reference8Ideal.τ).loc Cert.Reference8Ideal.main_arg30) = m ((c.tc : Thread Cert.Reference8Ideal.nD Cert.Reference8Ideal.τ).loc Cert.Reference8Ideal.main_arg30)
      ∧ r.2.mem ((c.tc : Thread Cert.Reference8Ideal.nD Cert.Reference8Ideal.τ).loc Cert.Reference8Ideal.main_arg31) = m ((c.tc : Thread Cert.Reference8Ideal.nD Cert.Reference8Ideal.τ).loc Cert.Reference8Ideal.main_arg31))
      ∧ r.2.sem = fun _ => 0)

def quiescent_Reference8Ideal_pre_device [hReference8Ideal : Cert.Reference8Ideal.Facts] [hPre_device : Cert.Pre_device.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_device m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19)
      ∧ r.2.mem ((c.tc : Thread Cert.Reference8Ideal.nD Cert.Reference8Ideal.τ).loc Cert.Reference8Ideal.main_arg20) = m ((c.tc : Thread Cert.Reference8Ideal.nD Cert.Reference8Ideal.τ).loc Cert.Reference8Ideal.main_arg20)
      ∧ r.2.mem ((c.tc : Thread Cert.Reference8Ideal.nD Cert.Reference8Ideal.τ).loc Cert.Reference8Ideal.main_arg21) = m ((c.tc : Thread Cert.Reference8Ideal.nD Cert.Reference8Ideal.τ).loc Cert.Reference8Ideal.main_arg21)
      ∧ r.2.mem ((c.tc : Thread Cert.Reference8Ideal.nD Cert.Reference8Ideal.τ).loc Cert.Reference8Ideal.main_arg22) = m ((c.tc : Thread Cert.Reference8Ideal.nD Cert.Reference8Ideal.τ).loc Cert.Reference8Ideal.main_arg22)
      ∧ r.2.mem ((c.tc : Thread Cert.Reference8Ideal.nD Cert.Reference8Ideal.τ).loc Cert.Reference8Ideal.main_arg23) = m ((c.tc : Thread Cert.Reference8Ideal.nD Cert.Reference8Ideal.τ).loc Cert.Reference8Ideal.main_arg23)
      ∧ r.2.mem ((c.tc : Thread Cert.Reference8Ideal.nD Cert.Reference8Ideal.τ).loc Cert.Reference8Ideal.main_arg24) = m ((c.tc : Thread Cert.Reference8Ideal.nD Cert.Reference8Ideal.τ).loc Cert.Reference8Ideal.main_arg24)
      ∧ r.2.mem ((c.tc : Thread Cert.Reference8Ideal.nD Cert.Reference8Ideal.τ).loc Cert.Reference8Ideal.main_arg25) = m ((c.tc : Thread Cert.Reference8Ideal.nD Cert.Reference8Ideal.τ).loc Cert.Reference8Ideal.main_arg25)
      ∧ r.2.mem ((c.tc : Thread Cert.Reference8Ideal.nD Cert.Reference8Ideal.τ).loc Cert.Reference8Ideal.main_arg26) = m ((c.tc : Thread Cert.Reference8Ideal.nD Cert.Reference8Ideal.τ).loc Cert.Reference8Ideal.main_arg26)
      ∧ r.2.mem ((c.tc : Thread Cert.Reference8Ideal.nD Cert.Reference8Ideal.τ).loc Cert.Reference8Ideal.main_arg27) = m ((c.tc : Thread Cert.Reference8Ideal.nD Cert.Reference8Ideal.τ).loc Cert.Reference8Ideal.main_arg27)
      ∧ r.2.mem ((c.tc : Thread Cert.Reference8Ideal.nD Cert.Reference8Ideal.τ).loc Cert.Reference8Ideal.main_arg28) = m ((c.tc : Thread Cert.Reference8Ideal.nD Cert.Reference8Ideal.τ).loc Cert.Reference8Ideal.main_arg28)
      ∧ r.2.mem ((c.tc : Thread Cert.Reference8Ideal.nD Cert.Reference8Ideal.τ).loc Cert.Reference8Ideal.main_arg29) = m ((c.tc : Thread Cert.Reference8Ideal.nD Cert.Reference8Ideal.τ).loc Cert.Reference8Ideal.main_arg29)
      ∧ r.2.mem ((c.tc : Thread Cert.Reference8Ideal.nD Cert.Reference8Ideal.τ).loc Cert.Reference8Ideal.main_arg30) = m ((c.tc : Thread Cert.Reference8Ideal.nD Cert.Reference8Ideal.τ).loc Cert.Reference8Ideal.main_arg30)
      ∧ r.2.mem ((c.tc : Thread Cert.Reference8Ideal.nD Cert.Reference8Ideal.τ).loc Cert.Reference8Ideal.main_arg31) = m ((c.tc : Thread Cert.Reference8Ideal.nD Cert.Reference8Ideal.τ).loc Cert.Reference8Ideal.main_arg31))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v3_0)) (v1 : (c : Dev Cert.Kernel5Ideal.nD) → Buf (Elt Ideal) ((c.tc : Thread Cert.Kernel5Ideal.nD Cert.Kernel5Ideal.τ).loc Cert.Kernel5Ideal.main_v3_1)) (v2 : (c : Dev Cert.Kernel5Ideal.nD) → Buf (Elt Ideal) ((c.tc : Thread Cert.Kernel5Ideal.nD Cert.Kernel5Ideal.τ).loc Cert.Kernel5Ideal.main_v3_2)) (v3 : (c : Dev Cert.Kernel5Ideal.nD) → Buf (Elt Ideal) ((c.tc : Thread Cert.Kernel5Ideal.nD Cert.Kernel5Ideal.τ).loc Cert.Kernel5Ideal.main_v3_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3_0) = v0 c
          ∧ r.2.mem ((c.tc : Thread Cert.Kernel5Ideal.nD Cert.Kernel5Ideal.τ).loc Cert.Kernel5Ideal.main_v3_1) = v1 c
          ∧ r.2.mem ((c.tc : Thread Cert.Kernel5Ideal.nD Cert.Kernel5Ideal.τ).loc Cert.Kernel5Ideal.main_v3_2) = v2 c
          ∧ r.2.mem ((c.tc : Thread Cert.Kernel5Ideal.nD Cert.Kernel5Ideal.τ).loc Cert.Kernel5Ideal.main_v3_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v29) = v2 c
          ∧ r.2.mem ((c.tc : Thread Cert.Reference5Ideal.nD Cert.Reference5Ideal.τ).loc Cert.Reference5Ideal.main_v30) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)) (v5 : (c : Dev Cert.Kernel6Ideal.nD) → Buf (Elt Ideal) ((c.tc : Thread Cert.Kernel6Ideal.nD Cert.Kernel6Ideal.τ).loc Cert.Kernel6Ideal.main_v0_5)) (v6 : (c : Dev Cert.Kernel6Ideal.nD) → Buf (Elt Ideal) ((c.tc : Thread Cert.Kernel6Ideal.nD Cert.Kernel6Ideal.τ).loc Cert.Kernel6Ideal.main_v0_6)) (v7 : (c : Dev Cert.Kernel6Ideal.nD) → Buf (Elt Ideal) ((c.tc : Thread Cert.Kernel6Ideal.nD Cert.Kernel6Ideal.τ).loc Cert.Kernel6Ideal.main_v0_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_v0_5) = v5 c
          ∧ r.2.mem ((c.tc : Thread Cert.Kernel6Ideal.nD Cert.Kernel6Ideal.τ).loc Cert.Kernel6Ideal.main_v0_6) = v6 c
          ∧ r.2.mem ((c.tc : Thread Cert.Kernel6Ideal.nD Cert.Kernel6Ideal.τ).loc Cert.Kernel6Ideal.main_v0_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v58) = v0 c
          ∧ r.2.mem ((c.tc : Thread Cert.Reference6Ideal.nD Cert.Reference6Ideal.τ).loc Cert.Reference6Ideal.main_v59) = v1 c
          ∧ r.2.mem ((c.tc : Thread Cert.Reference6Ideal.nD Cert.Reference6Ideal.τ).loc Cert.Reference6Ideal.main_v60) = v2 c
          ∧ r.2.mem ((c.tc : Thread Cert.Reference6Ideal.nD Cert.Reference6Ideal.τ).loc Cert.Reference6Ideal.main_v61) = v3 c
          ∧ r.2.mem ((c.tc : Thread Cert.Reference6Ideal.nD Cert.Reference6Ideal.τ).loc Cert.Reference6Ideal.main_v62) = v4 c
          ∧ r.2.mem ((c.tc : Thread Cert.Reference6Ideal.nD Cert.Reference6Ideal.τ).loc Cert.Reference6Ideal.main_v66) = v5 c
          ∧ r.2.mem ((c.tc : Thread Cert.Reference6Ideal.nD Cert.Reference6Ideal.τ).loc Cert.Reference6Ideal.main_v57) = v6 c
          ∧ r.2.mem ((c.tc : Thread Cert.Reference6Ideal.nD Cert.Reference6Ideal.τ).loc Cert.Reference6Ideal.main_v53) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)
      ∧ m' ((c.tc : Thread Cert.Reference7Ideal.nD Cert.Reference7Ideal.τ).loc Cert.Reference7Ideal.main_arg16) = m ((c.tc : Thread Cert.Kernel7Ideal.nD Cert.Kernel7Ideal.τ).loc Cert.Kernel7Ideal.main_arg16)
      ∧ m' ((c.tc : Thread Cert.Reference7Ideal.nD Cert.Reference7Ideal.τ).loc Cert.Reference7Ideal.main_arg17) = m ((c.tc : Thread Cert.Kernel7Ideal.nD Cert.Kernel7Ideal.τ).loc Cert.Kernel7Ideal.main_arg17)
      ∧ m' ((c.tc : Thread Cert.Reference7Ideal.nD Cert.Reference7Ideal.τ).loc Cert.Reference7Ideal.main_arg18) = m ((c.tc : Thread Cert.Kernel7Ideal.nD Cert.Kernel7Ideal.τ).loc Cert.Kernel7Ideal.main_arg18)) →
    ∃ (v0 : (c : Dev Cert.Kernel7Ideal.nD) → Buf (Elt Ideal) ((c.tc : Thread Cert.Kernel7Ideal.nD Cert.Kernel7Ideal.τ).loc Cert.Kernel7Ideal.main_v183_0)) (v1 : (c : Dev Cert.Kernel7Ideal.nD) → Buf (Elt Ideal) ((c.tc : Thread Cert.Kernel7Ideal.nD Cert.Kernel7Ideal.τ).loc Cert.Kernel7Ideal.main_v183_1)) (v2 : (c : Dev Cert.Kernel7Ideal.nD) → Buf (Elt Ideal) ((c.tc : Thread Cert.Kernel7Ideal.nD Cert.Kernel7Ideal.τ).loc Cert.Kernel7Ideal.main_v183_2)) (v3 : (c : Dev Cert.Kernel7Ideal.nD) → Buf (Elt Ideal) ((c.tc : Thread Cert.Kernel7Ideal.nD Cert.Kernel7Ideal.τ).loc Cert.Kernel7Ideal.main_v183_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v183_0) = v0 c
          ∧ r.2.mem ((c.tc : Thread Cert.Kernel7Ideal.nD Cert.Kernel7Ideal.τ).loc Cert.Kernel7Ideal.main_v183_1) = v1 c
          ∧ r.2.mem ((c.tc : Thread Cert.Kernel7Ideal.nD Cert.Kernel7Ideal.τ).loc Cert.Kernel7Ideal.main_v183_2) = v2 c
          ∧ r.2.mem ((c.tc : Thread Cert.Kernel7Ideal.nD Cert.Kernel7Ideal.τ).loc Cert.Kernel7Ideal.main_v183_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15)
          ∧ r.2.mem ((c.tc : Thread Cert.Kernel7Ideal.nD Cert.Kernel7Ideal.τ).loc Cert.Kernel7Ideal.main_arg16) = m ((c.tc : Thread Cert.Kernel7Ideal.nD Cert.Kernel7Ideal.τ).loc Cert.Kernel7Ideal.main_arg16)
          ∧ r.2.mem ((c.tc : Thread Cert.Kernel7Ideal.nD Cert.Kernel7Ideal.τ).loc Cert.Kernel7Ideal.main_arg17) = m ((c.tc : Thread Cert.Kernel7Ideal.nD Cert.Kernel7Ideal.τ).loc Cert.Kernel7Ideal.main_arg17)
          ∧ r.2.mem ((c.tc : Thread Cert.Kernel7Ideal.nD Cert.Kernel7Ideal.τ).loc Cert.Kernel7Ideal.main_arg18) = m ((c.tc : Thread Cert.Kernel7Ideal.nD Cert.Kernel7Ideal.τ).loc Cert.Kernel7Ideal.main_arg18))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v184) = v0 c
          ∧ r.2.mem ((c.tc : Thread Cert.Reference7Ideal.nD Cert.Reference7Ideal.τ).loc Cert.Reference7Ideal.main_v208) = v1 c
          ∧ r.2.mem ((c.tc : Thread Cert.Reference7Ideal.nD Cert.Reference7Ideal.τ).loc Cert.Reference7Ideal.main_v189) = v2 c
          ∧ r.2.mem ((c.tc : Thread Cert.Reference7Ideal.nD Cert.Reference7Ideal.τ).loc Cert.Reference7Ideal.main_v195) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15)
          ∧ r.2.mem ((c.tc : Thread Cert.Reference7Ideal.nD Cert.Reference7Ideal.τ).loc Cert.Reference7Ideal.main_arg16) = m' ((c.tc : Thread Cert.Reference7Ideal.nD Cert.Reference7Ideal.τ).loc Cert.Reference7Ideal.main_arg16)
          ∧ r.2.mem ((c.tc : Thread Cert.Reference7Ideal.nD Cert.Reference7Ideal.τ).loc Cert.Reference7Ideal.main_arg17) = m' ((c.tc : Thread Cert.Reference7Ideal.nD Cert.Reference7Ideal.τ).loc Cert.Reference7Ideal.main_arg17)
          ∧ r.2.mem ((c.tc : Thread Cert.Reference7Ideal.nD Cert.Reference7Ideal.τ).loc Cert.Reference7Ideal.main_arg18) = m' ((c.tc : Thread Cert.Reference7Ideal.nD Cert.Reference7Ideal.τ).loc Cert.Reference7Ideal.main_arg18))

def preserves_Kernel8_Kernel8Ideal : Prop :=
  True

def algebraic_Kernel8Ideal_Reference8Ideal_pre_device [hKernel8Ideal : Cert.Kernel8Ideal.Facts] [hReference8Ideal : Cert.Reference8Ideal.Facts] [hPre_device : Cert.Pre_device.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_device m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)
      ∧ m' ((c.tc : Thread Cert.Reference8Ideal.nD Cert.Reference8Ideal.τ).loc Cert.Reference8Ideal.main_arg20) = m ((c.tc : Thread Cert.Kernel8Ideal.nD Cert.Kernel8Ideal.τ).loc Cert.Kernel8Ideal.main_arg20)
      ∧ m' ((c.tc : Thread Cert.Reference8Ideal.nD Cert.Reference8Ideal.τ).loc Cert.Reference8Ideal.main_arg21) = m ((c.tc : Thread Cert.Kernel8Ideal.nD Cert.Kernel8Ideal.τ).loc Cert.Kernel8Ideal.main_arg21)
      ∧ m' ((c.tc : Thread Cert.Reference8Ideal.nD Cert.Reference8Ideal.τ).loc Cert.Reference8Ideal.main_arg22) = m ((c.tc : Thread Cert.Kernel8Ideal.nD Cert.Kernel8Ideal.τ).loc Cert.Kernel8Ideal.main_arg22)
      ∧ m' ((c.tc : Thread Cert.Reference8Ideal.nD Cert.Reference8Ideal.τ).loc Cert.Reference8Ideal.main_arg23) = m ((c.tc : Thread Cert.Kernel8Ideal.nD Cert.Kernel8Ideal.τ).loc Cert.Kernel8Ideal.main_arg23)
      ∧ m' ((c.tc : Thread Cert.Reference8Ideal.nD Cert.Reference8Ideal.τ).loc Cert.Reference8Ideal.main_arg24) = m ((c.tc : Thread Cert.Kernel8Ideal.nD Cert.Kernel8Ideal.τ).loc Cert.Kernel8Ideal.main_arg24)
      ∧ m' ((c.tc : Thread Cert.Reference8Ideal.nD Cert.Reference8Ideal.τ).loc Cert.Reference8Ideal.main_arg25) = m ((c.tc : Thread Cert.Kernel8Ideal.nD Cert.Kernel8Ideal.τ).loc Cert.Kernel8Ideal.main_arg25)
      ∧ m' ((c.tc : Thread Cert.Reference8Ideal.nD Cert.Reference8Ideal.τ).loc Cert.Reference8Ideal.main_arg26) = m ((c.tc : Thread Cert.Kernel8Ideal.nD Cert.Kernel8Ideal.τ).loc Cert.Kernel8Ideal.main_arg26)
      ∧ m' ((c.tc : Thread Cert.Reference8Ideal.nD Cert.Reference8Ideal.τ).loc Cert.Reference8Ideal.main_arg27) = m ((c.tc : Thread Cert.Kernel8Ideal.nD Cert.Kernel8Ideal.τ).loc Cert.Kernel8Ideal.main_arg27)
      ∧ m' ((c.tc : Thread Cert.Reference8Ideal.nD Cert.Reference8Ideal.τ).loc Cert.Reference8Ideal.main_arg28) = m ((c.tc : Thread Cert.Kernel8Ideal.nD Cert.Kernel8Ideal.τ).loc Cert.Kernel8Ideal.main_arg28)
      ∧ m' ((c.tc : Thread Cert.Reference8Ideal.nD Cert.Reference8Ideal.τ).loc Cert.Reference8Ideal.main_arg29) = m ((c.tc : Thread Cert.Kernel8Ideal.nD Cert.Kernel8Ideal.τ).loc Cert.Kernel8Ideal.main_arg29)
      ∧ m' ((c.tc : Thread Cert.Reference8Ideal.nD Cert.Reference8Ideal.τ).loc Cert.Reference8Ideal.main_arg30) = m ((c.tc : Thread Cert.Kernel8Ideal.nD Cert.Kernel8Ideal.τ).loc Cert.Kernel8Ideal.main_arg30)
      ∧ m' ((c.tc : Thread Cert.Reference8Ideal.nD Cert.Reference8Ideal.τ).loc Cert.Reference8Ideal.main_arg31) = m ((c.tc : Thread Cert.Kernel8Ideal.nD Cert.Kernel8Ideal.τ).loc Cert.Kernel8Ideal.main_arg31)) →
    ∃ (v0 : (c : Dev Cert.Kernel8Ideal.nD) → Buf (Elt Ideal) ((c.tc : Thread Cert.Kernel8Ideal.nD Cert.Kernel8Ideal.τ).loc Cert.Kernel8Ideal.main_v69_0)) (v1 : (c : Dev Cert.Kernel8Ideal.nD) → Buf (Elt Ideal) ((c.tc : Thread Cert.Kernel8Ideal.nD Cert.Kernel8Ideal.τ).loc Cert.Kernel8Ideal.main_v69_1)) (v2 : (c : Dev Cert.Kernel8Ideal.nD) → Buf (Elt Ideal) ((c.tc : Thread Cert.Kernel8Ideal.nD Cert.Kernel8Ideal.τ).loc Cert.Kernel8Ideal.main_v69_2)) (v3 : (c : Dev Cert.Kernel8Ideal.nD) → Buf (Elt Ideal) ((c.tc : Thread Cert.Kernel8Ideal.nD Cert.Kernel8Ideal.τ).loc Cert.Kernel8Ideal.main_v69_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v69_0) = v0 c
          ∧ r.2.mem ((c.tc : Thread Cert.Kernel8Ideal.nD Cert.Kernel8Ideal.τ).loc Cert.Kernel8Ideal.main_v69_1) = v1 c
          ∧ r.2.mem ((c.tc : Thread Cert.Kernel8Ideal.nD Cert.Kernel8Ideal.τ).loc Cert.Kernel8Ideal.main_v69_2) = v2 c
          ∧ r.2.mem ((c.tc : Thread Cert.Kernel8Ideal.nD Cert.Kernel8Ideal.τ).loc Cert.Kernel8Ideal.main_v69_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
          ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
          ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
          ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
          ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
          ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
          ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
          ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
          ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
          ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
          ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
          ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
          ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v55) = v0 c
          ∧ r.2.mem ((c.tc : Thread Cert.Reference8Ideal.nD Cert.Reference8Ideal.τ).loc Cert.Reference8Ideal.main_v79) = v1 c
          ∧ r.2.mem ((c.tc : Thread Cert.Reference8Ideal.nD Cert.Reference8Ideal.τ).loc Cert.Reference8Ideal.main_v60) = v2 c
          ∧ r.2.mem ((c.tc : Thread Cert.Reference8Ideal.nD Cert.Reference8Ideal.τ).loc Cert.Reference8Ideal.main_v66) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19)
          ∧ r.2.mem ((c.tc : Thread Cert.Reference8Ideal.nD Cert.Reference8Ideal.τ).loc Cert.Reference8Ideal.main_arg20) = m' ((c.tc : Thread Cert.Reference8Ideal.nD Cert.Reference8Ideal.τ).loc Cert.Reference8Ideal.main_arg20)
          ∧ r.2.mem ((c.tc : Thread Cert.Reference8Ideal.nD Cert.Reference8Ideal.τ).loc Cert.Reference8Ideal.main_arg21) = m' ((c.tc : Thread Cert.Reference8Ideal.nD Cert.Reference8Ideal.τ).loc Cert.Reference8Ideal.main_arg21)
          ∧ r.2.mem ((c.tc : Thread Cert.Reference8Ideal.nD Cert.Reference8Ideal.τ).loc Cert.Reference8Ideal.main_arg22) = m' ((c.tc : Thread Cert.Reference8Ideal.nD Cert.Reference8Ideal.τ).loc Cert.Reference8Ideal.main_arg22)
          ∧ r.2.mem ((c.tc : Thread Cert.Reference8Ideal.nD Cert.Reference8Ideal.τ).loc Cert.Reference8Ideal.main_arg23) = m' ((c.tc : Thread Cert.Reference8Ideal.nD Cert.Reference8Ideal.τ).loc Cert.Reference8Ideal.main_arg23)
          ∧ r.2.mem ((c.tc : Thread Cert.Reference8Ideal.nD Cert.Reference8Ideal.τ).loc Cert.Reference8Ideal.main_arg24) = m' ((c.tc : Thread Cert.Reference8Ideal.nD Cert.Reference8Ideal.τ).loc Cert.Reference8Ideal.main_arg24)
          ∧ r.2.mem ((c.tc : Thread Cert.Reference8Ideal.nD Cert.Reference8Ideal.τ).loc Cert.Reference8Ideal.main_arg25) = m' ((c.tc : Thread Cert.Reference8Ideal.nD Cert.Reference8Ideal.τ).loc Cert.Reference8Ideal.main_arg25)
          ∧ r.2.mem ((c.tc : Thread Cert.Reference8Ideal.nD Cert.Reference8Ideal.τ).loc Cert.Reference8Ideal.main_arg26) = m' ((c.tc : Thread Cert.Reference8Ideal.nD Cert.Reference8Ideal.τ).loc Cert.Reference8Ideal.main_arg26)
          ∧ r.2.mem ((c.tc : Thread Cert.Reference8Ideal.nD Cert.Reference8Ideal.τ).loc Cert.Reference8Ideal.main_arg27) = m' ((c.tc : Thread Cert.Reference8Ideal.nD Cert.Reference8Ideal.τ).loc Cert.Reference8Ideal.main_arg27)
          ∧ r.2.mem ((c.tc : Thread Cert.Reference8Ideal.nD Cert.Reference8Ideal.τ).loc Cert.Reference8Ideal.main_arg28) = m' ((c.tc : Thread Cert.Reference8Ideal.nD Cert.Reference8Ideal.τ).loc Cert.Reference8Ideal.main_arg28)
          ∧ r.2.mem ((c.tc : Thread Cert.Reference8Ideal.nD Cert.Reference8Ideal.τ).loc Cert.Reference8Ideal.main_arg29) = m' ((c.tc : Thread Cert.Reference8Ideal.nD Cert.Reference8Ideal.τ).loc Cert.Reference8Ideal.main_arg29)
          ∧ r.2.mem ((c.tc : Thread Cert.Reference8Ideal.nD Cert.Reference8Ideal.τ).loc Cert.Reference8Ideal.main_arg30) = m' ((c.tc : Thread Cert.Reference8Ideal.nD Cert.Reference8Ideal.τ).loc Cert.Reference8Ideal.main_arg30)
          ∧ r.2.mem ((c.tc : Thread Cert.Reference8Ideal.nD Cert.Reference8Ideal.τ).loc Cert.Reference8Ideal.main_arg31) = m' ((c.tc : Thread Cert.Reference8Ideal.nD Cert.Reference8Ideal.τ).loc Cert.Reference8Ideal.main_arg31))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_v20) = v1 c
          ∧ r.2.mem ((c.tc : Thread Cert.Reference10Ideal.nD Cert.Reference10Ideal.τ).loc Cert.Reference10Ideal.main_v23) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v28) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_device : Cert.Pre_device.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_device (hKernel8Ideal := hKernel8Ideal) (hPre_device := hPre_device)
    ∧ quiescent_Reference8Ideal (hReference8Ideal := hReference8Ideal)
    ∧ quiescent_Reference8Ideal_pre_device (hReference8Ideal := hReference8Ideal) (hPre_device := hPre_device)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_device (hKernel8Ideal := hKernel8Ideal) (hReference8Ideal := hReference8Ideal) (hPre_device := hPre_device)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_device.lean ====
abbrev S4x8 : Shape := ⟨2, ![4, 8]⟩
abbrev S4x512 : Shape := ⟨2, ![4, 512]⟩
abbrev S1024 : Shape := ⟨1, ![1024]⟩
abbrev S4x1024 : Shape := ⟨2, ![4, 1024]⟩
abbrev S4x31x64 : Shape := ⟨3, ![4, 31, 64]⟩
abbrev S4x3x64 : Shape := ⟨3, ![4, 3, 64]⟩
abbrev S8x680x128 : Shape := ⟨3, ![8, 680, 128]⟩
abbrev S_ : Shape := ⟨0, ![]⟩

class Facts : Prop where

variable [Facts]

def fn {F : FTy → Type} [FloatOps F] (main_arg0 : FVec F S4x8 .f32) (main_arg1 : FVec F S4x512 .f32) (main_arg2 : FVec F S4x512 .f32) (main_arg3 : FVec F S4x512 .f32) (main_arg4 : FVec F S1024 .f32) (main_arg5 : FVec F S1024 .f32) (main_arg6 : FVec F S4x1024 .f32) (main_arg7 : FVec F S4x1024 .f32) (main_arg8 : FVec F S4x31x64 .f32) (main_arg9 : FVec F S4x3x64 .f32) (main_arg10 : FVec F S4x8 .f32) (main_arg11 : FVec F S4x512 .f32) (main_arg12 : FVec F S4x512 .f32) (main_arg13 : FVec F S4x512 .f32) (main_arg14 : FVec F S1024 .f32) (main_arg15 : FVec F S1024 .f32) (main_arg16 : FVec F S4x1024 .f32) (main_arg17 : FVec F S4x1024 .f32) (main_arg18 : FVec F S4x31x64 .f32) (main_arg19 : FVec F S4x3x64 .f32) (main_arg20 : FVec F S4x8 .f32) (main_arg21 : FVec F S4x512 .f32) (main_arg22 : FVec F S4x512 .f32) (main_arg23 : FVec F S4x512 .f32) (main_arg24 : FVec F S1024 .f32) (main_arg25 : FVec F S1024 .f32) (main_arg26 : FVec F S4x1024 .f32) (main_arg27 : FVec F S4x1024 .f32) (main_arg28 : FVec F S4x31x64 .f32) (main_arg29 : FVec F S4x3x64 .f32) (main_arg30 : FVec F S8x680x128 .f32) (main_arg31 : IVec S_ 32) : IVec S_ 1 :=
  let main_c : IVec S_ 32 := constantI S_ 32 0#32
  let main_v0 : IVec S_ 1 := cmpi .sge main_arg31 main_c
  let main_c_0 : IVec S_ 32 := constantI S_ 32 8#32
  let main_v1 : IVec S_ 1 := cmpi .slt main_arg31 main_c_0
  let main_v2 : IVec S_ 1 := andi main_v0 main_v1
  main_v2
-- ==== Pre_finite.lean ====
abbrev S8192x8704 : Shape := ⟨2, ![8192, 8704]⟩
abbrev S8192x256 : Shape := ⟨2, ![8192, 256]⟩
abbrev S8192x1152 : Shape := ⟨2, ![8192, 1152]⟩
abbrev S256x512 : Shape := ⟨2, ![256, 512]⟩
abbrev S8192x10368 : Shape := ⟨2, ![8192, 10368]⟩
abbrev S256x256 : Shape := ⟨2, ![256, 256]⟩
abbrev S25088x256 : Shape := ⟨2, ![25088, 256]⟩
abbrev S_ : Shape := ⟨0, ![]⟩

class Facts : Prop where
  slices_S256x512_S256x256_0_0 : S256x512.Slices ![0, 0] S256x256
  slices_S256x512_S256x256_0_256 : S256x512.Slices ![0, 256] S256x256
  concatenates_S8192x256_S8192x256_S8192x256_S256x256_S256x256_S25088x256_d0 : Shape.Concatenates [S8192x256, S8192x256, S8192x256, S256x256, S256x256] S25088x256 0
  bcast_S_S25088x256 : S_.BroadcastsInDim S25088x256 (![] : Fin 0 → Fin S25088x256.rank)

variable [Facts]

def fn {F : FTy → Type} [FloatOps F] (main_arg0 : FVec F S8192x8704 .f32) (main_arg1 : FVec F S8192x256 .f32) (main_arg2 : FVec F S8192x256 .f32) (main_arg3 : FVec F S8192x1152 .f32) (main_arg4 : FVec F S256x512 .f32) (main_arg5 : FVec F S8192x256 .f32) (main_arg6 : FVec F S8192x10368 .bf16) : IVec S25088x256 1 :=
  let main_v0 : FVec F S256x256 .f32 := (extractStridedSlice S256x256 ![0, 0] · slices_S256x512_S256x256_0_0) main_arg4
  let main_v1 : FVec F S256x256 .f32 := (extractStridedSlice S256x256 ![0, 256] · slices_S256x512_S256x256_0_256) main_arg4
  let main_v2 : FVec F S25088x256 .f32 := concatenate S25088x256 0 [⟨S8192x256, main_arg1⟩, ⟨S8192x256, main_arg2⟩, ⟨S8192x256, main_arg5⟩, ⟨S256x256, main_v0⟩, ⟨S256x256, main_v1⟩] concatenates_S8192x256_S8192x256_S8192x256_S256x256_S256x256_S25088x256_d0
  let main_v3 : FVec F S25088x256 .f32 := Host.absf main_v2
  let main_cst : FVec F S_ .f32 := constant S_ .f32 0x7F800000#32
  let main_v4 : FVec F S25088x256 .f32 := broadcastInDim S25088x256 ![] bcast_S_S25088x256 main_cst
  let main_v5 : IVec S25088x256 1 := cmpf .olt main_v3 main_v4
  main_v5
-- ==== Kernel.lean ====
abbrev S8192x8704 : Shape := ⟨2, ![8192, 8704]⟩
abbrev S8192x256 : Shape := ⟨2, ![8192, 256]⟩
abbrev S8192x1152 : Shape := ⟨2, ![8192, 1152]⟩
abbrev S256x512 : Shape := ⟨2, ![256, 512]⟩
abbrev S8192x10368 : Shape := ⟨2, ![8192, 10368]⟩
abbrev S512x512 : Shape := ⟨2, ![512, 512]⟩
abbrev S512x256 : Shape := ⟨2, ![512, 256]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x8704, .f32⟩
  | .hbm, ⟨1, _⟩ => ⟨S8192x256, .f32⟩
  | .hbm, ⟨2, _⟩ => ⟨S8192x256, .f32⟩
  | .hbm, ⟨3, _⟩ => ⟨S8192x1152, .f32⟩
  | .hbm, ⟨4, _⟩ => ⟨S256x512, .f32⟩
  | .hbm, ⟨5, _⟩ => ⟨S8192x256, .f32⟩
  | .hbm, ⟨6, _⟩ => ⟨S8192x10368, .bf16⟩
  | .hbm, ⟨7, _⟩ => ⟨S8192x10368, .f32⟩
  | .hbm, ⟨8, _⟩ => ⟨S8192x10368, .bf16⟩
  | .hbm, ⟨9, _⟩ => ⟨S256x512, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S512x256, .f32⟩
  | .local _ .vmem, ⟨4, _⟩ => ⟨S512x256, .f32⟩
  | .local _ .vmem, ⟨5, _⟩ => ⟨S512x512, .bf16⟩
  | .local _ .vmem, ⟨6, _⟩ => ⟨S512x512, .bf16⟩
  | .local _ .vmem, ⟨7, _⟩ => ⟨S256x512, .f32⟩
  | _, _ => ⟨S8192x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x8704 : Shape := ⟨2, ![8192, 8704]⟩
abbrev S8192x256 : Shape := ⟨2, ![8192, 256]⟩
abbrev S8192x1152 : Shape := ⟨2, ![8192, 1152]⟩
abbrev S256x512 : Shape := ⟨2, ![256, 512]⟩
abbrev S8192x10368 : Shape := ⟨2, ![8192, 10368]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩

abbrev nBuf : Space → Nat
  | .hbm => 112
  | .vmem => 0
  | .smem => 0
  | _ => 0

abbrev bufTy : (tb : Table) → Fin (tcTables nBuf tb) → BufTy
  | .hbm, ⟨0, _⟩ => ⟨S8192x8704, .f32⟩
  | .hbm, ⟨1, _⟩ => ⟨S8192x256, .f32⟩
  | .hbm, ⟨2, _⟩ => ⟨S8192x256, .f32⟩
  | .hbm, ⟨3, _⟩ => ⟨S8192x1152, .f32⟩
  | .hbm, ⟨4, _⟩ => ⟨S256x512, .f32⟩
  | .hbm, ⟨5, _⟩ => ⟨S8192x256, .f32⟩
  | .hbm, ⟨6, _⟩ => ⟨S8192x10368, .bf16⟩
  | .hbm, ⟨7, _⟩ => ⟨S256x256, .f32⟩
  | .hbm, ⟨8, _⟩ => ⟨S256x256, .f32⟩
  | .hbm, ⟨9, _⟩ => ⟨S8192x4x64, .f32⟩
  | .hbm, ⟨10, _⟩ => ⟨S256x4x64, .f32⟩
  | .hbm, ⟨11, _⟩ => ⟨S256x4x64, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .i1⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S4x8192, .i1⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x64x8192, .f32⟩
  | .hbm, ⟨55, _⟩ => ⟨S8192x4x64, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S_, .f32⟩
  | .hbm, ⟨60, _⟩ => ⟨S8192x256, .f32⟩
  | .hbm, ⟨61, _⟩ => ⟨S8192x256, .f32⟩
  | .hbm, ⟨62, _⟩ => ⟨S_, .f32⟩
  | .hbm, ⟨63, _⟩ => ⟨S8192x256, .f32⟩
  | .hbm, ⟨64, _⟩ => ⟨S8192x256, .f32⟩
  | .hbm, ⟨65, _⟩ => ⟨S_, .f32⟩
  | .hbm, ⟨66, _⟩ => ⟨S8192x256, .f32⟩
  | .hbm, ⟨67, _⟩ => ⟨S8192x256, .f32⟩
  | .hbm, ⟨68, _⟩ => ⟨S8192x256, .f32⟩
  | .hbm, ⟨69, _⟩ => ⟨S8192x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S8192x4x64, .f32⟩
  | .hbm, ⟨78, _⟩ => ⟨S4x64x8192, .f32⟩
  | .hbm, ⟨79, _⟩ => ⟨S4x8192x256, .f32⟩
  | .hbm, ⟨80, _⟩ => ⟨S4x64x256, .f32⟩
  | .hbm, ⟨81, _⟩ => ⟨S256x4x64, .f32⟩
  | .hbm, ⟨82, _⟩ => ⟨S4x8192x256, .f32⟩
  | .hbm, ⟨83, _⟩ => ⟨S4x8192x256, .f32⟩
  | .hbm, ⟨84, _⟩ => ⟨S4x8192x256, .f32⟩
  | .hbm, ⟨85, _⟩ => ⟨S_, .f32⟩
  | .hbm, ⟨86, _⟩ => ⟨S4x8192, .f32⟩
  | .hbm, ⟨87, _⟩ => ⟨S4x8192x1, .f32⟩
  | .hbm, ⟨88, _⟩ => ⟨S4x8192x1, .f32⟩
  | .hbm, ⟨89, _⟩ => ⟨S4x8192x256, .f32⟩
  | .hbm, ⟨90, _⟩ => ⟨S4x8192x256, .f32⟩
  | .hbm, ⟨91, _⟩ => ⟨S_, .f32⟩
  | .hbm, ⟨92, _⟩ => ⟨S4x8192, .f32⟩
  | .hbm, ⟨93, _⟩ => ⟨S4x8192x256, .f32⟩
  | .hbm, ⟨94, _⟩ => ⟨S4x8192x256, .f32⟩
  | .hbm, ⟨95, _⟩ => ⟨S4x8192x256, .f32⟩
  | .hbm, ⟨96, _⟩ => ⟨S_, .f32⟩
  | .hbm, ⟨97, _⟩ => ⟨S4x8192x256, .f32⟩
  | .hbm, ⟨98, _⟩ => ⟨S4x8192x256, .f32⟩
  | .hbm, ⟨99, _⟩ => ⟨S4x256x64, .f32⟩
  | .hbm, ⟨100, _⟩ => ⟨S256x4x64, .f32⟩
  | .hbm, ⟨101, _⟩ => ⟨S4x8192x64, .f32⟩
  | .hbm, ⟨102, _⟩ => ⟨S8192x4x64, .f32⟩
  | .hbm, ⟨103, _⟩ => ⟨S256x256, .f32⟩
  | .hbm, ⟨104, _⟩ => ⟨S256x256, .f32⟩
  | .hbm, ⟨105, _⟩ => ⟨S8192x256, .f32⟩
  | .hbm, ⟨106, _⟩ => ⟨S256x512, .f32⟩
  | .hbm, ⟨107, _⟩ => ⟨S8192x8704, .bf16⟩
  | .hbm, ⟨108, _⟩ => ⟨S8192x1152, .bf16⟩
  | .hbm, ⟨109, _⟩ => ⟨S8192x256, .bf16⟩
  | .hbm, ⟨110, _⟩ => ⟨S8192x256, .bf16⟩
  | .hbm, ⟨111, _⟩ => ⟨S8192x10368, .bf16⟩
  | _, _ => ⟨S8192x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_cst_7 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v39_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v39_1 : Ref sig .tc := ⟨.hbm, 68, rfl⟩
abbrev main_v39_0 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_10 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩

abbrev nD : Nat := 1
abbrev τ : Topo := Topo.v7x

variable {F : FTy → Type} [FloatOps F]
-- ==== Kernel2.lean ====
abbrev S8192x1024 : Shape := ⟨2, ![8192, 1024]⟩
abbrev S1024x10368 : Shape := ⟨2, ![1024, 10368]⟩
abbrev S8192x10368 : Shape := ⟨2, ![8192, 10368]⟩
abbrev S1024x8192 : Shape := ⟨2, ![1024, 8192]⟩
abbrev S1024x1024 : Shape := ⟨2, ![1024, 1024]⟩
abbrev S1024x1152 : Shape := ⟨2, ![1024, 1152]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x10368, .bf16⟩
  | .hbm, ⟨2, _⟩ => ⟨S8192x10368, .bf16⟩
  | .hbm, ⟨3, _⟩ => ⟨S1024x8192, .f32⟩
  | .hbm, ⟨4, _⟩ => ⟨S1024x8192, .bf16⟩
  | .hbm, ⟨5, _⟩ => ⟨S1024x10368, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S1024x10368 : Shape := ⟨2, ![1024, 10368]⟩
abbrev S8192x10368 : Shape := ⟨2, ![8192, 10368]⟩
abbrev S10368x1024 : Shape := ⟨2, ![10368, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10368, .bf16⟩
  | .hbm, ⟨2, _⟩ => ⟨S8192x10368, .bf16⟩
  | .hbm, ⟨3, _⟩ => ⟨S1024x10368, .f32⟩
  | .hbm, ⟨4, _⟩ => ⟨S8192x10368, .f32⟩
  | .hbm, ⟨5, _⟩ => ⟨S8192x10368, .f32⟩
  | .hbm, ⟨6, _⟩ => ⟨S10368x1024, .f32⟩
  | .hbm, ⟨7, _⟩ => ⟨S1024x10368, .f32⟩
  | .hbm, ⟨8, _⟩ => ⟨S1024x10368, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S8192x1024 : Shape := ⟨2, ![8192, 1024]⟩
abbrev S1024x10368 : Shape := ⟨2, ![1024, 10368]⟩
abbrev S8192x10368 : Shape := ⟨2, ![8192, 10368]⟩
abbrev S1024x1152 : Shape := ⟨2, ![1024, 1152]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x10368, .bf16⟩
  | .hbm, ⟨2, _⟩ => ⟨S8192x10368, .bf16⟩
  | .hbm, ⟨3, _⟩ => ⟨S8192x1024, .f32⟩
  | .hbm, ⟨4, _⟩ => ⟨S8192x1024, .f32⟩
  | .local _ .vmem, ⟨0, _⟩ => ⟨S1024x1152, .bf16⟩
  | .local _ .vmem, ⟨1, _⟩ => ⟨S1024x1152, .bf16⟩
  | .local _ .vmem, ⟨2, _⟩ => ⟨S1024x1152, .bf16⟩
  | .local _ .vmem, ⟨3, _⟩ => ⟨S1024x1152, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x1024 : Shape := ⟨2, ![8192, 1024]⟩
abbrev S1024x10368 : Shape := ⟨2, ![1024, 10368]⟩
abbrev S8192x10368 : Shape := ⟨2, ![8192, 10368]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10368, .bf16⟩
  | .hbm, ⟨2, _⟩ => ⟨S8192x10368, .bf16⟩
  | .hbm, ⟨3, _⟩ => ⟨S8192x1024, .f32⟩
  | .hbm, ⟨4, _⟩ => ⟨S1024x10368, .f32⟩
  | .hbm, ⟨5, _⟩ => ⟨S8192x10368, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x10368, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel4.lean ====
abbrev S8192x1024 : Shape := ⟨2, ![8192, 1024]⟩
abbrev S1024x10368 : Shape := ⟨2, ![1024, 10368]⟩
abbrev S8192x10368 : Shape := ⟨2, ![8192, 10368]⟩
abbrev S1024x1024 : Shape := ⟨2, ![1024, 1024]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x10368, .bf16⟩
  | .hbm, ⟨2, _⟩ => ⟨S8192x10368, .f32⟩
  | .local _ .vmem, ⟨0, _⟩ => ⟨S1024x1024, .f32⟩
  | .local _ .vmem, ⟨1, _⟩ => ⟨S1024x1024, .f32⟩
  | .local _ .vmem, ⟨2, _⟩ => ⟨S1024x1152, .bf16⟩
  | .local _ .vmem, ⟨3, _⟩ => ⟨S1024x1152, .bf16⟩
  | .local _ .vmem, ⟨4, _⟩ => ⟨S1024x1152, .f32⟩
  | .local _ .vmem, ⟨5, _⟩ => ⟨S1024x1152, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 9, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S1024x10368 : Shape := ⟨2, ![1024, 10368]⟩
abbrev S8192x10368 : Shape := ⟨2, ![8192, 10368]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x10368, .bf16⟩
  | .hbm, ⟨2, _⟩ => ⟨S1024x10368, .f32⟩
  | .hbm, ⟨3, _⟩ => ⟨S8192x10368, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S4x1024x1281 : Shape := ⟨3, ![4, 1024, 1281]⟩
abbrev S8x4096x1281 : Shape := ⟨3, ![8, 4096, 1281]⟩
abbrev S4096x1281 : Shape := ⟨2, ![4096, 1281]⟩
abbrev S128x1281 : Shape := ⟨2, ![128, 1281]⟩
abbrev S8x128x1281 : Shape := ⟨3, ![8, 128, 1281]⟩
abbrev S1x128x1281 : Shape := ⟨3, ![1, 128, 1281]⟩

abbrev nBuf : Space → Nat
  | .hbm => 11
  | .vmem => 16
  | .smem => 0
  | _ => 0

abbrev bufTy : (tb : Table) → Fin (tcTables nBuf tb) → BufTy
  | .hbm, ⟨0, _⟩ => ⟨S4x1024x1281, .f32⟩
  | .hbm, ⟨1, _⟩ => ⟨S4x1024x1281, .f32⟩
  | .hbm, ⟨2, _⟩ => ⟨S4x1024x1281, .f32⟩
  | .hbm, ⟨3, _⟩ => ⟨S8x4096x1281, .bf16⟩
  | .hbm, ⟨4, _⟩ => ⟨S4096x1281, .f32⟩
  | .hbm, ⟨5, _⟩ => ⟨S4096x1281, .f32⟩
  | .hbm, ⟨6, _⟩ => ⟨S4096x1281, .f32⟩
  | .hbm, ⟨7, _⟩ => ⟨S4096x1281, .f32⟩
  | .hbm, ⟨8, _⟩ => ⟨S4096x1281, .f32⟩
  | .hbm, ⟨9, _⟩ => ⟨S4096x1281, .f32⟩
  | .hbm, ⟨10, _⟩ => ⟨S4096x1281, .f32⟩
  | .local _ .vmem, ⟨0, _⟩ => ⟨S128x1281, .f32⟩
  | .local _ .vmem, ⟨1, _⟩ => ⟨S128x1281, .f32⟩
  | .local _ .vmem, ⟨2, _⟩ => ⟨S128x1281, .f32⟩
  | .local _ .vmem, ⟨3, _⟩ => ⟨S128x1281, .f32⟩
  | .local _ .vmem, ⟨4, _⟩ => ⟨S128x1281, .f32⟩
  | .local _ .vmem, ⟨5, _⟩ => ⟨S128x1281, .f32⟩
  | .local _ .vmem, ⟨6, _⟩ => ⟨S8x128x1281, .bf16⟩
  | .local _ .vmem, ⟨7, _⟩ => ⟨S8x128x1281, .bf16⟩
  | .local _ .vmem, ⟨8, _⟩ => ⟨S128x1281, .f32⟩
  | .local _ .vmem, ⟨9, _⟩ => ⟨S128x1281, .f32⟩
  | .local _ .vmem, ⟨10, _⟩ => ⟨S128x1281, .f32⟩
  | .local _ .vmem, ⟨11, _⟩ => ⟨S128x1281, .f32⟩
  | .local _ .vmem, ⟨12, _⟩ => ⟨S128x1281, .f32⟩
  | .local _ .vmem, ⟨13, _⟩ => ⟨S128x1281, .f32⟩
  | .local _ .vmem, ⟨14, _⟩ => ⟨S128x1281, .f32⟩
  | .local _ .vmem, ⟨15, _⟩ => ⟨S128x1281, .f32⟩
  | _, _ => ⟨S4x1024x1281, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1281 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1281 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1281 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x1281 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1281 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1281 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1281 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1281 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S4x1024x1281 : Shape := ⟨3, ![4, 1024, 1281]⟩
abbrev S8x4096x1281 : Shape := ⟨3, ![8, 4096, 1281]⟩
abbrev S_ : Shape := ⟨0, ![]⟩
abbrev S4096x1281 : Shape := ⟨2, ![4096, 1281]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1281, .f32⟩
  | .hbm, ⟨1, _⟩ => ⟨S4x1024x1281, .f32⟩
  | .hbm, ⟨2, _⟩ => ⟨S4x1024x1281, .f32⟩
  | .hbm, ⟨3, _⟩ => ⟨S8x4096x1281, .bf16⟩
  | .hbm, ⟨4, _⟩ => ⟨S8x4096x1281, .f32⟩
  | .hbm, ⟨5, _⟩ => ⟨S_, .f32⟩
  | .hbm, ⟨6, _⟩ => ⟨S4096x1281, .f32⟩
  | .hbm, ⟨7, _⟩ => ⟨S4x1024x1281, .f32⟩
  | .hbm, ⟨8, _⟩ => ⟨S_, .f32⟩
  | .hbm, ⟨9, _⟩ => ⟨S4x1024x1281, .f32⟩
  | .hbm, ⟨10, _⟩ => ⟨S4x1024x1281, .f32⟩
  | .hbm, ⟨11, _⟩ => ⟨S_, .f32⟩
  | .hbm, ⟨12, _⟩ => ⟨S4x1024x1281, .f32⟩
  | .hbm, ⟨13, _⟩ => ⟨S4x1024x1281, .f32⟩
  | .hbm, ⟨14, _⟩ => ⟨S4x1024x1281, .f32⟩
  | .hbm, ⟨15, _⟩ => ⟨S_, .f32⟩
  | .hbm, ⟨16, _⟩ => ⟨S4x1024x1281, .f32⟩
  | .hbm, ⟨17, _⟩ => ⟨S4x1024x1281, .f32⟩
  | .hbm, ⟨18, _⟩ => ⟨S4x1024x1281, .f32⟩
  | .hbm, ⟨19, _⟩ => ⟨S_, .f32⟩
  | .hbm, ⟨20, _⟩ => ⟨S4x1024x1281, .f32⟩
  | .hbm, ⟨21, _⟩ => ⟨S4x1024x1281, .f32⟩
  | .hbm, ⟨22, _⟩ => ⟨S4x1024x1281, .f32⟩
  | .hbm, ⟨23, _⟩ => ⟨S_, .f32⟩
  | .hbm, ⟨24, _⟩ => ⟨S4x1024x1281, .f32⟩
  | .hbm, ⟨25, _⟩ => ⟨S4x1024x1281, .f32⟩
  | .hbm, ⟨26, _⟩ => ⟨S_, .f32⟩
  | .hbm, ⟨27, _⟩ => ⟨S4x1024x1281, .f32⟩
  | .hbm, ⟨28, _⟩ => ⟨S4x1024x1281, .f32⟩
  | .hbm, ⟨29, _⟩ => ⟨S4x1024x1281, .f32⟩
  | .hbm, ⟨30, _⟩ => ⟨S_, .f32⟩
  | .hbm, ⟨31, _⟩ => ⟨S4x1024x1281, .f32⟩
  | .hbm, ⟨32, _⟩ => ⟨S4x1024x1281, .f32⟩
  | .hbm, ⟨33, _⟩ => ⟨S4x1024x1281, .f32⟩
  | .hbm, ⟨34, _⟩ => ⟨S_, .f32⟩
  | .hbm, ⟨35, _⟩ => ⟨S4x1024x1281, .f32⟩
  | .hbm, ⟨36, _⟩ => ⟨S4x1024x1281, .f32⟩
  | .hbm, ⟨37, _⟩ => ⟨S4x1024x1281, .f32⟩
  | .hbm, ⟨38, _⟩ => ⟨S_, .f32⟩
  | .hbm, ⟨39, _⟩ => ⟨S4x1024x1281, .f32⟩
  | .hbm, ⟨40, _⟩ => ⟨S4x1024x1281, .f32⟩
  | .hbm, ⟨41, _⟩ => ⟨S4096x1281, .f32⟩
  | .hbm, ⟨42, _⟩ => ⟨S4096x1281, .f32⟩
  | .hbm, ⟨43, _⟩ => ⟨S4096x1281, .f32⟩
  | .hbm, ⟨44, _⟩ => ⟨S4096x1281, .f32⟩
  | _, _ => ⟨S4x1024x1281, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel6.lean ====
abbrev S8192x512 : Shape := ⟨2, ![8192, 512]⟩
abbrev S8192x256 : Shape := ⟨2, ![8192, 256]⟩
abbrev S8192x10368 : Shape := ⟨2, ![8192, 10368]⟩
abbrev S8192x1024 : Shape := ⟨2, ![8192, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S8192x1 : Shape := ⟨2, ![8192, 1]⟩
abbrev S256x512 : Shape := ⟨2, ![256, 512]⟩
abbrev S256x256 : Shape := ⟨2, ![256, 256]⟩
abbrev S256x4096 : Shape := ⟨2, ![256, 4096]⟩
abbrev S256x1 : Shape := ⟨2, ![256, 1]⟩
abbrev S256 : Shape := ⟨1, ![256]⟩

abbrev nBuf : Space → Nat
  | .hbm => 21
  | .vmem => 35
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x10368, .f32⟩
  | .hbm, ⟨5, _⟩ => ⟨S8192x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S8192x1024, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .f32⟩
  | .hbm, ⟨19, _⟩ => ⟨S8192x1024, .f32⟩
  | .hbm, ⟨20, _⟩ => ⟨S8192x1, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .bf16⟩
  | .local _ .vmem, ⟨7, _⟩ => ⟨S256x256, .bf16⟩
  | .local _ .vmem, ⟨8, _⟩ => ⟨S256x4096, .f32⟩
  | .local _ .vmem, ⟨9, _⟩ => ⟨S256x4096, .f32⟩
  | .local _ .vmem, ⟨10, _⟩ => ⟨S256x1024, .f32⟩
  | .local _ .vmem, ⟨11, _⟩ => ⟨S256x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .f32⟩
  | .local _ .vmem, ⟨33, _⟩ => ⟨S256x1, .f32⟩
  | .local _ .vmem, ⟨34, _⟩ => ⟨S256x1, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev main_v0_6 : Ref sig .tc := ⟨.hbm, 19, rfl⟩
abbrev main_v0_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32
abbrev cc0_sem20_0 : DmaSem sig := 33
abbrev cc0_sem20_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S8192x512 : Shape := ⟨2, ![8192, 512]⟩
abbrev S8192x256 : Shape := ⟨2, ![8192, 256]⟩
abbrev S8192x10368 : Shape := ⟨2, ![8192, 10368]⟩
abbrev S8192x1024 : Shape := ⟨2, ![8192, 1024]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S8192x4096 : Shape := ⟨2, ![8192, 4096]⟩
abbrev S8192x4x1024 : Shape := ⟨3, ![8192, 4, 1024]⟩
abbrev S_ : Shape := ⟨0, ![]⟩
abbrev S8192x1x1024 : Shape := ⟨3, ![8192, 1, 1024]⟩
abbrev S8192 : Shape := ⟨1, ![8192]⟩
abbrev S8192x1 : Shape := ⟨2, ![8192, 1]⟩

abbrev nBuf : Space → Nat
  | .hbm => 88
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x256, .bf16⟩
  | .hbm, ⟨4, _⟩ => ⟨S8192x10368, .f32⟩
  | .hbm, ⟨5, _⟩ => ⟨S8192x1024, .f32⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S256x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S8192x4096, .f32⟩
  | .hbm, ⟨14, _⟩ => ⟨S8192x512, .f32⟩
  | .hbm, ⟨15, _⟩ => ⟨S512x1024, .f32⟩
  | .hbm, ⟨16, _⟩ => ⟨S8192x1024, .f32⟩
  | .hbm, ⟨17, _⟩ => ⟨S8192x512, .f32⟩
  | .hbm, ⟨18, _⟩ => ⟨S512x1024, .f32⟩
  | .hbm, ⟨19, _⟩ => ⟨S8192x1024, .f32⟩
  | .hbm, ⟨20, _⟩ => ⟨S8192x512, .f32⟩
  | .hbm, ⟨21, _⟩ => ⟨S512x1024, .f32⟩
  | .hbm, ⟨22, _⟩ => ⟨S8192x1024, .f32⟩
  | .hbm, ⟨23, _⟩ => ⟨S8192x256, .f32⟩
  | .hbm, ⟨24, _⟩ => ⟨S256x1024, .f32⟩
  | .hbm, ⟨25, _⟩ => ⟨S8192x1024, .f32⟩
  | .hbm, ⟨26, _⟩ => ⟨S8192x4x1024, .f32⟩
  | .hbm, ⟨27, _⟩ => ⟨S8192x4x1024, .f32⟩
  | .hbm, ⟨28, _⟩ => ⟨S8192x4x1024, .f32⟩
  | .hbm, ⟨29, _⟩ => ⟨S_, .f32⟩
  | .hbm, ⟨30, _⟩ => ⟨S8192x4x1024, .f32⟩
  | .hbm, ⟨31, _⟩ => ⟨S8192x4x1024, .f32⟩
  | .hbm, ⟨32, _⟩ => ⟨S_, .f32⟩
  | .hbm, ⟨33, _⟩ => ⟨S8192x4x1024, .f32⟩
  | .hbm, ⟨34, _⟩ => ⟨S8192x4x1024, .f32⟩
  | .hbm, ⟨35, _⟩ => ⟨S8192x1x1024, .f32⟩
  | .hbm, ⟨36, _⟩ => ⟨S8192x1024, .f32⟩
  | .hbm, ⟨37, _⟩ => ⟨S8192x1024, .f32⟩
  | .hbm, ⟨38, _⟩ => ⟨S8192x1x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S1024x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S8192x1024, .bf16⟩
  | .hbm, ⟨81, _⟩ => ⟨S8192x1024, .bf16⟩
  | .hbm, ⟨82, _⟩ => ⟨S8192x1024, .bf16⟩
  | .hbm, ⟨83, _⟩ => ⟨S8192x1024, .bf16⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_2 : Ref sig .tc := ⟨.hbm, 56, rfl⟩
abbrev main_v40 : Ref sig .tc := ⟨.hbm, 57, rfl⟩
abbrev main_v41 : Ref sig .tc := ⟨.hbm, 58, rfl⟩
abbrev main_cst_3 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_4 : Ref sig .tc := ⟨.hbm, 65, rfl⟩
abbrev main_v47 : Ref sig .tc := ⟨.hbm, 66, rfl⟩
abbrev main_v48 : Ref sig .tc := ⟨.hbm, 67, rfl⟩
abbrev main_cst_5 : Ref sig .tc := ⟨.hbm, 68, rfl⟩
abbrev main_v49 : Ref sig .tc := ⟨.hbm, 69, rfl⟩
abbrev main_v50 : Ref sig .tc := ⟨.hbm, 70, rfl⟩
abbrev main_cst_6 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Kernel7.lean ====
abbrev S4x512x128 : Shape := ⟨3, ![4, 512, 128]⟩
abbrev S4x256x128 : Shape := ⟨3, ![4, 256, 128]⟩
abbrev S4x128x1024 : Shape := ⟨3, ![4, 128, 1024]⟩
abbrev S4x128x512 : Shape := ⟨3, ![4, 128, 512]⟩
abbrev S8x13312x128 : Shape := ⟨3, ![8, 13312, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S1024x128 : Shape := ⟨2, ![1024, 128]⟩
abbrev S1x128x512 : Shape := ⟨3, ![1, 128, 512]⟩
abbrev S128x512 : Shape := ⟨2, ![128, 512]⟩
abbrev S3328x128 : Shape := ⟨2, ![3328, 128]⟩
abbrev S13312x128 : Shape := ⟨2, ![13312, 128]⟩
abbrev S8x1024x128 : Shape := ⟨3, ![8, 1024, 128]⟩
abbrev S1x1024x128 : Shape := ⟨3, ![1, 1024, 128]⟩

abbrev nBuf : Space → Nat
  | .hbm => 206
  | .vmem => 16
  | .smem => 0
  | _ => 0

abbrev hbmTy0_0 (i : Nat) : BufTy := match i % 128 with
  | 0 => ⟨S4x512x128, .f32⟩
  | 1 => ⟨S4x512x128, .f32⟩
  | 2 => ⟨S4x512x128, .f32⟩
  | 3 => ⟨S4x256x128, .f32⟩
  | 4 => ⟨S4x128x1024, .f32⟩
  | 5 => ⟨S4x128x512, .f32⟩
  | 6 => ⟨S4x512x128, .f32⟩
  | 7 => ⟨S4x512x128, .f32⟩
  | 8 => ⟨S4x512x128, .f32⟩
  | 9 => ⟨S4x256x128, .f32⟩
  | 10 => ⟨S4x128x1024, .f32⟩
  | 11 => ⟨S4x128x512, .f32⟩
  | 12 => ⟨S4x512x128, .f32⟩
  | 13 => ⟨S4x512x128, .f32⟩
  | 14 => ⟨S4x512x128, .f32⟩
  | 15 => ⟨S4x256x128, .f32⟩
  | 16 => ⟨S4x128x1024, .f32⟩
  | 17 => ⟨S4x128x512, .f32⟩
  | 18 => ⟨S8x13312x128, .bf16⟩
  | 19 => ⟨S1x512x128, .f32⟩
  | 20 => ⟨S512x128, .f32⟩
  | 21 => ⟨S1x512x128, .f32⟩
  | 22 => ⟨S512x128, .f32⟩
  | 23 => ⟨S1x512x128, .f32⟩
  | 24 => ⟨S512x128, .f32⟩
  | 25 => ⟨S1x256x128, .f32⟩
  | 26 => ⟨S256x128, .f32⟩
  | 27 => ⟨S1x128x1024, .f32⟩
  | 28 => ⟨S128x1024, .f32⟩
  | 29 => ⟨S1024x128, .f32⟩
  | 30 => ⟨S1x128x512, .f32⟩
  | 31 => ⟨S128x512, .f32⟩
  | 32 => ⟨S512x128, .f32⟩
  | 33 => ⟨S3328x128, .f32⟩
  | 34 => ⟨S1x512x128, .f32⟩
  | 35 => ⟨S512x128, .f32⟩
  | 36 => ⟨S1x512x128, .f32⟩
  | 37 => ⟨S512x128, .f32⟩
  | 38 => ⟨S1x512x128, .f32⟩
  | 39 => ⟨S512x128, .f32⟩
  | 40 => ⟨S1x256x128, .f32⟩
  | 41 => ⟨S256x128, .f32⟩
  | 42 => ⟨S1x128x1024, .f32⟩
  | 43 => ⟨S128x1024, .f32⟩
  | 44 => ⟨S1024x128, .f32⟩
  | 45 => ⟨S1x128x512, .f32⟩
  | 46 => ⟨S128x512, .f32⟩
  | 47 => ⟨S512x128, .f32⟩
  | 48 => ⟨S3328x128, .f32⟩
  | 49 => ⟨S1x512x128, .f32⟩
  | 50 => ⟨S512x128, .f32⟩
  | 51 => ⟨S1x512x128, .f32⟩
  | 52 => ⟨S512x128, .f32⟩
  | 53 => ⟨S1x512x128, .f32⟩
  | 54 => ⟨S512x128, .f32⟩
  | 55 => ⟨S1x256x128, .f32⟩
  | 56 => ⟨S256x128, .f32⟩
  | 57 => ⟨S1x128x1024, .f32⟩
  | 58 => ⟨S128x1024, .f32⟩
  | 59 => ⟨S1024x128, .f32⟩
  | 60 => ⟨S1x128x512, .f32⟩
  | 61 => ⟨S128x512, .f32⟩
  | 62 => ⟨S512x128, .f32⟩
  | 63 => ⟨S3328x128, .f32⟩
  | 64 => ⟨S1x512x128, .f32⟩
  | 65 => ⟨S512x128, .f32⟩
  | 66 => ⟨S1x512x128, .f32⟩
  | 67 => ⟨S512x128, .f32⟩
  | 68 => ⟨S1x512x128, .f32⟩
  | 69 => ⟨S512x128, .f32⟩
  | 70 => ⟨S1x256x128, .f32⟩
  | 71 => ⟨S256x128, .f32⟩
  | 72 => ⟨S1x128x1024, .f32⟩
  | 73 => ⟨S128x1024, .f32⟩
  | 74 => ⟨S1024x128, .f32⟩
  | 75 => ⟨S1x128x512, .f32⟩
  | 76 => ⟨S128x512, .f32⟩
  | 77 => ⟨S512x128, .f32⟩
  | 78 => ⟨S3328x128, .f32⟩
  | 79 => ⟨S13312x128, .f32⟩
  | 80 => ⟨S1x512x128, .f32⟩
  | 81 => ⟨S512x128, .f32⟩
  | 82 => ⟨S1x512x128, .f32⟩
  | 83 => ⟨S512x128, .f32⟩
  | 84 => ⟨S1x512x128, .f32⟩
  | 85 => ⟨S512x128, .f32⟩
  | 86 => ⟨S1x256x128, .f32⟩
  | 87 => ⟨S256x128, .f32⟩
  | 88 => ⟨S1x128x1024, .f32⟩
  | 89 => ⟨S128x1024, .f32⟩
  | 90 => ⟨S1024x128, .f32⟩
  | 91 => ⟨S1x128x512, .f32⟩
  | 92 => ⟨S128x512, .f32⟩
  | 93 => ⟨S512x128, .f32⟩
  | 94 => ⟨S3328x128, .f32⟩
  | 95 => ⟨S1x512x128, .f32⟩
  | 96 => ⟨S512x128, .f32⟩
  | 97 => ⟨S1x512x128, .f32⟩
  | 98 => ⟨S512x128, .f32⟩
  | 99 => ⟨S1x512x128, .f32⟩
  | 100 => ⟨S512x128, .f32⟩
  | 101 => ⟨S1x256x128, .f32⟩
  | 102 => ⟨S256x128, .f32⟩
  | 103 => ⟨S1x128x1024, .f32⟩
  | 104 => ⟨S128x1024, .f32⟩
  | 105 => ⟨S1024x128, .f32⟩
  | 106 => ⟨S1x128x512, .f32⟩
  | 107 => ⟨S128x512, .f32⟩
  | 108 => ⟨S512x128, .f32⟩
  | 109 => ⟨S3328x128, .f32⟩
  | 110 => ⟨S1x512x128, .f32⟩
  | 111 => ⟨S512x128, .f32⟩
  | 112 => ⟨S1x512x128, .f32⟩
  | 113 => ⟨S512x128, .f32⟩
  | 114 => ⟨S1x512x128, .f32⟩
  | 115 => ⟨S512x128, .f32⟩
  | 116 => ⟨S1x256x128, .f32⟩
  | 117 => ⟨S256x128, .f32⟩
  | 118 => ⟨S1x128x1024, .f32⟩
  | 119 => ⟨S128x1024, .f32⟩
  | 120 => ⟨S1024x128, .f32⟩
  | 121 => ⟨S1x128x512, .f32⟩
  | 122 => ⟨S128x512, .f32⟩
  | 123 => ⟨S512x128, .f32⟩
  | 124 => ⟨S3328x128, .f32⟩
  | 125 => ⟨S1x512x128, .f32⟩
  | 126 => ⟨S512x128, .f32⟩
  | 127 => ⟨S1x512x128, .f32⟩
  | _ => ⟨S4x512x128, .f32⟩

abbrev hbmTy0_1 (i : Nat) : BufTy := match i % 128 with
  | 0 => ⟨S512x128, .f32⟩
  | 1 => ⟨S1x512x128, .f32⟩
  | 2 => ⟨S512x128, .f32⟩
  | 3 => ⟨S1x256x128, .f32⟩
  | 4 => ⟨S256x128, .f32⟩
  | 5 => ⟨S1x128x1024, .f32⟩
  | 6 => ⟨S128x1024, .f32⟩
  | 7 => ⟨S1024x128, .f32⟩
  | 8 => ⟨S1x128x512, .f32⟩
  | 9 => ⟨S128x512, .f32⟩
  | 10 => ⟨S512x128, .f32⟩
  | 11 => ⟨S3328x128, .f32⟩
  | 12 => ⟨S13312x128, .f32⟩
  | 13 => ⟨S1x512x128, .f32⟩
  | 14 => ⟨S512x128, .f32⟩
  | 15 => ⟨S1x512x128, .f32⟩
  | 16 => ⟨S512x128, .f32⟩
  | 17 => ⟨S1x512x128, .f32⟩
  | 18 => ⟨S512x128, .f32⟩
  | 19 => ⟨S1x256x128, .f32⟩
  | 20 => ⟨S256x128, .f32⟩
  | 21 => ⟨S1x128x1024, .f32⟩
  | 22 => ⟨S128x1024, .f32⟩
  | 23 => ⟨S1024x128, .f32⟩
  | 24 => ⟨S1x128x512, .f32⟩
  | 25 => ⟨S128x512, .f32⟩
  | 26 => ⟨S512x128, .f32⟩
  | 27 => ⟨S3328x128, .f32⟩
  | 28 => ⟨S1x512x128, .f32⟩
  | 29 => ⟨S512x128, .f32⟩
  | 30 => ⟨S1x512x128, .f32⟩
  | 31 => ⟨S512x128, .f32⟩
  | 32 => ⟨S1x512x128, .f32⟩
  | 33 => ⟨S512x128, .f32⟩
  | 34 => ⟨S1x256x128, .f32⟩
  | 35 => ⟨S256x128, .f32⟩
  | 36 => ⟨S1x128x1024, .f32⟩
  | 37 => ⟨S128x1024, .f32⟩
  | 38 => ⟨S1024x128, .f32⟩
  | 39 => ⟨S1x128x512, .f32⟩
  | 40 => ⟨S128x512, .f32⟩
  | 41 => ⟨S512x128, .f32⟩
  | 42 => ⟨S3328x128, .f32⟩
  | 43 => ⟨S1x512x128, .f32⟩
  | 44 => ⟨S512x128, .f32⟩
  | 45 => ⟨S1x512x128, .f32⟩
  | 46 => ⟨S512x128, .f32⟩
  | 47 => ⟨S1x512x128, .f32⟩
  | 48 => ⟨S512x128, .f32⟩
  | 49 => ⟨S1x256x128, .f32⟩
  | 50 => ⟨S256x128, .f32⟩
  | 51 => ⟨S1x128x1024, .f32⟩
  | 52 => ⟨S128x1024, .f32⟩
  | 53 => ⟨S1024x128, .f32⟩
  | 54 => ⟨S1x128x512, .f32⟩
  | 55 => ⟨S128x512, .f32⟩
  | 56 => ⟨S512x128, .f32⟩
  | 57 => ⟨S3328x128, .f32⟩
  | 58 => ⟨S1x512x128, .f32⟩
  | 59 => ⟨S512x128, .f32⟩
  | 60 => ⟨S1x512x128, .f32⟩
  | 61 => ⟨S512x128, .f32⟩
  | 62 => ⟨S1x512x128, .f32⟩
  | 63 => ⟨S512x128, .f32⟩
  | 64 => ⟨S1x256x128, .f32⟩
  | 65 => ⟨S256x128, .f32⟩
  | 66 => ⟨S1x128x1024, .f32⟩
  | 67 => ⟨S128x1024, .f32⟩
  | 68 => ⟨S1024x128, .f32⟩
  | 69 => ⟨S1x128x512, .f32⟩
  | 70 => ⟨S128x512, .f32⟩
  | 71 => ⟨S512x128, .f32⟩
  | 72 => ⟨S3328x128, .f32⟩
  | 73 => ⟨S13312x128, .f32⟩
  | 74 => ⟨S13312x128, .f32⟩
  | 75 => ⟨S13312x128, .f32⟩
  | 76 => ⟨S13312x128, .f32⟩
  | 77 => ⟨S13312x128, .f32⟩
  | _ => ⟨S4x512x128, .f32⟩

abbrev hbmTy (i : Nat) : BufTy := match i / 128 with
  | 0 => hbmTy0_0 i
  | 1 => hbmTy0_1 i
  | _ => ⟨S4x512x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S8x1024x128, .bf16⟩
  | .local _ .vmem, ⟨7, _⟩ => ⟨S8x1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183_0 : Ref sig .tc := ⟨.hbm, 202, rfl⟩
abbrev main_v183_1 : Ref sig .tc := ⟨.hbm, 203, rfl⟩
abbrev main_v183_2 : Ref sig .tc := ⟨.hbm, 204, rfl⟩
abbrev main_v183_3 : Ref sig .tc := ⟨.hbm, 205, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S4x512x128 : Shape := ⟨3, ![4, 512, 128]⟩
abbrev S4x256x128 : Shape := ⟨3, ![4, 256, 128]⟩
abbrev S4x128x1024 : Shape := ⟨3, ![4, 128, 1024]⟩
abbrev S4x128x512 : Shape := ⟨3, ![4, 128, 512]⟩
abbrev S8x13312x128 : Shape := ⟨3, ![8, 13312, 128]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S1x128x1024 : Shape := ⟨3, ![1, 128, 1024]⟩
abbrev S128x1024 : Shape := ⟨2, ![128, 1024]⟩
abbrev S1024x128 : Shape := ⟨2, ![1024, 128]⟩
abbrev S1x128x512 : Shape := ⟨3, ![1, 128, 512]⟩
abbrev S128x512 : Shape := ⟨2, ![128, 512]⟩
abbrev S3328x128 : Shape := ⟨2, ![3328, 128]⟩
abbrev S13312x128 : Shape := ⟨2, ![13312, 128]⟩
abbrev S_ : Shape := ⟨0, ![]⟩

abbrev nBuf : Space → Nat
  | .hbm => 238
  | .vmem => 0
  | .smem => 0
  | _ => 0

abbrev hbmTy0_0 (i : Nat) : BufTy := match i % 128 with
  | 0 => ⟨S4x512x128, .f32⟩
  | 1 => ⟨S4x512x128, .f32⟩
  | 2 => ⟨S4x512x128, .f32⟩
  | 3 => ⟨S4x256x128, .f32⟩
  | 4 => ⟨S4x128x1024, .f32⟩
  | 5 => ⟨S4x128x512, .f32⟩
  | 6 => ⟨S4x512x128, .f32⟩
  | 7 => ⟨S4x512x128, .f32⟩
  | 8 => ⟨S4x512x128, .f32⟩
  | 9 => ⟨S4x256x128, .f32⟩
  | 10 => ⟨S4x128x1024, .f32⟩
  | 11 => ⟨S4x128x512, .f32⟩
  | 12 => ⟨S4x512x128, .f32⟩
  | 13 => ⟨S4x512x128, .f32⟩
  | 14 => ⟨S4x512x128, .f32⟩
  | 15 => ⟨S4x256x128, .f32⟩
  | 16 => ⟨S4x128x1024, .f32⟩
  | 17 => ⟨S4x128x512, .f32⟩
  | 18 => ⟨S8x13312x128, .bf16⟩
  | 19 => ⟨S1x512x128, .f32⟩
  | 20 => ⟨S512x128, .f32⟩
  | 21 => ⟨S1x512x128, .f32⟩
  | 22 => ⟨S512x128, .f32⟩
  | 23 => ⟨S1x512x128, .f32⟩
  | 24 => ⟨S512x128, .f32⟩
  | 25 => ⟨S1x256x128, .f32⟩
  | 26 => ⟨S256x128, .f32⟩
  | 27 => ⟨S1x128x1024, .f32⟩
  | 28 => ⟨S128x1024, .f32⟩
  | 29 => ⟨S1024x128, .f32⟩
  | 30 => ⟨S1x128x512, .f32⟩
  | 31 => ⟨S128x512, .f32⟩
  | 32 => ⟨S512x128, .f32⟩
  | 33 => ⟨S3328x128, .f32⟩
  | 34 => ⟨S1x512x128, .f32⟩
  | 35 => ⟨S512x128, .f32⟩
  | 36 => ⟨S1x512x128, .f32⟩
  | 37 => ⟨S512x128, .f32⟩
  | 38 => ⟨S1x512x128, .f32⟩
  | 39 => ⟨S512x128, .f32⟩
  | 40 => ⟨S1x256x128, .f32⟩
  | 41 => ⟨S256x128, .f32⟩
  | 42 => ⟨S1x128x1024, .f32⟩
  | 43 => ⟨S128x1024, .f32⟩
  | 44 => ⟨S1024x128, .f32⟩
  | 45 => ⟨S1x128x512, .f32⟩
  | 46 => ⟨S128x512, .f32⟩
  | 47 => ⟨S512x128, .f32⟩
  | 48 => ⟨S3328x128, .f32⟩
  | 49 => ⟨S1x512x128, .f32⟩
  | 50 => ⟨S512x128, .f32⟩
  | 51 => ⟨S1x512x128, .f32⟩
  | 52 => ⟨S512x128, .f32⟩
  | 53 => ⟨S1x512x128, .f32⟩
  | 54 => ⟨S512x128, .f32⟩
  | 55 => ⟨S1x256x128, .f32⟩
  | 56 => ⟨S256x128, .f32⟩
  | 57 => ⟨S1x128x1024, .f32⟩
  | 58 => ⟨S128x1024, .f32⟩
  | 59 => ⟨S1024x128, .f32⟩
  | 60 => ⟨S1x128x512, .f32⟩
  | 61 => ⟨S128x512, .f32⟩
  | 62 => ⟨S512x128, .f32⟩
  | 63 => ⟨S3328x128, .f32⟩
  | 64 => ⟨S1x512x128, .f32⟩
  | 65 => ⟨S512x128, .f32⟩
  | 66 => ⟨S1x512x128, .f32⟩
  | 67 => ⟨S512x128, .f32⟩
  | 68 => ⟨S1x512x128, .f32⟩
  | 69 => ⟨S512x128, .f32⟩
  | 70 => ⟨S1x256x128, .f32⟩
  | 71 => ⟨S256x128, .f32⟩
  | 72 => ⟨S1x128x1024, .f32⟩
  | 73 => ⟨S128x1024, .f32⟩
  | 74 => ⟨S1024x128, .f32⟩
  | 75 => ⟨S1x128x512, .f32⟩
  | 76 => ⟨S128x512, .f32⟩
  | 77 => ⟨S512x128, .f32⟩
  | 78 => ⟨S3328x128, .f32⟩
  | 79 => ⟨S13312x128, .f32⟩
  | 80 => ⟨S1x512x128, .f32⟩
  | 81 => ⟨S512x128, .f32⟩
  | 82 => ⟨S1x512x128, .f32⟩
  | 83 => ⟨S512x128, .f32⟩
  | 84 => ⟨S1x512x128, .f32⟩
  | 85 => ⟨S512x128, .f32⟩
  | 86 => ⟨S1x256x128, .f32⟩
  | 87 => ⟨S256x128, .f32⟩
  | 88 => ⟨S1x128x1024, .f32⟩
  | 89 => ⟨S128x1024, .f32⟩
  | 90 => ⟨S1024x128, .f32⟩
  | 91 => ⟨S1x128x512, .f32⟩
  | 92 => ⟨S128x512, .f32⟩
  | 93 => ⟨S512x128, .f32⟩
  | 94 => ⟨S3328x128, .f32⟩
  | 95 => ⟨S1x512x128, .f32⟩
  | 96 => ⟨S512x128, .f32⟩
  | 97 => ⟨S1x512x128, .f32⟩
  | 98 => ⟨S512x128, .f32⟩
  | 99 => ⟨S1x512x128, .f32⟩
  | 100 => ⟨S512x128, .f32⟩
  | 101 => ⟨S1x256x128, .f32⟩
  | 102 => ⟨S256x128, .f32⟩
  | 103 => ⟨S1x128x1024, .f32⟩
  | 104 => ⟨S128x1024, .f32⟩
  | 105 => ⟨S1024x128, .f32⟩
  | 106 => ⟨S1x128x512, .f32⟩
  | 107 => ⟨S128x512, .f32⟩
  | 108 => ⟨S512x128, .f32⟩
  | 109 => ⟨S3328x128, .f32⟩
  | 110 => ⟨S1x512x128, .f32⟩
  | 111 => ⟨S512x128, .f32⟩
  | 112 => ⟨S1x512x128, .f32⟩
  | 113 => ⟨S512x128, .f32⟩
  | 114 => ⟨S1x512x128, .f32⟩
  | 115 => ⟨S512x128, .f32⟩
  | 116 => ⟨S1x256x128, .f32⟩
  | 117 => ⟨S256x128, .f32⟩
  | 118 => ⟨S1x128x1024, .f32⟩
  | 119 => ⟨S128x1024, .f32⟩
  | 120 => ⟨S1024x128, .f32⟩
  | 121 => ⟨S1x128x512, .f32⟩
  | 122 => ⟨S128x512, .f32⟩
  | 123 => ⟨S512x128, .f32⟩
  | 124 => ⟨S3328x128, .f32⟩
  | 125 => ⟨S1x512x128, .f32⟩
  | 126 => ⟨S512x128, .f32⟩
  | 127 => ⟨S1x512x128, .f32⟩
  | _ => ⟨S4x512x128, .f32⟩

abbrev hbmTy0_1 (i : Nat) : BufTy := match i % 128 with
  | 0 => ⟨S512x128, .f32⟩
  | 1 => ⟨S1x512x128, .f32⟩
  | 2 => ⟨S512x128, .f32⟩
  | 3 => ⟨S1x256x128, .f32⟩
  | 4 => ⟨S256x128, .f32⟩
  | 5 => ⟨S1x128x1024, .f32⟩
  | 6 => ⟨S128x1024, .f32⟩
  | 7 => ⟨S1024x128, .f32⟩
  | 8 => ⟨S1x128x512, .f32⟩
  | 9 => ⟨S128x512, .f32⟩
  | 10 => ⟨S512x128, .f32⟩
  | 11 => ⟨S3328x128, .f32⟩
  | 12 => ⟨S13312x128, .f32⟩
  | 13 => ⟨S1x512x128, .f32⟩
  | 14 => ⟨S512x128, .f32⟩
  | 15 => ⟨S1x512x128, .f32⟩
  | 16 => ⟨S512x128, .f32⟩
  | 17 => ⟨S1x512x128, .f32⟩
  | 18 => ⟨S512x128, .f32⟩
  | 19 => ⟨S1x256x128, .f32⟩
  | 20 => ⟨S256x128, .f32⟩
  | 21 => ⟨S1x128x1024, .f32⟩
  | 22 => ⟨S128x1024, .f32⟩
  | 23 => ⟨S1024x128, .f32⟩
  | 24 => ⟨S1x128x512, .f32⟩
  | 25 => ⟨S128x512, .f32⟩
  | 26 => ⟨S512x128, .f32⟩
  | 27 => ⟨S3328x128, .f32⟩
  | 28 => ⟨S1x512x128, .f32⟩
  | 29 => ⟨S512x128, .f32⟩
  | 30 => ⟨S1x512x128, .f32⟩
  | 31 => ⟨S512x128, .f32⟩
  | 32 => ⟨S1x512x128, .f32⟩
  | 33 => ⟨S512x128, .f32⟩
  | 34 => ⟨S1x256x128, .f32⟩
  | 35 => ⟨S256x128, .f32⟩
  | 36 => ⟨S1x128x1024, .f32⟩
  | 37 => ⟨S128x1024, .f32⟩
  | 38 => ⟨S1024x128, .f32⟩
  | 39 => ⟨S1x128x512, .f32⟩
  | 40 => ⟨S128x512, .f32⟩
  | 41 => ⟨S512x128, .f32⟩
  | 42 => ⟨S3328x128, .f32⟩
  | 43 => ⟨S1x512x128, .f32⟩
  | 44 => ⟨S512x128, .f32⟩
  | 45 => ⟨S1x512x128, .f32⟩
  | 46 => ⟨S512x128, .f32⟩
  | 47 => ⟨S1x512x128, .f32⟩
  | 48 => ⟨S512x128, .f32⟩
  | 49 => ⟨S1x256x128, .f32⟩
  | 50 => ⟨S256x128, .f32⟩
  | 51 => ⟨S1x128x1024, .f32⟩
  | 52 => ⟨S128x1024, .f32⟩
  | 53 => ⟨S1024x128, .f32⟩
  | 54 => ⟨S1x128x512, .f32⟩
  | 55 => ⟨S128x512, .f32⟩
  | 56 => ⟨S512x128, .f32⟩
  | 57 => ⟨S3328x128, .f32⟩
  | 58 => ⟨S1x512x128, .f32⟩
  | 59 => ⟨S512x128, .f32⟩
  | 60 => ⟨S1x512x128, .f32⟩
  | 61 => ⟨S512x128, .f32⟩
  | 62 => ⟨S1x512x128, .f32⟩
  | 63 => ⟨S512x128, .f32⟩
  | 64 => ⟨S1x256x128, .f32⟩
  | 65 => ⟨S256x128, .f32⟩
  | 66 => ⟨S1x128x1024, .f32⟩
  | 67 => ⟨S128x1024, .f32⟩
  | 68 => ⟨S1024x128, .f32⟩
  | 69 => ⟨S1x128x512, .f32⟩
  | 70 => ⟨S128x512, .f32⟩
  | 71 => ⟨S512x128, .f32⟩
  | 72 => ⟨S3328x128, .f32⟩
  | 73 => ⟨S13312x128, .f32⟩
  | 74 => ⟨S8x13312x128, .f32⟩
  | 75 => ⟨S_, .f32⟩
  | 76 => ⟨S13312x128, .f32⟩
  | 77 => ⟨S_, .f32⟩
  | 78 => ⟨S13312x128, .f32⟩
  | 79 => ⟨S13312x128, .f32⟩
  | 80 => ⟨S_, .f32⟩
  | 81 => ⟨S13312x128, .f32⟩
  | 82 => ⟨S13312x128, .f32⟩
  | 83 => ⟨S13312x128, .f32⟩
  | 84 => ⟨S_, .f32⟩
  | 85 => ⟨S13312x128, .f32⟩
  | 86 => ⟨S13312x128, .f32⟩
  | 87 => ⟨S13312x128, .f32⟩
  | 88 => ⟨S_, .f32⟩
  | 89 => ⟨S13312x128, .f32⟩
  | 90 => ⟨S13312x128, .f32⟩
  | 91 => ⟨S13312x128, .f32⟩
  | 92 => ⟨S_, .f32⟩
  | 93 => ⟨S13312x128, .f32⟩
  | 94 => ⟨S13312x128, .f32⟩
  | 95 => ⟨S_, .f32⟩
  | 96 => ⟨S13312x128, .f32⟩
  | 97 => ⟨S13312x128, .f32⟩
  | 98 => ⟨S13312x128, .f32⟩
  | 99 => ⟨S_, .f32⟩
  | 100 => ⟨S13312x128, .f32⟩
  | 101 => ⟨S13312x128, .f32⟩
  | 102 => ⟨S13312x128, .f32⟩
  | 103 => ⟨S_, .f32⟩
  | 104 => ⟨S13312x128, .f32⟩
  | 105 => ⟨S13312x128, .f32⟩
  | 106 => ⟨S13312x128, .f32⟩
  | 107 => ⟨S_, .f32⟩
  | 108 => ⟨S13312x128, .f32⟩
  | 109 => ⟨S13312x128, .f32⟩
  | _ => ⟨S4x512x128, .f32⟩

abbrev hbmTy (i : Nat) : BufTy := match i / 128 with
  | 0 => hbmTy0_0 i
  | 1 => hbmTy0_1 i
  | _ => ⟨S4x512x128, .f32⟩

abbrev bufTy : (tb : Table) → Fin (tcTables nBuf tb) → BufTy
  | .hbm, ⟨i, _⟩ => hbmTy i
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_cst : Ref sig .tc := ⟨.hbm, 203, rfl⟩
abbrev main_v184 : Ref sig .tc := ⟨.hbm, 204, rfl⟩
abbrev main_cst_0 : Ref sig .tc := ⟨.hbm, 205, rfl⟩
abbrev main_v185 : Ref sig .tc := ⟨.hbm, 206, rfl⟩
abbrev main_v186 : Ref sig .tc := ⟨.hbm, 207, rfl⟩
abbrev main_cst_1 : Ref sig .tc := ⟨.hbm, 208, rfl⟩
abbrev main_v187 : Ref sig .tc := ⟨.hbm, 209, rfl⟩
abbrev main_v188 : Ref sig .tc := ⟨.hbm, 210, rfl⟩
abbrev main_v189 : Ref sig .tc := ⟨.hbm, 211, rfl⟩
abbrev main_cst_2 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_cst_3 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_cst_4 : Ref sig .tc := ⟨.hbm, 220, rfl⟩
abbrev main_v196 : Ref sig .tc := ⟨.hbm, 221, rfl⟩
abbrev main_v197 : Ref sig .tc := ⟨.hbm, 222, rfl⟩
abbrev main_cst_5 : Ref sig .tc := ⟨.hbm, 223, rfl⟩
abbrev main_v198 : Ref sig .tc := ⟨.hbm, 224, rfl⟩
abbrev main_v199 : Ref sig .tc := ⟨.hbm, 225, rfl⟩
abbrev main_v200 : Ref sig .tc := ⟨.hbm, 226, rfl⟩
abbrev main_cst_6 : Ref sig .tc := ⟨.hbm, 227, rfl⟩
abbrev main_v201 : Ref sig .tc := ⟨.hbm, 228, rfl⟩
abbrev main_v202 : Ref sig .tc := ⟨.hbm, 229, rfl⟩
abbrev main_v203 : Ref sig .tc := ⟨.hbm, 230, rfl⟩
abbrev main_cst_7 : Ref sig .tc := ⟨.hbm, 231, rfl⟩
abbrev main_v204 : Ref sig .tc := ⟨.hbm, 232, rfl⟩
abbrev main_v205 : Ref sig .tc := ⟨.hbm, 233, rfl⟩
abbrev main_v206 : Ref sig .tc := ⟨.hbm, 234, rfl⟩
abbrev main_cst_8 : Ref sig .tc := ⟨.hbm, 235, rfl⟩
abbrev main_v207 : Ref sig .tc := ⟨.hbm, 236, rfl⟩
abbrev main_v208 : Ref sig .tc := ⟨.hbm, 237, rfl⟩

abbrev nD : Nat := 1
abbrev τ : Topo := Topo.v7x

variable {F : FTy → Type} [FloatOps F]
-- ==== Kernel8.lean ====
abbrev S4x8 : Shape := ⟨2, ![4, 8]⟩
abbrev S4x512 : Shape := ⟨2, ![4, 512]⟩
abbrev S1024 : Shape := ⟨1, ![1024]⟩
abbrev S4x1024 : Shape := ⟨2, ![4, 1024]⟩
abbrev S4x31x64 : Shape := ⟨3, ![4, 31, 64]⟩
abbrev S4x3x64 : Shape := ⟨3, ![4, 3, 64]⟩
abbrev S8x680x128 : Shape := ⟨3, ![8, 680, 128]⟩
abbrev S_ : Shape := ⟨0, ![]⟩
abbrev S4x31x512 : Shape := ⟨3, ![4, 31, 512]⟩
abbrev S4x3x512 : Shape := ⟨3, ![4, 3, 512]⟩
abbrev S32 : Shape := ⟨1, ![32]⟩
abbrev S2048 : Shape := ⟨1, ![2048]⟩
abbrev S4096 : Shape := ⟨1, ![4096]⟩
abbrev S63488 : Shape := ⟨1, ![63488]⟩
abbrev S6144 : Shape := ⟨1, ![6144]⟩
abbrev S86048 : Shape := ⟨1, ![86048]⟩
abbrev S87040 : Shape := ⟨1, ![87040]⟩
abbrev S680x128 : Shape := ⟨2, ![680, 128]⟩
abbrev S1x680x128 : Shape := ⟨3, ![1, 680, 128]⟩

abbrev nBuf : Space → Nat
  | .hbm => 147
  | .vmem => 8
  | .smem => 0
  | _ => 0

abbrev hbmTy0_0 (i : Nat) : BufTy := match i % 128 with
  | 0 => ⟨S4x8, .f32⟩
  | 1 => ⟨S4x512, .f32⟩
  | 2 => ⟨S4x512, .f32⟩
  | 3 => ⟨S4x512, .f32⟩
  | 4 => ⟨S1024, .f32⟩
  | 5 => ⟨S1024, .f32⟩
  | 6 => ⟨S4x1024, .f32⟩
  | 7 => ⟨S4x1024, .f32⟩
  | 8 => ⟨S4x31x64, .f32⟩
  | 9 => ⟨S4x3x64, .f32⟩
  | 10 => ⟨S4x8, .f32⟩
  | 11 => ⟨S4x512, .f32⟩
  | 12 => ⟨S4x512, .f32⟩
  | 13 => ⟨S4x512, .f32⟩
  | 14 => ⟨S1024, .f32⟩
  | 15 => ⟨S1024, .f32⟩
  | 16 => ⟨S4x1024, .f32⟩
  | 17 => ⟨S4x1024, .f32⟩
  | 18 => ⟨S4x31x64, .f32⟩
  | 19 => ⟨S4x3x64, .f32⟩
  | 20 => ⟨S4x8, .f32⟩
  | 21 => ⟨S4x512, .f32⟩
  | 22 => ⟨S4x512, .f32⟩
  | 23 => ⟨S4x512, .f32⟩
  | 24 => ⟨S1024, .f32⟩
  | 25 => ⟨S1024, .f32⟩
  | 26 => ⟨S4x1024, .f32⟩
  | 27 => ⟨S4x1024, .f32⟩
  | 28 => ⟨S4x31x64, .f32⟩
  | 29 => ⟨S4x3x64, .f32⟩
  | 30 => ⟨S8x680x128, .f32⟩
  | 31 => ⟨S_, .i32⟩
  | 32 => ⟨S_, .f32⟩
  | 33 => ⟨S4x31x512, .f32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S4x31x512, .f32⟩
  | 44 => ⟨S_, .f32⟩
  | 45 => ⟨S4x3x512, .f32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S4x3x512, .f32⟩
  | 56 => ⟨S32, .f32⟩
  | 57 => ⟨S2048, .f32⟩
  | 58 => ⟨S2048, .f32⟩
  | 59 => ⟨S2048, .f32⟩
  | 60 => ⟨S4096, .f32⟩
  | 61 => ⟨S4096, .f32⟩
  | 62 => ⟨S63488, .f32⟩
  | 63 => ⟨S6144, .f32⟩
  | 64 => ⟨S86048, .f32⟩
  | 65 => ⟨S_, .i32⟩
  | 66 => ⟨S_, .f32⟩
  | 67 => ⟨S87040, .f32⟩
  | 68 => ⟨S680x128, .f32⟩
  | 69 => ⟨S_, .f32⟩
  | 70 => ⟨S4x31x512, .f32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i32⟩
  | 80 => ⟨S4x31x512, .f32⟩
  | 81 => ⟨S_, .f32⟩
  | 82 => ⟨S4x3x512, .f32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S4x3x512, .f32⟩
  | 93 => ⟨S32, .f32⟩
  | 94 => ⟨S2048, .f32⟩
  | 95 => ⟨S2048, .f32⟩
  | 96 => ⟨S2048, .f32⟩
  | 97 => ⟨S4096, .f32⟩
  | 98 => ⟨S4096, .f32⟩
  | 99 => ⟨S63488, .f32⟩
  | 100 => ⟨S6144, .f32⟩
  | 101 => ⟨S86048, .f32⟩
  | 102 => ⟨S_, .i32⟩
  | 103 => ⟨S_, .f32⟩
  | 104 => ⟨S87040, .f32⟩
  | 105 => ⟨S680x128, .f32⟩
  | 106 => ⟨S_, .f32⟩
  | 107 => ⟨S4x31x512, .f32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S4x31x512, .f32⟩
  | 118 => ⟨S_, .f32⟩
  | 119 => ⟨S4x3x512, .f32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S4x8, .f32⟩

abbrev hbmTy0_1 (i : Nat) : BufTy := match i % 128 with
  | 0 => ⟨S_, .i32⟩
  | 1 => ⟨S4x3x512, .f32⟩
  | 2 => ⟨S32, .f32⟩
  | 3 => ⟨S2048, .f32⟩
  | 4 => ⟨S2048, .f32⟩
  | 5 => ⟨S2048, .f32⟩
  | 6 => ⟨S4096, .f32⟩
  | 7 => ⟨S4096, .f32⟩
  | 8 => ⟨S63488, .f32⟩
  | 9 => ⟨S6144, .f32⟩
  | 10 => ⟨S86048, .f32⟩
  | 11 => ⟨S_, .i32⟩
  | 12 => ⟨S_, .f32⟩
  | 13 => ⟨S87040, .f32⟩
  | 14 => ⟨S680x128, .f32⟩
  | 15 => ⟨S680x128, .f32⟩
  | 16 => ⟨S680x128, .f32⟩
  | 17 => ⟨S680x128, .f32⟩
  | 18 => ⟨S680x128, .f32⟩
  | _ => ⟨S4x8, .f32⟩

abbrev hbmTy (i : Nat) : BufTy := match i / 128 with
  | 0 => hbmTy0_0 i
  | 1 => hbmTy0_1 i
  | _ => ⟨S4x8, .f32⟩

abbrev bufTy : (tb : Table) → Fin (tcTables nBuf tb) → BufTy
  | .hbm, ⟨i, _⟩ => hbmTy i
  | .local _ .vmem, ⟨0, _⟩ => ⟨S680x128, .f32⟩
  | .local _ .vmem, ⟨1, _⟩ => ⟨S680x128, .f32⟩
  | .local _ .vmem, ⟨2, _⟩ => ⟨S680x128, .f32⟩
  | .local _ .vmem, ⟨3, _⟩ => ⟨S8x680x128, .f32⟩
  | .local _ .vmem, ⟨4, _⟩ => ⟨S680x128, .f32⟩
  | .local _ .vmem, ⟨5, _⟩ => ⟨S680x128, .f32⟩
  | .local _ .vmem, ⟨6, _⟩ => ⟨S680x128, .f32⟩
  | .local _ .vmem, ⟨7, _⟩ => ⟨S680x128, .f32⟩
  | _, _ => ⟨S4x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_c : Ref sig .tc := ⟨.hbm, 34, rfl⟩
abbrev main_v1 : Ref sig .tc := ⟨.hbm, 35, rfl⟩
abbrev main_c_0 : Ref sig .tc := ⟨.hbm, 36, rfl⟩
abbrev main_v2 : Ref sig .tc := ⟨.hbm, 37, rfl⟩
abbrev main_c_1 : Ref sig .tc := ⟨.hbm, 38, rfl⟩
abbrev main_v3 : Ref sig .tc := ⟨.hbm, 39, rfl⟩
abbrev main_v4 : Ref sig .tc := ⟨.hbm, 40, rfl⟩
abbrev main_c_2 : Ref sig .tc := ⟨.hbm, 41, rfl⟩
abbrev main_c_3 : Ref sig .tc := ⟨.hbm, 42, rfl⟩
abbrev main_v5 : Ref sig .tc := ⟨.hbm, 43, rfl⟩
abbrev main_cst_4 : Ref sig .tc := ⟨.hbm, 44, rfl⟩
abbrev main_v6 : Ref sig .tc := ⟨.hbm, 45, rfl⟩
abbrev main_c_5 : Ref sig .tc := ⟨.hbm, 46, rfl⟩
abbrev main_v7 : Ref sig .tc := ⟨.hbm, 47, rfl⟩
abbrev main_c_6 : Ref sig .tc := ⟨.hbm, 48, rfl⟩
abbrev main_v8 : Ref sig .tc := ⟨.hbm, 49, rfl⟩
abbrev main_c_7 : Ref sig .tc := ⟨.hbm, 50, rfl⟩
abbrev main_v9 : Ref sig .tc := ⟨.hbm, 51, rfl⟩
abbrev main_v10 : Ref sig .tc := ⟨.hbm, 52, rfl⟩
abbrev main_c_8 : Ref sig .tc := ⟨.hbm, 53, rfl⟩
abbrev main_c_9 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_c_10 : Ref sig .tc := ⟨.hbm, 65, rfl⟩
abbrev main_call0_v0 : Ref sig .tc := ⟨.hbm, 66, rfl⟩
abbrev main_v21 : Ref sig .tc := ⟨.hbm, 67, rfl⟩
abbrev main_v22 : Ref sig .tc := ⟨.hbm, 68, rfl⟩
abbrev main_cst_11 : Ref sig .tc := ⟨.hbm, 69, rfl⟩
abbrev main_v23 : Ref sig .tc := ⟨.hbm, 70, rfl⟩
abbrev main_c_12 : Ref sig .tc := ⟨.hbm, 71, rfl⟩
abbrev main_v24 : Ref sig .tc := ⟨.hbm, 72, rfl⟩
abbrev main_c_13 : Ref sig .tc := ⟨.hbm, 73, rfl⟩
abbrev main_v25 : Ref sig .tc := ⟨.hbm, 74, rfl⟩
abbrev main_c_14 : Ref sig .tc := ⟨.hbm, 75, rfl⟩
abbrev main_v26 : Ref sig .tc := ⟨.hbm, 76, rfl⟩
abbrev main_v27 : Ref sig .tc := ⟨.hbm, 77, rfl⟩
abbrev main_c_15 : Ref sig .tc := ⟨.hbm, 78, rfl⟩
abbrev main_c_16 : Ref sig .tc := ⟨.hbm, 79, rfl⟩
abbrev main_v28 : Ref sig .tc := ⟨.hbm, 80, rfl⟩
abbrev main_cst_17 : Ref sig .tc := ⟨.hbm, 81, rfl⟩
abbrev main_v29 : Ref sig .tc := ⟨.hbm, 82, rfl⟩
abbrev main_c_18 : Ref sig .tc := ⟨.hbm, 83, rfl⟩
abbrev main_v30 : Ref sig .tc := ⟨.hbm, 84, rfl⟩
abbrev main_c_19 : Ref sig .tc := ⟨.hbm, 85, rfl⟩
abbrev main_v31 : Ref sig .tc := ⟨.hbm, 86, rfl⟩
abbrev main_c_20 : Ref sig .tc := ⟨.hbm, 87, rfl⟩
abbrev main_v32 : Ref sig .tc := ⟨.hbm, 88, rfl⟩
abbrev main_v33 : Ref sig .tc := ⟨.hbm, 89, rfl⟩
abbrev main_c_21 : Ref sig .tc := ⟨.hbm, 90, rfl⟩
abbrev main_c_22 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_23 : Ref sig .tc := ⟨.hbm, 102, rfl⟩
abbrev main_call1_v0 : Ref sig .tc := ⟨.hbm, 103, rfl⟩
abbrev main_v44 : Ref sig .tc := ⟨.hbm, 104, rfl⟩
abbrev main_v45 : Ref sig .tc := ⟨.hbm, 105, rfl⟩
abbrev main_cst_24 : Ref sig .tc := ⟨.hbm, 106, rfl⟩
abbrev main_v46 : Ref sig .tc := ⟨.hbm, 107, rfl⟩
abbrev main_c_25 : Ref sig .tc := ⟨.hbm, 108, rfl⟩
abbrev main_v47 : Ref sig .tc := ⟨.hbm, 109, rfl⟩
abbrev main_c_26 : Ref sig .tc := ⟨.hbm, 110, rfl⟩
abbrev main_v48 : Ref sig .tc := ⟨.hbm, 111, rfl⟩
abbrev main_c_27 : Ref sig .tc := ⟨.hbm, 112, rfl⟩
abbrev main_v49 : Ref sig .tc := ⟨.hbm, 113, rfl⟩
abbrev main_v50 : Ref sig .tc := ⟨.hbm, 114, rfl⟩
abbrev main_c_28 : Ref sig .tc := ⟨.hbm, 115, rfl⟩
abbrev main_c_29 : Ref sig .tc := ⟨.hbm, 116, rfl⟩
abbrev main_v51 : Ref sig .tc := ⟨.hbm, 117, rfl⟩
abbrev main_cst_30 : Ref sig .tc := ⟨.hbm, 118, rfl⟩
abbrev main_v52 : Ref sig .tc := ⟨.hbm, 119, rfl⟩
abbrev main_c_31 : Ref sig .tc := ⟨.hbm, 120, rfl⟩
abbrev main_v53 : Ref sig .tc := ⟨.hbm, 121, rfl⟩
abbrev main_c_32 : Ref sig .tc := ⟨.hbm, 122, rfl⟩
abbrev main_v54 : Ref sig .tc := ⟨.hbm, 123, rfl⟩
abbrev main_c_33 : Ref sig .tc := ⟨.hbm, 124, rfl⟩
abbrev main_v55 : Ref sig .tc := ⟨.hbm, 125, rfl⟩
abbrev main_v56 : Ref sig .tc := ⟨.hbm, 126, rfl⟩
abbrev main_c_34 : Ref sig .tc := ⟨.hbm, 127, rfl⟩
abbrev main_c_35 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_c_36 : Ref sig .tc := ⟨.hbm, 139, rfl⟩
abbrev main_call2_v0 : Ref sig .tc := ⟨.hbm, 140, rfl⟩
abbrev main_v67 : Ref sig .tc := ⟨.hbm, 141, rfl⟩
abbrev main_v68 : Ref sig .tc := ⟨.hbm, 142, rfl⟩
abbrev main_v69_0 : Ref sig .tc := ⟨.hbm, 143, rfl⟩
abbrev main_v69_1 : Ref sig .tc := ⟨.hbm, 144, rfl⟩
abbrev main_v69_2 : Ref sig .tc := ⟨.hbm, 145, rfl⟩
abbrev main_v69_3 : Ref sig .tc := ⟨.hbm, 146, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S680x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S680x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S680x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x680x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S680x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S680x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S680x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S680x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S4x8 : Shape := ⟨2, ![4, 8]⟩
abbrev S4x512 : Shape := ⟨2, ![4, 512]⟩
abbrev S1024 : Shape := ⟨1, ![1024]⟩
abbrev S4x1024 : Shape := ⟨2, ![4, 1024]⟩
abbrev S4x31x64 : Shape := ⟨3, ![4, 31, 64]⟩
abbrev S4x3x64 : Shape := ⟨3, ![4, 3, 64]⟩
abbrev S8x680x128 : Shape := ⟨3, ![8, 680, 128]⟩
abbrev S_ : Shape := ⟨0, ![]⟩
abbrev S8 : Shape := ⟨1, ![8]⟩
abbrev S1x1x8x1 : Shape := ⟨4, ![1, 1, 8, 1]⟩
abbrev S4x31x1x64 : Shape := ⟨4, ![4, 31, 1, 64]⟩
abbrev S4x31x8x64 : Shape := ⟨4, ![4, 31, 8, 64]⟩
abbrev S4x31x512 : Shape := ⟨3, ![4, 31, 512]⟩
abbrev S4x3x1x64 : Shape := ⟨4, ![4, 3, 1, 64]⟩
abbrev S4x3x8x64 : Shape := ⟨4, ![4, 3, 8, 64]⟩
abbrev S4x3x512 : Shape := ⟨3, ![4, 3, 512]⟩
abbrev S32 : Shape := ⟨1, ![32]⟩
abbrev S2048 : Shape := ⟨1, ![2048]⟩
abbrev S4096 : Shape := ⟨1, ![4096]⟩
abbrev S63488 : Shape := ⟨1, ![63488]⟩
abbrev S6144 : Shape := ⟨1, ![6144]⟩
abbrev S86048 : Shape := ⟨1, ![86048]⟩
abbrev S87040 : Shape := ⟨1, ![87040]⟩
abbrev S680x128 : Shape := ⟨2, ![680, 128]⟩

abbrev nBuf : Space → Nat
  | .hbm => 158
  | .vmem => 0
  | .smem => 0
  | _ => 0

abbrev hbmTy0_0 (i : Nat) : BufTy := match i % 128 with
  | 0 => ⟨S4x8, .f32⟩
  | 1 => ⟨S4x512, .f32⟩
  | 2 => ⟨S4x512, .f32⟩
  | 3 => ⟨S4x512, .f32⟩
  | 4 => ⟨S1024, .f32⟩
  | 5 => ⟨S1024, .f32⟩
  | 6 => ⟨S4x1024, .f32⟩
  | 7 => ⟨S4x1024, .f32⟩
  | 8 => ⟨S4x31x64, .f32⟩
  | 9 => ⟨S4x3x64, .f32⟩
  | 10 => ⟨S4x8, .f32⟩
  | 11 => ⟨S4x512, .f32⟩
  | 12 => ⟨S4x512, .f32⟩
  | 13 => ⟨S4x512, .f32⟩
  | 14 => ⟨S1024, .f32⟩
  | 15 => ⟨S1024, .f32⟩
  | 16 => ⟨S4x1024, .f32⟩
  | 17 => ⟨S4x1024, .f32⟩
  | 18 => ⟨S4x31x64, .f32⟩
  | 19 => ⟨S4x3x64, .f32⟩
  | 20 => ⟨S4x8, .f32⟩
  | 21 => ⟨S4x512, .f32⟩
  | 22 => ⟨S4x512, .f32⟩
  | 23 => ⟨S4x512, .f32⟩
  | 24 => ⟨S1024, .f32⟩
  | 25 => ⟨S1024, .f32⟩
  | 26 => ⟨S4x1024, .f32⟩
  | 27 => ⟨S4x1024, .f32⟩
  | 28 => ⟨S4x31x64, .f32⟩
  | 29 => ⟨S4x3x64, .f32⟩
  | 30 => ⟨S8x680x128, .f32⟩
  | 31 => ⟨S_, .i32⟩
  | 32 => ⟨S8, .i32⟩
  | 33 => ⟨S8, .i32⟩
  | 34 => ⟨S8, .i1⟩
  | 35 => ⟨S1x1x8x1, .i1⟩
  | 36 => ⟨S4x31x1x64, .f32⟩
  | 37 => ⟨S_, .f32⟩
  | 38 => ⟨S_, .f32⟩
  | 39 => ⟨S4x31x8x64, .i1⟩
  | 40 => ⟨S4x31x8x64, .f32⟩
  | 41 => ⟨S4x31x8x64, .f32⟩
  | 42 => ⟨S4x31x8x64, .f32⟩
  | 43 => ⟨S4x31x512, .f32⟩
  | 44 => ⟨S4x3x1x64, .f32⟩
  | 45 => ⟨S_, .f32⟩
  | 46 => ⟨S_, .f32⟩
  | 47 => ⟨S4x3x8x64, .i1⟩
  | 48 => ⟨S4x3x8x64, .f32⟩
  | 49 => ⟨S4x3x8x64, .f32⟩
  | 50 => ⟨S4x3x8x64, .f32⟩
  | 51 => ⟨S4x3x512, .f32⟩
  | 52 => ⟨S32, .f32⟩
  | 53 => ⟨S2048, .f32⟩
  | 54 => ⟨S2048, .f32⟩
  | 55 => ⟨S2048, .f32⟩
  | 56 => ⟨S4096, .f32⟩
  | 57 => ⟨S4096, .f32⟩
  | 58 => ⟨S63488, .f32⟩
  | 59 => ⟨S6144, .f32⟩
  | 60 => ⟨S86048, .f32⟩
  | 61 => ⟨S_, .i32⟩
  | 62 => ⟨S_, .f32⟩
  | 63 => ⟨S87040, .f32⟩
  | 64 => ⟨S680x128, .f32⟩
  | 65 => ⟨S4x31x1x64, .f32⟩
  | 66 => ⟨S_, .f32⟩
  | 67 => ⟨S_, .f32⟩
  | 68 => ⟨S4x31x8x64, .i1⟩
  | 69 => ⟨S4x31x8x64, .f32⟩
  | 70 => ⟨S4x31x8x64, .f32⟩
  | 71 => ⟨S4x31x8x64, .f32⟩
  | 72 => ⟨S4x31x512, .f32⟩
  | 73 => ⟨S4x3x1x64, .f32⟩
  | 74 => ⟨S_, .f32⟩
  | 75 => ⟨S_, .f32⟩
  | 76 => ⟨S4x3x8x64, .i1⟩
  | 77 => ⟨S4x3x8x64, .f32⟩
  | 78 => ⟨S4x3x8x64, .f32⟩
  | 79 => ⟨S4x3x8x64, .f32⟩
  | 80 => ⟨S4x3x512, .f32⟩
  | 81 => ⟨S32, .f32⟩
  | 82 => ⟨S2048, .f32⟩
  | 83 => ⟨S2048, .f32⟩
  | 84 => ⟨S2048, .f32⟩
  | 85 => ⟨S4096, .f32⟩
  | 86 => ⟨S4096, .f32⟩
  | 87 => ⟨S63488, .f32⟩
  | 88 => ⟨S6144, .f32⟩
  | 89 => ⟨S86048, .f32⟩
  | 90 => ⟨S_, .i32⟩
  | 91 => ⟨S_, .f32⟩
  | 92 => ⟨S87040, .f32⟩
  | 93 => ⟨S680x128, .f32⟩
  | 94 => ⟨S4x31x1x64, .f32⟩
  | 95 => ⟨S_, .f32⟩
  | 96 => ⟨S_, .f32⟩
  | 97 => ⟨S4x31x8x64, .i1⟩
  | 98 => ⟨S4x31x8x64, .f32⟩
  | 99 => ⟨S4x31x8x64, .f32⟩
  | 100 => ⟨S4x31x8x64, .f32⟩
  | 101 => ⟨S4x31x512, .f32⟩
  | 102 => ⟨S4x3x1x64, .f32⟩
  | 103 => ⟨S_, .f32⟩
  | 104 => ⟨S_, .f32⟩
  | 105 => ⟨S4x3x8x64, .i1⟩
  | 106 => ⟨S4x3x8x64, .f32⟩
  | 107 => ⟨S4x3x8x64, .f32⟩
  | 108 => ⟨S4x3x8x64, .f32⟩
  | 109 => ⟨S4x3x512, .f32⟩
  | 110 => ⟨S32, .f32⟩
  | 111 => ⟨S2048, .f32⟩
  | 112 => ⟨S2048, .f32⟩
  | 113 => ⟨S2048, .f32⟩
  | 114 => ⟨S4096, .f32⟩
  | 115 => ⟨S4096, .f32⟩
  | 116 => ⟨S63488, .f32⟩
  | 117 => ⟨S6144, .f32⟩
  | 118 => ⟨S86048, .f32⟩
  | 119 => ⟨S_, .i32⟩
  | 120 => ⟨S_, .f32⟩
  | 121 => ⟨S87040, .f32⟩
  | 122 => ⟨S680x128, .f32⟩
  | 123 => ⟨S_, .f32⟩
  | 124 => ⟨S680x128, .f32⟩
  | 125 => ⟨S_, .f32⟩
  | 126 => ⟨S680x128, .f32⟩
  | 127 => ⟨S680x128, .f32⟩
  | _ => ⟨S4x8, .f32⟩

abbrev hbmTy0_1 (i : Nat) : BufTy := match i % 128 with
  | 0 => ⟨S_, .f32⟩
  | 1 => ⟨S680x128, .f32⟩
  | 2 => ⟨S680x128, .f32⟩
  | 3 => ⟨S680x128, .f32⟩
  | 4 => ⟨S_, .f32⟩
  | 5 => ⟨S680x128, .f32⟩
  | 6 => ⟨S680x128, .f32⟩
  | 7 => ⟨S680x128, .f32⟩
  | 8 => ⟨S_, .f32⟩
  | 9 => ⟨S680x128, .f32⟩
  | 10 => ⟨S680x128, .f32⟩
  | 11 => ⟨S680x128, .f32⟩
  | 12 => ⟨S_, .f32⟩
  | 13 => ⟨S680x128, .f32⟩
  | 14 => ⟨S680x128, .f32⟩
  | 15 => ⟨S_, .f32⟩
  | 16 => ⟨S680x128, .f32⟩
  | 17 => ⟨S680x128, .f32⟩
  | 18 => ⟨S680x128, .f32⟩
  | 19 => ⟨S_, .f32⟩
  | 20 => ⟨S680x128, .f32⟩
  | 21 => ⟨S680x128, .f32⟩
  | 22 => ⟨S680x128, .f32⟩
  | 23 => ⟨S_, .f32⟩
  | 24 => ⟨S680x128, .f32⟩
  | 25 => ⟨S680x128, .f32⟩
  | 26 => ⟨S680x128, .f32⟩
  | 27 => ⟨S_, .f32⟩
  | 28 => ⟨S680x128, .f32⟩
  | 29 => ⟨S680x128, .f32⟩
  | _ => ⟨S4x8, .f32⟩

abbrev hbmTy (i : Nat) : BufTy := match i / 128 with
  | 0 => hbmTy0_0 i
  | 1 => hbmTy0_1 i
  | _ => ⟨S4x8, .f32⟩

abbrev bufTy : (tb : Table) → Fin (tcTables nBuf tb) → BufTy
  | .hbm, ⟨i, _⟩ => hbmTy i
  | _, _ => ⟨S4x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_cst : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_c : Ref sig .tc := ⟨.hbm, 61, rfl⟩
abbrev main_call2_v0 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_1 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_call3_v3 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_2 : Ref sig .tc := ⟨.hbm, 74, rfl⟩
abbrev main_call4_v0 : Ref sig .tc := ⟨.hbm, 75, rfl⟩
abbrev main_call4_v1 : Ref sig .tc := ⟨.hbm, 76, rfl⟩
abbrev main_call4_v2 : Ref sig .tc := ⟨.hbm, 77, rfl⟩
abbrev main_call4_v3 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_c_3 : Ref sig .tc := ⟨.hbm, 90, rfl⟩
abbrev main_call5_v0 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_cst_4 : Ref sig .tc := ⟨.hbm, 95, rfl⟩
abbrev main_call6_v0 : Ref sig .tc := ⟨.hbm, 96, rfl⟩
abbrev main_call6_v1 : Ref sig .tc := ⟨.hbm, 97, rfl⟩
abbrev main_call6_v2 : Ref sig .tc := ⟨.hbm, 98, rfl⟩
abbrev main_call6_v3 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_cst_5 : Ref sig .tc := ⟨.hbm, 103, rfl⟩
abbrev main_call7_v0 : Ref sig .tc := ⟨.hbm, 104, rfl⟩
abbrev main_call7_v1 : Ref sig .tc := ⟨.hbm, 105, rfl⟩
abbrev main_call7_v2 : Ref sig .tc := ⟨.hbm, 106, rfl⟩
abbrev main_call7_v3 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_c_6 : Ref sig .tc := ⟨.hbm, 119, rfl⟩
abbrev main_call8_v0 : Ref sig .tc := ⟨.hbm, 120, rfl⟩
abbrev main_v53 : Ref sig .tc := ⟨.hbm, 121, rfl⟩
abbrev main_v54 : Ref sig .tc := ⟨.hbm, 122, rfl⟩
abbrev main_cst_7 : Ref sig .tc := ⟨.hbm, 123, rfl⟩
abbrev main_v55 : Ref sig .tc := ⟨.hbm, 124, rfl⟩
abbrev main_cst_8 : Ref sig .tc := ⟨.hbm, 125, rfl⟩
abbrev main_v56 : Ref sig .tc := ⟨.hbm, 126, rfl⟩
abbrev main_v57 : Ref sig .tc := ⟨.hbm, 127, rfl⟩
abbrev main_cst_9 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_cst_10 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_11 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_cst_12 : Ref sig .tc := ⟨.hbm, 140, rfl⟩
abbrev main_v67 : Ref sig .tc := ⟨.hbm, 141, rfl⟩
abbrev main_v68 : Ref sig .tc := ⟨.hbm, 142, rfl⟩
abbrev main_cst_13 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_cst_14 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_cst_15 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_cst_16 : Ref sig .tc := ⟨.hbm, 155, rfl⟩
abbrev main_v78 : Ref sig .tc := ⟨.hbm, 156, rfl⟩
abbrev main_v79 : Ref sig .tc := ⟨.hbm, 157, rfl⟩

abbrev nD : Nat := 1
abbrev τ : Topo := Topo.v7x

variable {F : FTy → Type} [FloatOps F]
-- ==== Kernel9.lean ====
abbrev S8192x1024 : Shape := ⟨2, ![8192, 1024]⟩
abbrev S1x1 : Shape := ⟨2, ![1, 1]⟩
abbrev S256x1024 : Shape := ⟨2, ![256, 1024]⟩
abbrev S1024 : Shape := ⟨1, ![1024]⟩
abbrev S1x1024 : Shape := ⟨2, ![1, 1024]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference9Ideal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel10.lean ====
abbrev S8192x1024 : Shape := ⟨2, ![8192, 1024]⟩
abbrev S8192x1 : Shape := ⟨2, ![8192, 1]⟩
abbrev S1024x1024 : Shape := ⟨2, ![1024, 1024]⟩
abbrev S1x1024 : Shape := ⟨2, ![1, 1024]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S8192x1024, .bf16⟩
  | .hbm, ⟨4, _⟩ => ⟨S1024x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1x1024, .f32⟩
  | .hbm, ⟨10, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1, .f32⟩
  | .local _ .vmem, ⟨5, _⟩ => ⟨S256x1, .f32⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1024x1024, .f32⟩
  | .local _ .vmem, ⟨15, _⟩ => ⟨S1x1024, .f32⟩
  | .local _ .vmem, ⟨16, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference10Ideal.lean ====
abbrev S8192x1024 : Shape := ⟨2, ![8192, 1024]⟩
abbrev S8192x1 : Shape := ⟨2, ![8192, 1]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S1024x8192 : Shape := ⟨2, ![1024, 8192]⟩
abbrev S1024 : Shape := ⟨1, ![1024]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1, .f32⟩
  | .hbm, ⟨3, _⟩ => ⟨S8192x1024, .bf16⟩
  | .hbm, ⟨4, _⟩ => ⟨S1024x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S1024x1024, .f32⟩
  | .hbm, ⟨29, _⟩ => ⟨S1024x1024, .f32⟩
  | .hbm, ⟨30, _⟩ => ⟨S8192x1024, .f32⟩
  | .hbm, ⟨31, _⟩ => ⟨S8192x1024, .f32⟩
  | .hbm, ⟨32, _⟩ => ⟨S1024x8192, .f32⟩
  | .hbm, ⟨33, _⟩ => ⟨S1024x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S_, .f32⟩
  | .hbm, ⟨39, _⟩ => ⟨S1024, .f32⟩
  | .hbm, ⟨40, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Proof.Spec.lean ====
module

public import Idealize.ShloMosaic.Lib.Pipeline.ValueKit

@[expose] public section
noncomputable section
open Idealize.ShloMosaic

/-! # The gradient of the gated memory attention, at one token and one head

The token has a query `q`, a gate `g` and a cotangent `c` of 64 channels each; the memory has 256 slots with a key `k s` and a
value `v s` of 64 channels. Everything below is written as the kernel computes it. -/
namespace Cert.MemGrad

variable (q : Fin 64 → EReal) (k v : Fin 256 → Fin 64 → EReal) (g c : Fin 64 → EReal)

/-- One eighth, the scale of the scores. -/
def eighth : EReal := Ideal.ofBits .f32 1040187392#32

/-- The scaled score of a slot. -/
def score (s : Fin 256) : EReal := (∑ d, q d * k s d) * eighth

/-- The largest score. -/
def top : EReal := Finset.fold max (Ideal.ofBits .f32 4286578688#32) (fun s => score q k s) Finset.univ

/-- The slot's weight before it is normalised. -/
def weight (s : Fin 256) : EReal := Ideal.exp (score q k s - top q k)

/-- The slot's weight. -/
def prob (s : Fin 256) : EReal := Ideal.div (weight q k s) (∑ s, weight q k s)

/-- The attention's output. -/
def out (d : Fin 64) : EReal := ∑ s, prob q k s * v s d

/-- The logistic function. -/
def logi (x : EReal) : EReal := Ideal.div 1 (1 + Ideal.exp (0 - x))

/-- The cotangent of the attention's output. -/
def dout (d : Fin 64) : EReal := c d * g d * logi (g d)

/-- The cotangent of a slot's scaled score. -/
def dscore (s : Fin 256) : EReal := prob q k s * (∑ d, dout g c d * v s d - ∑ d, dout g c d * out q k v d)

/-- The cotangent of the query. -/
def dquery (d : Fin 64) : EReal := (∑ s, dscore q k v g c s * k s d) * eighth

/-- The cotangent of the gate. -/
def dgate (d : Fin 64) : EReal := c d * out q k v d * (logi (g d) * (1 + g d * (1 - logi (g d))))

end Cert.MemGrad
-- ==== Proof.Block.lean ====
module

public import proofs.«01_k».proof.Proof.Gen.KernelIdeal
public import proofs.«01_k».proof.Proof.Spec

@[expose] public section
set_option maxRecDepth 16384
noncomputable section
open Idealize.ShloMosaic Idealize.ShloMosaic.TcCoe Idealize.SL.Sem

/-! # The gradient of the memory attention over one grid point's blocks

A grid point holds 512 tokens: `x0` has their queries in the left 256 columns and their gates in the right 256, head after head,
`x2` their cotangents. `x1` holds the keys and the values of the memory in the same way. -/
namespace Cert.MemGrad
open Cert.KernelIdeal

/-- The query of a head and a token. -/
def qry (x0 : Vec Ideal S512x512 .f32) (h : Fin 4) (r : Fin 512) (d : Fin 64) : EReal := x0 (ix2 r ⟨64 * h.val + d.val, by omega⟩)
/-- The gate of a head and a token. -/
def gat (x0 : Vec Ideal S512x512 .f32) (h : Fin 4) (r : Fin 512) (d : Fin 64) : EReal := x0 (ix2 r ⟨256 + 64 * h.val + d.val, by omega⟩)
/-- The key of a head and a slot. -/
def key (x1 : Vec Ideal S256x512 .f32) (h : Fin 4) (s : Fin 256) (d : Fin 64) : EReal := x1 (ix2 s ⟨64 * h.val + d.val, by omega⟩)
/-- The value of a head and a slot. -/
def val (x1 : Vec Ideal S256x512 .f32) (h : Fin 4) (s : Fin 256) (d : Fin 64) : EReal := x1 (ix2 s ⟨256 + 64 * h.val + d.val, by omega⟩)
/-- The cotangent of a head and a token. -/
def cot (x2 : Vec Ideal S512x256 .f32) (h : Fin 4) (r : Fin 512) (d : Fin 64) : EReal := x2 (ix2 r ⟨64 * h.val + d.val, by omega⟩)

variable (x0 : Vec Ideal S512x512 .f32) (x1 : Vec Ideal S256x512 .f32) (x2 : Vec Ideal S512x256 .f32)

/-- What the point's tokens add to the gradient of a key. -/
def dkeyPart (h : Fin 4) (s : Fin 256) (d : Fin 64) : EReal :=
  (∑ r, dscore (qry x0 h r) (key x1 h) (val x1 h) (gat x0 h r) (cot x2 h r) s * qry x0 h r d) * eighth

/-- What the point's tokens add to the gradient of a value. -/
def dvalPart (h : Fin 4) (s : Fin 256) (d : Fin 64) : EReal :=
  ∑ r, prob (qry x0 h r) (key x1 h) s * dout (gat x0 h r) (cot x2 h r) d

/-- What the point adds to the gradient of keys and values, as one array. -/
def part (y : S256x512.Idx) : EReal :=
  if (y 1).val < 256 then dkeyPart x0 x1 x2 ⟨(y 1).val / 64 % 4, by omega⟩ (y 0) ⟨(y 1).val % 64, by omega⟩
  else dvalPart x0 x1 x2 ⟨(y 1).val / 64 % 4, by omega⟩ (y 0) ⟨(y 1).val % 64, by omega⟩

/-- What the point stores for its own tokens: the gradient of the queries, then of the gates. -/
def rowGrad (y : S512x512.Idx) : EReal :=
  if (y 1).val < 256 then
    dquery (qry x0 ⟨(y 1).val / 64 % 4, by omega⟩ (y 0)) (key x1 ⟨(y 1).val / 64 % 4, by omega⟩) (val x1 ⟨(y 1).val / 64 % 4, by omega⟩)
      (gat x0 ⟨(y 1).val / 64 % 4, by omega⟩ (y 0)) (cot x2 ⟨(y 1).val / 64 % 4, by omega⟩ (y 0)) ⟨(y 1).val % 64, by omega⟩
  else
    dgate (qry x0 ⟨(y 1).val / 64 % 4, by omega⟩ (y 0)) (key x1 ⟨(y 1).val / 64 % 4, by omega⟩) (val x1 ⟨(y 1).val / 64 % 4, by omega⟩)
      (gat x0 ⟨(y 1).val / 64 % 4, by omega⟩ (y 0)) (cot x2 ⟨(y 1).val / 64 % 4, by omega⟩ (y 0)) ⟨(y 1).val % 64, by omega⟩

theorem part_key (y : S256x512.Idx) (h : Fin 4) (s : Fin 256) (d : Fin 64) (h0 : (y 0).val = s.val) (h1 : (y 1).val = 64 * h.val + d.val) :
    part x0 x1 x2 y = dkeyPart x0 x1 x2 h s d := by
  have e0 : (y 0 : Fin 256) = s := Fin.ext h0
  have e1 : (⟨(y 1).val / 64 % 4, by omega⟩ : Fin 4) = h := Fin.ext (by show (y 1).val / 64 % 4 = h.val; omega)
  have e2 : (⟨(y 1).val % 64, by omega⟩ : Fin 64) = d := Fin.ext (by show (y 1).val % 64 = d.val; omega)
  unfold part
  rw [if_pos (by omega), e1, e2]
  exact congrArg (fun s => dkeyPart x0 x1 x2 h s d) e0

theorem part_val (y : S256x512.Idx) (h : Fin 4) (s : Fin 256) (d : Fin 64) (h0 : (y 0).val = s.val)
    (h1 : (y 1).val = 256 + 64 * h.val + d.val) : part x0 x1 x2 y = dvalPart x0 x1 x2 h s d := by
  have e0 : (y 0 : Fin 256) = s := Fin.ext h0
  have e1 : (⟨(y 1).val / 64 % 4, by omega⟩ : Fin 4) = h := Fin.ext (by show (y 1).val / 64 % 4 = h.val; omega)
  have e2 : (⟨(y 1).val % 64, by omega⟩ : Fin 64) = d := Fin.ext (by show (y 1).val % 64 = d.val; omega)
  unfold part
  rw [if_neg (by omega), e1, e2]
  exact congrArg (fun s => dvalPart x0 x1 x2 h s d) e0

theorem rowGrad_query (y : S512x512.Idx) (h : Fin 4) (r : Fin 512) (d : Fin 64) (h0 : (y 0).val = r.val)
    (h1 : (y 1).val = 64 * h.val + d.val) :
    rowGrad x0 x1 x2 y = dquery (qry x0 h r) (key x1 h) (val x1 h) (gat x0 h r) (cot x2 h r) d := by
  have e0 : (y 0 : Fin 512) = r := Fin.ext h0
  have e1 : (⟨(y 1).val / 64 % 4, by omega⟩ : Fin 4) = h := Fin.ext (by show (y 1).val / 64 % 4 = h.val; omega)
  have e2 : (⟨(y 1).val % 64, by omega⟩ : Fin 64) = d := Fin.ext (by show (y 1).val % 64 = d.val; omega)
  unfold rowGrad
  rw [if_pos (by omega), e1, e2]
  exact congrArg (fun r => dquery (qry x0 h r) (key x1 h) (val x1 h) (gat x0 h r) (cot x2 h r) d) e0

theorem rowGrad_gate (y : S512x512.Idx) (h : Fin 4) (r : Fin 512) (d : Fin 64) (h0 : (y 0).val = r.val)
    (h1 : (y 1).val = 256 + 64 * h.val + d.val) :
    rowGrad x0 x1 x2 y = dgate (qry x0 h r) (key x1 h) (val x1 h) (gat x0 h r) (cot x2 h r) d := by
  have e0 : (y 0 : Fin 512) = r := Fin.ext h0
  have e1 : (⟨(y 1).val / 64 % 4, by omega⟩ : Fin 4) = h := Fin.ext (by show (y 1).val / 64 % 4 = h.val; omega)
  have e2 : (⟨(y 1).val % 64, by omega⟩ : Fin 64) = d := Fin.ext (by show (y 1).val % 64 = d.val; omega)
  unfold rowGrad
  rw [if_neg (by omega), e1, e2]
  exact congrArg (fun r => dgate (qry x0 h r) (key x1 h) (val x1 h) (gat x0 h r) (cot x2 h r) d) e0

end Cert.MemGrad
-- ==== Proof.Reads.lean ====
module

public import proofs.«01_k».proof.Proof.Gen.KernelIdeal.Value
public import proofs.«01_k».proof.Proof.Block
public import Idealize.ShloMosaic.Lib.Claim

@[expose] public section
set_option maxRecDepth 16384
noncomputable section
open Idealize.ShloMosaic Idealize.ShloMosaic.TcCoe Idealize.SL.Sem

/-! # The blocks of a grid point are parts of the arguments

Point `t` holds the tokens 512·t to 512·t + 511, the columns 8704 to 9215 of the projection (which are the memory branch's queries and
gates), and the whole memory. -/
namespace Cert.MemGrad
open Cert.KernelIdeal Cert.KernelIdeal.Gen
variable (m : (ℓ : Loc nD τ sig) → Buf (Elt Ideal) ℓ)

/-- An array of 8192 tokens read at a head and a channel. -/
def tok (A : Vec Ideal S8192x256 .f32) (h : Fin 4) (r : Fin 8192) (d : Fin 64) : EReal := A (ix2 r ⟨64 * h.val + d.val, by omega⟩)

theorem point_lt (t : Fin cfg0.N) : t.val < 16 := lt_of_lt_of_eq t.isLt N_0

/-- The token of row `r` of point `t`. -/
def row (t : Fin cfg0.N) (r : Fin 512) : Fin 8192 := ⟨512 * t.val + r.val, by have := point_lt t; omega⟩

theorem idx0 : ∀ t : Fin cfg0.N, win0_0.index t 0 = t.val ∧ win0_0.index t 1 = 17 :=
  (by decide +kernel : ∀ t : Fin grid0.N, win0_0.index t 0 = t.val ∧ win0_0.index t 1 = 17)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 17 :=
  (by decide +kernel : ∀ t : Fin grid0.N, win0_3.index t 0 = t.val ∧ win0_3.index t 1 = 17)

/-- Columns 8704 to 8959 of the projection are the queries. -/
theorem proj_query (c : Dev nD) (x : S8192x10368.Idx) (a : Fin 8192) (b : Fin 256) (h0 : (x 0).val = a.val) (h1 : (x 1).val = 8704 + b.val) :
    V m c main_v0 x = m ((c : Thread nD τ).loc main_arg1) (ix2 a b) := by
  have hb : 8704 + b.val < 10368 := by have := b.isLt; clear h0 h1; omega
  have hx : x = (ix2 a ⟨8704 + b.val, hb⟩ : S8192x10368.Idx) := by blk_ext [h0, h1]
  rw [hx]
  entry_read
  pointwise

/-- Columns 8960 to 9215 of the projection are the gates. -/
theorem proj_gate (c : Dev nD) (x : S8192x10368.Idx) (a : Fin 8192) (b : Fin 256) (h0 : (x 0).val = a.val) (h1 : (x 1).val = 8960 + b.val) :
    V m c main_v0 x = m ((c : Thread nD τ).loc main_arg2) (ix2 a b) := by
  have hb : 8960 + b.val < 10368 := by have := b.isLt; clear h0 h1; omega
  have hx : x = (ix2 a ⟨8960 + b.val, hb⟩ : S8192x10368.Idx) := by blk_ext [h0, h1]
  rw [hx]
  entry_read
  pointwise
  rw [dif_neg (by omega), dif_neg (by omega), dif_pos (by omega)]
  exact congrArg (fun z => m ((c : Thread nD τ).loc main_arg2) (ix2 a z)) (Fin.ext (by show 8960 + b.val - 8704 - 256 = b.val; omega))

theorem qry_read (c : Dev nD) (t : Fin cfg0.N) (h : Fin 4) (r : Fin 512) (d : Fin 64) :
    qry (X0_0 m c t) h r d = tok (m ((c : Thread nD τ).loc main_arg1)) h (row t r) d := by
  unfold qry X0_0 Pipeline.Window.fill tok
  rw [dif_pos (moved0_0 t _)]
  blk_simp [iblk]
  refine proj_query m c _ _ _ ?_ ?_
  · unfold row; blk_simp [idx0 t]; dsimp only; omega
  · blk_simp [idx0 t]

theorem gat_read (c : Dev nD) (t : Fin cfg0.N) (h : Fin 4) (r : Fin 512) (d : Fin 64) :
    gat (X0_0 m c t) h r d = tok (m ((c : Thread nD τ).loc main_arg2)) h (row t r) d := by
  unfold gat X0_0 Pipeline.Window.fill tok
  rw [dif_pos (moved0_0 t _)]
  blk_simp [iblk]
  refine proj_gate m c _ _ _ ?_ ?_
  · unfold row; blk_simp [idx0 t]; dsimp only; omega
  · blk_simp [idx0 t]; dsimp only; omega

theorem key_read (c : Dev nD) (t : Fin cfg0.N) (h : Fin 4) (s : Fin 256) (d : Fin 64) :
    key (iblk m c 1 t) h s d = key (m ((c : Thread nD τ).loc main_arg4)) h s d := by
  unfold key
  blk_point [iblk, V, idx1 t]

theorem val_read (c : Dev nD) (t : Fin cfg0.N) (h : Fin 4) (s : Fin 256) (d : Fin 64) :
    val (iblk m c 1 t) h s d = val (m ((c : Thread nD τ).loc main_arg4)) h s d := by
  unfold val
  blk_point [iblk, V, idx1 t]

theorem cot_read (c : Dev nD) (t : Fin cfg0.N) (h : Fin 4) (r : Fin 512) (d : Fin 64) :
    cot (iblk m c 2 t) h r d = tok (m ((c : Thread nD τ).loc main_arg5)) h (row t r) d := by
  unfold cot tok row
  blk_point [iblk, V, idx2 t]

end Cert.MemGrad
-- ==== Proof.KeyTiles.lean ====
module

public import proofs.«01_k».proof.Proof.Gen.KernelIdeal.Value
public import proofs.«01_k».proof.Proof.Block

@[expose] public section
set_option maxRecDepth 16384
noncomputable section
open Idealize.ShloMosaic Idealize.ShloMosaic.TcCoe Idealize.SL.Sem

/-! # What one grid point adds to the gradient of the memory's keys and values, store by store -/
namespace Cert.MemGrad
open Cert.KernelIdeal Cert.KernelIdeal.Gen

variable (x0 : Vec Ideal S512x512 .f32) (x1 : Vec Ideal S256x512 .f32) (x2 : Vec Ideal S512x256 .f32) (acc : Vec Ideal S256x512 .f32)

/-- Head 0's store into the gradient of the keys. -/
theorem tile_key_0 (x : S256x64.Idx) :
    k0_pay17 (k0_pay8 (View.ld x0 (Rect.unit ![0, 0] ![512, 64] inb_S512x512_S512x64_0_0)) (View.ld x1 (Rect.unit ![0, 0] ![256, 64] inb_S256x512_S256x64_0_0))) (k0_pay10 (View.ld x1 (Rect.unit ![0, 256] ![256, 64] inb_S256x512_S256x64_0_256))) (k0_pay11 (View.ld x0 (Rect.unit ![0, 0] ![512, 64] inb_S512x512_S512x64_0_0)) (View.ld x1 (Rect.unit ![0, 0] ![256, 64] inb_S256x512_S256x64_0_0)) (View.ld x1 (Rect.unit ![0, 256] ![256, 64] inb_S256x512_S256x64_0_256))) (k0_pay12 (View.ld x0 (Rect.unit ![0, 256] ![512, 256] inb_S512x512_S512x256_0_256)) (View.ld x2 (Rect.unit ![0, 0] ![512, 64] inb_S512x256_S512x64_0_0))) (View.ld acc (Rect.unit ![0, 0] ![256, 64] inb_S256x512_S256x64_0_0)) (View.ld x0 (Rect.unit ![0, 0] ![512, 64] inb_S512x512_S512x64_0_0)) x
      = acc ((Rect.unit (s := S256x512) ![0, 0] ![256, 64] inb_S256x512_S256x64_0_0).emb x) + part x0 x1 x2 ((Rect.unit (s := S256x512) ![0, 0] ![256, 64] inb_S256x512_S256x64_0_0).emb x) := by
  rw [part_key x0 x1 x2 _ 0 (x 0) (x 1) (by blk_simp) (by blk_simp; show _ = 64 * 0 + (x 1).val; omega)]
  pointwise [k0_pay6, k0_pay7, k0_pay8, k0_pay9, k0_pay10, k0_pay11, k0_pay12, k0_pay14, k0_pay15, k0_pay17]
  simp only [dkeyPart, dscore, prob, weight, out, top, score, dout, logi, eighth, qry, gat, key, val, cot]
  blk_point

/-- Head 0's store into the gradient of the values. -/
theorem tile_val_0 (x : S256x64.Idx) :
    k0_pay18 (k0_pay9 (View.ld x0 (Rect.unit ![0, 0] ![512, 64] inb_S512x512_S512x64_0_0)) (View.ld x1 (Rect.unit ![0, 0] ![256, 64] inb_S256x512_S256x64_0_0))) (k0_pay14 (k0_pay12 (View.ld x0 (Rect.unit ![0, 256] ![512, 256] inb_S512x512_S512x256_0_256)) (View.ld x2 (Rect.unit ![0, 0] ![512, 64] inb_S512x256_S512x64_0_0)))) (View.ld acc (Rect.unit ![0, 256] ![256, 64] inb_S256x512_S256x64_0_256)) x
      = acc ((Rect.unit (s := S256x512) ![0, 256] ![256, 64] inb_S256x512_S256x64_0_256).emb x) + part x0 x1 x2 ((Rect.unit (s := S256x512) ![0, 256] ![256, 64] inb_S256x512_S256x64_0_256).emb x) := by
  rw [part_val x0 x1 x2 _ 0 (x 0) (x 1) (by blk_simp) (by blk_simp; show _ = 256 + 64 * 0 + (x 1).val; omega)]
  pointwise [k0_pay6, k0_pay7, k0_pay8, k0_pay9, k0_pay12, k0_pay14, k0_pay18]
  simp only [dvalPart, dscore, prob, weight, out, top, score, dout, logi, eighth, qry, gat, key, val, cot]
  blk_point

/-- Head 1's store into the gradient of the keys. -/
theorem tile_key_1 (x : S256x64.Idx) :
    k0_pay32 (k0_pay19 (View.ld x0 (Rect.unit ![0, 64] ![512, 64] inb_S512x512_S512x64_0_64)) (View.ld x1 (Rect.unit ![0, 64] ![256, 64] inb_S256x512_S256x64_0_64))) (k0_pay21 (View.ld x1 (Rect.unit ![0, 320] ![256, 64] inb_S256x512_S256x64_0_320))) (k0_pay22 (View.ld x0 (Rect.unit ![0, 64] ![512, 64] inb_S512x512_S512x64_0_64)) (View.ld x1 (Rect.unit ![0, 64] ![256, 64] inb_S256x512_S256x64_0_64)) (View.ld x1 (Rect.unit ![0, 320] ![256, 64] inb_S256x512_S256x64_0_320))) (k0_pay23 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 64] ![512, 64] inb_S512x256_S512x64_0_64))) (View.ld acc (Rect.unit ![0, 64] ![256, 64] inb_S256x512_S256x64_0_64)) (View.ld x0 (Rect.unit ![0, 64] ![512, 64] inb_S512x512_S512x64_0_64)) x
      = acc ((Rect.unit (s := S256x512) ![0, 64] ![256, 64] inb_S256x512_S256x64_0_64).emb x) + part x0 x1 x2 ((Rect.unit (s := S256x512) ![0, 64] ![256, 64] inb_S256x512_S256x64_0_64).emb x) := by
  rw [part_key x0 x1 x2 _ 1 (x 0) (x 1) (by blk_simp) (by blk_simp; show _ = 64 * 1 + (x 1).val; omega)]
  pointwise [k0_pay6, k0_pay7, k0_pay19, k0_pay20, k0_pay21, k0_pay22, k0_pay23, k0_pay29, k0_pay30, k0_pay32]
  simp only [dkeyPart, dscore, prob, weight, out, top, score, dout, logi, eighth, qry, gat, key, val, cot]
  blk_point

/-- Head 1's store into the gradient of the values. -/
theorem tile_val_1 (x : S256x64.Idx) :
    k0_pay33 (k0_pay20 (View.ld x0 (Rect.unit ![0, 64] ![512, 64] inb_S512x512_S512x64_0_64)) (View.ld x1 (Rect.unit ![0, 64] ![256, 64] inb_S256x512_S256x64_0_64))) (k0_pay23 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 64] ![512, 64] inb_S512x256_S512x64_0_64))) (View.ld acc (Rect.unit ![0, 320] ![256, 64] inb_S256x512_S256x64_0_320)) x
      = acc ((Rect.unit (s := S256x512) ![0, 320] ![256, 64] inb_S256x512_S256x64_0_320).emb x) + part x0 x1 x2 ((Rect.unit (s := S256x512) ![0, 320] ![256, 64] inb_S256x512_S256x64_0_320).emb x) := by
  rw [part_val x0 x1 x2 _ 1 (x 0) (x 1) (by blk_simp) (by blk_simp; show _ = 256 + 64 * 1 + (x 1).val; omega)]
  pointwise [k0_pay6, k0_pay7, k0_pay19, k0_pay20, k0_pay23, k0_pay29, k0_pay33]
  simp only [dvalPart, dscore, prob, weight, out, top, score, dout, logi, eighth, qry, gat, key, val, cot]
  blk_point

/-- Head 2's store into the gradient of the keys. -/
theorem tile_key_2 (x : S256x64.Idx) :
    k0_pay43 (k0_pay34 (View.ld x0 (Rect.unit ![0, 128] ![512, 64] inb_S512x512_S512x64_0_128)) (View.ld x1 (Rect.unit ![0, 128] ![256, 64] inb_S256x512_S256x64_0_128))) (k0_pay36 (View.ld x1 (Rect.unit ![0, 384] ![256, 64] inb_S256x512_S256x64_0_384))) (k0_pay37 (View.ld x0 (Rect.unit ![0, 128] ![512, 64] inb_S512x512_S512x64_0_128)) (View.ld x1 (Rect.unit ![0, 128] ![256, 64] inb_S256x512_S256x64_0_128)) (View.ld x1 (Rect.unit ![0, 384] ![256, 64] inb_S256x512_S256x64_0_384))) (k0_pay38 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 128] ![512, 64] inb_S512x256_S512x64_0_128))) (k0_pay40 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 128] ![512, 64] inb_S512x256_S512x64_0_128))) (View.ld acc (Rect.unit ![0, 128] ![256, 64] inb_S256x512_S256x64_0_128)) (View.ld x0 (Rect.unit ![0, 128] ![512, 64] inb_S512x512_S512x64_0_128)) x
      = acc ((Rect.unit (s := S256x512) ![0, 128] ![256, 64] inb_S256x512_S256x64_0_128).emb x) + part x0 x1 x2 ((Rect.unit (s := S256x512) ![0, 128] ![256, 64] inb_S256x512_S256x64_0_128).emb x) := by
  rw [part_key x0 x1 x2 _ 2 (x 0) (x 1) (by blk_simp) (by blk_simp; show _ = 64 * 2 + (x 1).val; omega)]
  pointwise [k0_pay6, k0_pay7, k0_pay34, k0_pay35, k0_pay36, k0_pay37, k0_pay38, k0_pay40, k0_pay41, k0_pay43]
  simp only [dkeyPart, dscore, prob, weight, out, top, score, dout, logi, eighth, qry, gat, key, val, cot]
  blk_point

/-- Head 2's store into the gradient of the values. -/
theorem tile_val_2 (x : S256x64.Idx) :
    k0_pay44 (k0_pay35 (View.ld x0 (Rect.unit ![0, 128] ![512, 64] inb_S512x512_S512x64_0_128)) (View.ld x1 (Rect.unit ![0, 128] ![256, 64] inb_S256x512_S256x64_0_128))) (k0_pay40 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 128] ![512, 64] inb_S512x256_S512x64_0_128))) (View.ld acc (Rect.unit ![0, 384] ![256, 64] inb_S256x512_S256x64_0_384)) x
      = acc ((Rect.unit (s := S256x512) ![0, 384] ![256, 64] inb_S256x512_S256x64_0_384).emb x) + part x0 x1 x2 ((Rect.unit (s := S256x512) ![0, 384] ![256, 64] inb_S256x512_S256x64_0_384).emb x) := by
  rw [part_val x0 x1 x2 _ 2 (x 0) (x 1) (by blk_simp) (by blk_simp; show _ = 256 + 64 * 2 + (x 1).val; omega)]
  pointwise [k0_pay6, k0_pay7, k0_pay34, k0_pay35, k0_pay38, k0_pay40, k0_pay44]
  simp only [dvalPart, dscore, prob, weight, out, top, score, dout, logi, eighth, qry, gat, key, val, cot]
  blk_point

/-- Head 3's store into the gradient of the keys. -/
theorem tile_key_3 (x : S256x64.Idx) :
    k0_pay3 (k0_pay53 (k0_pay6 (View.ld x0 (Rect.unit ![0, 256] ![512, 256] inb_S512x512_S512x256_0_256))) (k0_pay7 (View.ld x0 (Rect.unit ![0, 256] ![512, 256] inb_S512x512_S512x256_0_256))) (k0_pay45 (View.ld x0 (Rect.unit ![0, 192] ![512, 64] inb_S512x512_S512x64_0_192))) (View.ld x1 (Rect.unit ![0, 192] ![256, 64] inb_S256x512_S256x64_0_192)) (View.ld x1 (Rect.unit ![0, 448] ![256, 64] inb_S256x512_S256x64_0_448)) (View.ld x2 (Rect.unit ![0, 192] ![512, 64] inb_S512x256_S512x64_0_192))) (View.ld acc (Rect.unit ![0, 192] ![256, 64] inb_S256x512_S256x64_0_192)) (View.ld x0 (Rect.unit ![0, 192] ![512, 64] inb_S512x512_S512x64_0_192)) x
      = acc ((Rect.unit (s := S256x512) ![0, 192] ![256, 64] inb_S256x512_S256x64_0_192).emb x) + part x0 x1 x2 ((Rect.unit (s := S256x512) ![0, 192] ![256, 64] inb_S256x512_S256x64_0_192).emb x) := by
  rw [part_key x0 x1 x2 _ 3 (x 0) (x 1) (by blk_simp) (by blk_simp; show _ = 64 * 3 + (x 1).val; omega)]
  pointwise [k0_pay1, k0_pay3, k0_pay6, k0_pay7, k0_pay45, k0_pay46, k0_pay47, k0_pay48, k0_pay49, k0_pay50, k0_pay52, k0_pay53]
  simp only [dkeyPart, dscore, prob, weight, out, top, score, dout, logi, eighth, qry, gat, key, val, cot]
  blk_point

/-- Head 3's store into the gradient of the values. -/
theorem tile_val_3 (x : S256x64.Idx) :
    k0_pay4 (k0_pay47 (k0_pay45 (View.ld x0 (Rect.unit ![0, 192] ![512, 64] inb_S512x512_S512x64_0_192))) (View.ld x1 (Rect.unit ![0, 192] ![256, 64] inb_S256x512_S256x64_0_192))) (k0_pay52 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 192] ![512, 64] inb_S512x256_S512x64_0_192))) (View.ld acc (Rect.unit ![0, 448] ![256, 64] inb_S256x512_S256x64_0_448)) x
      = acc ((Rect.unit (s := S256x512) ![0, 448] ![256, 64] inb_S256x512_S256x64_0_448).emb x) + part x0 x1 x2 ((Rect.unit (s := S256x512) ![0, 448] ![256, 64] inb_S256x512_S256x64_0_448).emb x) := by
  rw [part_val x0 x1 x2 _ 3 (x 0) (x 1) (by blk_simp) (by blk_simp; show _ = 256 + 64 * 3 + (x 1).val; omega)]
  pointwise [k0_pay4, k0_pay6, k0_pay7, k0_pay45, k0_pay46, k0_pay47, k0_pay50, k0_pay52]
  simp only [dvalPart, dscore, prob, weight, out, top, score, dout, logi, eighth, qry, gat, key, val, cot]
  blk_point

end Cert.MemGrad
-- ==== Proof.RowTiles.lean ====
module

public import proofs.«01_k».proof.Proof.Gen.KernelIdeal.Value
public import proofs.«01_k».proof.Proof.Block

@[expose] public section
set_option maxRecDepth 16384
noncomputable section
open Idealize.ShloMosaic Idealize.ShloMosaic.TcCoe Idealize.SL.Sem

/-! # What one grid point stores into the gradient of the projection, store by store -/
namespace Cert.MemGrad
open Cert.KernelIdeal Cert.KernelIdeal.Gen

variable (x0 : Vec Ideal S512x512 .f32) (x1 : Vec Ideal S256x512 .f32) (x2 : Vec Ideal S512x256 .f32)

/-- Head 0's store into the gradient of the gate. -/
theorem tile_gate_0 (x : S512x64.Idx) :
    k0_pay13 (k0_pay6 (View.ld x0 (Rect.unit ![0, 256] ![512, 256] inb_S512x512_S512x256_0_256))) (k0_pay7 (View.ld x0 (Rect.unit ![0, 256] ![512, 256] inb_S512x512_S512x256_0_256))) (k0_pay11 (View.ld x0 (Rect.unit ![0, 0] ![512, 64] inb_S512x512_S512x64_0_0)) (View.ld x1 (Rect.unit ![0, 0] ![256, 64] inb_S256x512_S256x64_0_0)) (View.ld x1 (Rect.unit ![0, 256] ![256, 64] inb_S256x512_S256x64_0_256))) (View.ld x2 (Rect.unit ![0, 0] ![512, 64] inb_S512x256_S512x64_0_0)) x
      = rowGrad x0 x1 x2 ((Rect.unit (s := S512x512) ![0, 256] ![512, 64] inb_S512x512_S512x64_0_256).emb x) := by
  rw [rowGrad_gate x0 x1 x2 _ 0 (x 0) (x 1) (by blk_simp) (by blk_simp; show _ = 256 + 64 * 0 + (x 1).val; omega)]
  pointwise [k0_pay6, k0_pay7, k0_pay8, k0_pay9, k0_pay10, k0_pay11, k0_pay13]
  simp only [dgate, dquery, dscore, prob, weight, out, top, score, dout, logi, eighth, qry, gat, key, val, cot]
  blk_point

/-- Head 0's store into the gradient of the query. -/
theorem tile_query_0 (x : S512x64.Idx) :
    k0_pay16 (k0_pay8 (View.ld x0 (Rect.unit ![0, 0] ![512, 64] inb_S512x512_S512x64_0_0)) (View.ld x1 (Rect.unit ![0, 0] ![256, 64] inb_S256x512_S256x64_0_0))) (k0_pay10 (View.ld x1 (Rect.unit ![0, 256] ![256, 64] inb_S256x512_S256x64_0_256))) (k0_pay11 (View.ld x0 (Rect.unit ![0, 0] ![512, 64] inb_S512x512_S512x64_0_0)) (View.ld x1 (Rect.unit ![0, 0] ![256, 64] inb_S256x512_S256x64_0_0)) (View.ld x1 (Rect.unit ![0, 256] ![256, 64] inb_S256x512_S256x64_0_256))) (k0_pay12 (View.ld x0 (Rect.unit ![0, 256] ![512, 256] inb_S512x512_S512x256_0_256)) (View.ld x2 (Rect.unit ![0, 0] ![512, 64] inb_S512x256_S512x64_0_0))) (View.ld x1 (Rect.unit ![0, 0] ![256, 64] inb_S256x512_S256x64_0_0)) x
      = rowGrad x0 x1 x2 ((Rect.unit (s := S512x512) ![0, 0] ![512, 64] inb_S512x512_S512x64_0_0).emb x) := by
  rw [rowGrad_query x0 x1 x2 _ 0 (x 0) (x 1) (by blk_simp) (by blk_simp; show _ = 64 * 0 + (x 1).val; omega)]
  pointwise [k0_pay6, k0_pay7, k0_pay8, k0_pay9, k0_pay10, k0_pay11, k0_pay12, k0_pay14, k0_pay15, k0_pay16]
  simp only [dgate, dquery, dscore, prob, weight, out, top, score, dout, logi, eighth, qry, gat, key, val, cot]
  blk_point

/-- Head 1's store into the gradient of the gate. -/
theorem tile_gate_1 (x : S512x64.Idx) :
    k0_pay28 (k0_pay24 (View.ld x0 (Rect.unit ![0, 64] ![512, 64] inb_S512x512_S512x64_0_64)) (View.ld x1 (Rect.unit ![0, 64] ![256, 64] inb_S256x512_S256x64_0_64)) (View.ld x1 (Rect.unit ![0, 320] ![256, 64] inb_S256x512_S256x64_0_320)) (View.ld x2 (Rect.unit ![0, 64] ![512, 64] inb_S512x256_S512x64_0_64))) (k0_pay25 (k0_pay7 (View.ld x0 (Rect.unit ![0, 256] ![512, 256] inb_S512x512_S512x256_0_256)))) (k0_pay26 (k0_pay6 (View.ld x0 (Rect.unit ![0, 256] ![512, 256] inb_S512x512_S512x256_0_256))) (k0_pay7 (View.ld x0 (Rect.unit ![0, 256] ![512, 256] inb_S512x512_S512x256_0_256)))) k0_pay27 x
      = rowGrad x0 x1 x2 ((Rect.unit (s := S512x512) ![0, 320] ![512, 64] inb_S512x512_S512x64_0_320).emb x) := by
  rw [rowGrad_gate x0 x1 x2 _ 1 (x 0) (x 1) (by blk_simp) (by blk_simp; show _ = 256 + 64 * 1 + (x 1).val; omega)]
  pointwise [k0_pay6, k0_pay7, k0_pay19, k0_pay20, k0_pay21, k0_pay22, k0_pay24, k0_pay25, k0_pay26, k0_pay27, k0_pay28]
  simp only [dgate, dquery, dscore, prob, weight, out, top, score, dout, logi, eighth, qry, gat, key, val, cot]
  blk_point

/-- Head 1's store into the gradient of the query. -/
theorem tile_query_1 (x : S512x64.Idx) :
    k0_pay31 (k0_pay19 (View.ld x0 (Rect.unit ![0, 64] ![512, 64] inb_S512x512_S512x64_0_64)) (View.ld x1 (Rect.unit ![0, 64] ![256, 64] inb_S256x512_S256x64_0_64))) (k0_pay21 (View.ld x1 (Rect.unit ![0, 320] ![256, 64] inb_S256x512_S256x64_0_320))) (k0_pay22 (View.ld x0 (Rect.unit ![0, 64] ![512, 64] inb_S512x512_S512x64_0_64)) (View.ld x1 (Rect.unit ![0, 64] ![256, 64] inb_S256x512_S256x64_0_64)) (View.ld x1 (Rect.unit ![0, 320] ![256, 64] inb_S256x512_S256x64_0_320))) (k0_pay23 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 64] ![512, 64] inb_S512x256_S512x64_0_64))) (View.ld x1 (Rect.unit ![0, 64] ![256, 64] inb_S256x512_S256x64_0_64)) x
      = rowGrad x0 x1 x2 ((Rect.unit (s := S512x512) ![0, 64] ![512, 64] inb_S512x512_S512x64_0_64).emb x) := by
  rw [rowGrad_query x0 x1 x2 _ 1 (x 0) (x 1) (by blk_simp) (by blk_simp; show _ = 64 * 1 + (x 1).val; omega)]
  pointwise [k0_pay6, k0_pay7, k0_pay19, k0_pay20, k0_pay21, k0_pay22, k0_pay23, k0_pay29, k0_pay30, k0_pay31]
  simp only [dgate, dquery, dscore, prob, weight, out, top, score, dout, logi, eighth, qry, gat, key, val, cot]
  blk_point

/-- Head 2's store into the gradient of the gate. -/
theorem tile_gate_2 (x : S512x64.Idx) :
    k0_pay39 (k0_pay6 (View.ld x0 (Rect.unit ![0, 256] ![512, 256] inb_S512x512_S512x256_0_256))) (k0_pay7 (View.ld x0 (Rect.unit ![0, 256] ![512, 256] inb_S512x512_S512x256_0_256))) (View.ld x0 (Rect.unit ![0, 128] ![512, 64] inb_S512x512_S512x64_0_128)) (View.ld x1 (Rect.unit ![0, 128] ![256, 64] inb_S256x512_S256x64_0_128)) (View.ld x1 (Rect.unit ![0, 384] ![256, 64] inb_S256x512_S256x64_0_384)) (View.ld x2 (Rect.unit ![0, 128] ![512, 64] inb_S512x256_S512x64_0_128)) x
      = rowGrad x0 x1 x2 ((Rect.unit (s := S512x512) ![0, 384] ![512, 64] inb_S512x512_S512x64_0_384).emb x) := by
  rw [rowGrad_gate x0 x1 x2 _ 2 (x 0) (x 1) (by blk_simp) (by blk_simp; show _ = 256 + 64 * 2 + (x 1).val; omega)]
  pointwise [k0_pay6, k0_pay7, k0_pay34, k0_pay35, k0_pay36, k0_pay37, k0_pay39]
  simp only [dgate, dquery, dscore, prob, weight, out, top, score, dout, logi, eighth, qry, gat, key, val, cot]
  blk_point

/-- Head 2's store into the gradient of the query. -/
theorem tile_query_2 (x : S512x64.Idx) :
    k0_pay42 (k0_pay34 (View.ld x0 (Rect.unit ![0, 128] ![512, 64] inb_S512x512_S512x64_0_128)) (View.ld x1 (Rect.unit ![0, 128] ![256, 64] inb_S256x512_S256x64_0_128))) (k0_pay36 (View.ld x1 (Rect.unit ![0, 384] ![256, 64] inb_S256x512_S256x64_0_384))) (k0_pay37 (View.ld x0 (Rect.unit ![0, 128] ![512, 64] inb_S512x512_S512x64_0_128)) (View.ld x1 (Rect.unit ![0, 128] ![256, 64] inb_S256x512_S256x64_0_128)) (View.ld x1 (Rect.unit ![0, 384] ![256, 64] inb_S256x512_S256x64_0_384))) (k0_pay38 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 128] ![512, 64] inb_S512x256_S512x64_0_128))) (k0_pay40 (k0_pay6 (View.ld x0 (Rect.unit ![0, 256] ![512, 256] inb_S512x512_S512x256_0_256))) (k0_pay7 (View.ld x0 (Rect.unit ![0, 256] ![512, 256] inb_S512x512_S512x256_0_256))) (View.ld x2 (Rect.unit ![0, 128] ![512, 64] inb_S512x256_S512x64_0_128))) (View.ld x1 (Rect.unit ![0, 128] ![256, 64] inb_S256x512_S256x64_0_128)) x
      = rowGrad x0 x1 x2 ((Rect.unit (s := S512x512) ![0, 128] ![512, 64] inb_S512x512_S512x64_0_128).emb x) := by
  rw [rowGrad_query x0 x1 x2 _ 2 (x 0) (x 1) (by blk_simp) (by blk_simp; show _ = 64 * 2 + (x 1).val; omega)]
  pointwise [k0_pay6, k0_pay7, k0_pay34, k0_pay35, k0_pay36, k0_pay37, k0_pay38, k0_pay40, k0_pay41, k0_pay42]
  simp only [dgate, dquery, dscore, prob, weight, out, top, score, dout, logi, eighth, qry, gat, key, val, cot]
  blk_point

/-- Head 3's store into the gradient of the gate. -/
theorem tile_gate_3 (x : S512x64.Idx) :
    k0_pay51 (k0_pay6 (View.ld x0 (Rect.unit ![0, 256] ![512, 256] inb_S512x512_S512x256_0_256))) (k0_pay7 (View.ld x0 (Rect.unit ![0, 256] ![512, 256] inb_S512x512_S512x256_0_256))) (k0_pay45 (View.ld x0 (Rect.unit ![0, 192] ![512, 64] inb_S512x512_S512x64_0_192))) (View.ld x1 (Rect.unit ![0, 192] ![256, 64] inb_S256x512_S256x64_0_192)) (View.ld x1 (Rect.unit ![0, 448] ![256, 64] inb_S256x512_S256x64_0_448)) (View.ld x2 (Rect.unit ![0, 192] ![512, 64] inb_S512x256_S512x64_0_192)) x
      = rowGrad x0 x1 x2 ((Rect.unit (s := S512x512) ![0, 448] ![512, 64] inb_S512x512_S512x64_0_448).emb x) := by
  rw [rowGrad_gate x0 x1 x2 _ 3 (x 0) (x 1) (by blk_simp) (by blk_simp; show _ = 256 + 64 * 3 + (x 1).val; omega)]
  pointwise [k0_pay6, k0_pay7, k0_pay45, k0_pay46, k0_pay47, k0_pay48, k0_pay49, k0_pay51]
  simp only [dgate, dquery, dscore, prob, weight, out, top, score, dout, logi, eighth, qry, gat, key, val, cot]
  blk_point

/-- Head 3's store into the gradient of the query. -/
theorem tile_query_3 (x : S512x64.Idx) :
    k0_pay2 (k0_pay53 (k0_pay6 (View.ld x0 (Rect.unit ![0, 256] ![512, 256] inb_S512x512_S512x256_0_256))) (k0_pay7 (View.ld x0 (Rect.unit ![0, 256] ![512, 256] inb_S512x512_S512x256_0_256))) (k0_pay45 (View.ld x0 (Rect.unit ![0, 192] ![512, 64] inb_S512x512_S512x64_0_192))) (View.ld x1 (Rect.unit ![0, 192] ![256, 64] inb_S256x512_S256x64_0_192)) (View.ld x1 (Rect.unit ![0, 448] ![256, 64] inb_S256x512_S256x64_0_448)) (View.ld x2 (Rect.unit ![0, 192] ![512, 64] inb_S512x256_S512x64_0_192))) (View.ld x1 (Rect.unit ![0, 192] ![256, 64] inb_S256x512_S256x64_0_192)) x
      = rowGrad x0 x1 x2 ((Rect.unit (s := S512x512) ![0, 192] ![512, 64] inb_S512x512_S512x64_0_192).emb x) := by
  rw [rowGrad_query x0 x1 x2 _ 3 (x 0) (x 1) (by blk_simp) (by blk_simp; show _ = 64 * 3 + (x 1).val; omega)]
  pointwise [k0_pay1, k0_pay2, k0_pay6, k0_pay7, k0_pay45, k0_pay46, k0_pay47, k0_pay48, k0_pay49, k0_pay50, k0_pay52, k0_pay53]
  simp only [dgate, dquery, dscore, prob, weight, out, top, score, dout, logi, eighth, qry, gat, key, val, cot]
  blk_point

end Cert.MemGrad
-- ==== Proof.Steps.lean ====
module

public import proofs.«01_k».proof.Proof.Gen.KernelIdeal.Value
public import proofs.«01_k».proof.Proof.KeyTiles
public import proofs.«01_k».proof.Proof.RowTiles
public import Idealize.ShloMosaic.Lib.Pipeline.ReadBack

@[expose] public section
set_option maxRecDepth 16384
noncomputable section
open Idealize.ShloMosaic Idealize.ShloMosaic.TcCoe Idealize.SL.Sem

/-! # What the two output buffers hold after a grid point -/
namespace Cert.MemGrad
open Cert.KernelIdeal Cert.KernelIdeal.Gen
/-- Zeros and the first point's part. -/
def firstSum (x0 : Vec Ideal S512x512 .f32) (x1 : Vec Ideal S256x512 .f32) (x2 : Vec Ideal S512x256 .f32) (y : S256x512.Idx) : EReal :=
  (k0_pay5 (F := Ideal)) y + part x0 x1 x2 y

variable (m : (ℓ : Loc nD τ sig) → Buf (Elt Ideal) ℓ)

/-- The first point fills the keys' and values' gradient with zeros and adds its own part. -/
theorem sums_first (c : Dev nD) (t : Fin cfg0.N) (h0 : t.val % 16 = 0) (y : S256x512.Idx) :
    (outsAt0 m c t.val t.isLt).2 y = firstSum (X0_0 m c t) (iblk m c 1 t) (iblk m c 2 t) y := by
  rw [outsAt0_A m c t h0]; frame_out
  simp (disch := decide) only [↓ View.readCov_skip, ↓ View.readCov_fill]
  refine View.canon_append_of_piecesOf (e := .f32) (Val := Elt Ideal) (s := S256x512) (firstSum (X0_0 m c t) (iblk m c 1 t) (iblk m c 2 t)) [_]
    [_, _, _, _, _, _, _, _] ⟨?_, ?_, ?_, ?_, ?_, ?_, ?_, ?_, trivial⟩ y ?_
  · exact tile_val_3 _ _ _ _
  · exact tile_key_3 _ _ _ _
  · exact tile_val_2 _ _ _ _
  · exact tile_key_2 _ _ _ _
  · exact tile_val_1 _ _ _ _
  · exact tile_key_1 _ _ _ _
  · exact tile_val_0 _ _ _ _
  · exact tile_key_0 _ _ _ _
  · exact View.cover_of_tiledL _ ![256, 64] (by sl_kernel_rfl) y

/-- Every later point adds its own part to what the point before it left. -/
theorem sums_next (c : Dev nD) (t : Fin cfg0.N) (h0 : ¬ t.val % 16 = 0) (y : S256x512.Idx) :
    (outsAt0 m c t.val t.isLt).2 y = (outsAt0 m c (t.val - 1) (Nat.lt_of_le_of_lt (Nat.sub_le _ _) t.isLt)).2 y
      + part (X0_0 m c t) (iblk m c 1 t) (iblk m c 2 t) y := by
  rw [outsAt0_B m c t h0]; frame_out
  generalize (outsAt0 m c (t.val - 1) _).2 = acc
  exact View.canon_append_of_piecesOf (fun y => acc y + part (X0_0 m c t) (iblk m c 1 t) (iblk m c 2 t) y) []
    [_, _, _, _, _, _, _, _] ⟨tile_val_3 _ _ _ _, tile_key_3 _ _ _ _, tile_val_2 _ _ _ _, tile_key_2 _ _ _ _,
      tile_val_1 _ _ _ _, tile_key_1 _ _ _ _, tile_val_0 _ _ _ _, tile_key_0 _ _ _ _, trivial⟩ y
    (View.cover_of_tiledL _ ![256, 64] (by sl_kernel_rfl) y)

/-- Every point stores the gradient of its own tokens. -/
theorem rows_at (c : Dev nD) (t : Fin cfg0.N) (y : S512x512.Idx) :
    (outsAt0 m c t.val t.isLt).1 y = rowGrad (X0_0 m c t) (iblk m c 1 t) (iblk m c 2 t) y := by
  by_cases h0 : t.val % 16 = 0
  · rw [outsAt0_A m c t h0]; frame_out
    refine View.canon_append_of_piecesOf (e := .f32) (Val := Elt Ideal) (s := S512x512) (rowGrad (X0_0 m c t) (iblk m c 1 t) (iblk m c 2 t)) []
      [_, _, _, _, _, _, _, _] ⟨?_, ?_, ?_, ?_, ?_, ?_, ?_, ?_, trivial⟩ y ?_
    · exact tile_query_3 _ _ _
    · exact tile_gate_3 _ _ _
    · exact tile_query_2 _ _ _
    · exact tile_gate_2 _ _ _
    · exact tile_query_1 _ _ _
    · exact tile_gate_1 _ _ _
    · exact tile_query_0 _ _ _
    · exact tile_gate_0 _ _ _
    · exact View.cover_of_tiledL _ ![512, 64] (by sl_kernel_rfl) y
  · rw [outsAt0_B m c t h0]; frame_out
    refine View.canon_append_of_piecesOf (e := .f32) (Val := Elt Ideal) (s := S512x512) (rowGrad (X0_0 m c t) (iblk m c 1 t) (iblk m c 2 t)) []
      [_, _, _, _, _, _, _, _] ⟨?_, ?_, ?_, ?_, ?_, ?_, ?_, ?_, trivial⟩ y ?_
    · exact tile_query_3 _ _ _
    · exact tile_gate_3 _ _ _
    · exact tile_query_2 _ _ _
    · exact tile_gate_2 _ _ _
    · exact tile_query_1 _ _ _
    · exact tile_gate_1 _ _ _
    · exact tile_query_0 _ _ _
    · exact tile_gate_0 _ _ _
    · exact View.cover_of_tiledL _ ![512, 64] (by sl_kernel_rfl) y

end Cert.MemGrad
-- ==== Proof.Arrays.lean ====
module

public import proofs.«01_k».proof.Proof.Reads
public import proofs.«01_k».proof.Proof.Steps

@[expose] public section
set_option maxRecDepth 16384
noncomputable section
open Idealize.ShloMosaic Idealize.ShloMosaic.TcCoe Idealize.SL.Sem

/-! # What the kernel's two result arrays hold -/
namespace Cert.MemGrad
open Cert.KernelIdeal Cert.KernelIdeal.Gen

section Whole
variable (Q G C : Vec Ideal S8192x256 .f32) (KV : Vec Ideal S256x512 .f32)

/-- The gradient of a query. -/
def gradQuery (h : Fin 4) (r : Fin 8192) (d : Fin 64) : EReal := dquery (tok Q h r) (key KV h) (val KV h) (tok G h r) (tok C h r) d
/-- The gradient of a gate. -/
def gradGate (h : Fin 4) (r : Fin 8192) (d : Fin 64) : EReal := dgate (tok Q h r) (key KV h) (val KV h) (tok G h r) (tok C h r) d
/-- The gradient of a key, as sums over the 16 points. -/
def gradKey (h : Fin 4) (s : Fin 256) (d : Fin 64) : EReal :=
  ∑ t : Fin cfg0.N, (∑ r : Fin 512, dscore (tok Q h (row t r)) (key KV h) (val KV h) (tok G h (row t r)) (tok C h (row t r)) s * tok Q h (row t r) d) * eighth
/-- The gradient of a value, as sums over the 16 points. -/
def gradVal (h : Fin 4) (s : Fin 256) (d : Fin 64) : EReal :=
  ∑ t : Fin cfg0.N, ∑ r : Fin 512, prob (tok Q h (row t r)) (key KV h) s * dout (tok G h (row t r)) (tok C h (row t r)) d

/-- The columns of the projection's gradient which the kernel writes. -/
def gradCols (i : S8192x10368.Idx) : EReal :=
  if (i 1).val % 512 < 256 then gradQuery Q G C KV ⟨(i 1).val / 64 % 4, by omega⟩ (i 0) ⟨(i 1).val % 64, by omega⟩
  else gradGate Q G C KV ⟨(i 1).val / 64 % 4, by omega⟩ (i 0) ⟨(i 1).val % 64, by omega⟩

/-- The gradient of the memory's keys and values. -/
def gradMem (i : S256x512.Idx) : EReal :=
  if (i 1).val < 256 then gradKey Q G C KV ⟨(i 1).val / 64 % 4, by omega⟩ (i 0) ⟨(i 1).val % 64, by omega⟩
  else gradVal Q G C KV ⟨(i 1).val / 64 % 4, by omega⟩ (i 0) ⟨(i 1).val % 64, by omega⟩

theorem gradCols_query (i : S8192x10368.Idx) (h : Fin 4) (r : Fin 8192) (d : Fin 64) (h0 : (i 0).val = r.val) (h1 : (i 1).val = 8704 + 64 * h.val + d.val) :
    gradCols Q G C KV i = gradQuery Q G C KV h r d := by
  have e0 : (i 0 : Fin 8192) = r := Fin.ext h0
  have e1 : (⟨(i 1).val / 64 % 4, by omega⟩ : Fin 4) = h := Fin.ext (by show (i 1).val / 64 % 4 = h.val; omega)
  have e2 : (⟨(i 1).val % 64, by omega⟩ : Fin 64) = d := Fin.ext (by show (i 1).val % 64 = d.val; omega)
  unfold gradCols
  rw [if_pos (by omega), e1, e2]
  exact congrArg (fun x => gradQuery Q G C KV h x d) e0

theorem gradCols_gate (i : S8192x10368.Idx) (h : Fin 4) (r : Fin 8192) (d : Fin 64) (h0 : (i 0).val = r.val) (h1 : (i 1).val = 8960 + 64 * h.val + d.val) :
    gradCols Q G C KV i = gradGate Q G C KV h r d := by
  have e0 : (i 0 : Fin 8192) = r := Fin.ext h0
  have e1 : (⟨(i 1).val / 64 % 4, by omega⟩ : Fin 4) = h := Fin.ext (by show (i 1).val / 64 % 4 = h.val; omega)
  have e2 : (⟨(i 1).val % 64, by omega⟩ : Fin 64) = d := Fin.ext (by show (i 1).val % 64 = d.val; omega)
  unfold gradCols
  rw [if_neg (by omega), e1, e2]
  exact congrArg (fun x => gradGate Q G C KV h x d) e0

theorem gradMem_key (i : S256x512.Idx) (h : Fin 4) (s : Fin 256) (d : Fin 64) (h0 : (i 0).val = s.val) (h1 : (i 1).val = 0 + 64 * h.val + d.val) :
    gradMem Q G C KV i = gradKey Q G C KV h s d := by
  have e0 : (i 0 : Fin 256) = s := Fin.ext h0
  have e1 : (⟨(i 1).val / 64 % 4, by omega⟩ : Fin 4) = h := Fin.ext (by show (i 1).val / 64 % 4 = h.val; omega)
  have e2 : (⟨(i 1).val % 64, by omega⟩ : Fin 64) = d := Fin.ext (by show (i 1).val % 64 = d.val; omega)
  unfold gradMem
  rw [if_pos (by omega), e1, e2]
  exact congrArg (fun x => gradKey Q G C KV h x d) e0

theorem gradMem_val (i : S256x512.Idx) (h : Fin 4) (s : Fin 256) (d : Fin 64) (h0 : (i 0).val = s.val) (h1 : (i 1).val = 256 + 64 * h.val + d.val) :
    gradMem Q G C KV i = gradVal Q G C KV h s d := by
  have e0 : (i 0 : Fin 256) = s := Fin.ext h0
  have e1 : (⟨(i 1).val / 64 % 4, by omega⟩ : Fin 4) = h := Fin.ext (by show (i 1).val / 64 % 4 = h.val; omega)
  have e2 : (⟨(i 1).val % 64, by omega⟩ : Fin 64) = d := Fin.ext (by show (i 1).val % 64 = d.val; omega)
  unfold gradMem
  rw [if_neg (by omega), e1, e2]
  exact congrArg (fun x => gradVal Q G C KV h x d) e0
end Whole

variable (m : (ℓ : Loc nD τ sig) → Buf (Elt Ideal) ℓ)

theorem qry_fun (c : Dev nD) (t : Fin cfg0.N) (h : Fin 4) (r : Fin 512) :
    qry (X0_0 m c t) h r = tok (m ((c : Thread nD τ).loc main_arg1)) h (row t r) := funext (qry_read m c t h r)
theorem gat_fun (c : Dev nD) (t : Fin cfg0.N) (h : Fin 4) (r : Fin 512) :
    gat (X0_0 m c t) h r = tok (m ((c : Thread nD τ).loc main_arg2)) h (row t r) := funext (gat_read m c t h r)
theorem cot_fun (c : Dev nD) (t : Fin cfg0.N) (h : Fin 4) (r : Fin 512) :
    cot (iblk m c 2 t) h r = tok (m ((c : Thread nD τ).loc main_arg5)) h (row t r) := funext (cot_read m c t h r)
theorem key_fun (c : Dev nD) (t : Fin cfg0.N) (h : Fin 4) :
    key (iblk m c 1 t) h = key (m ((c : Thread nD τ).loc main_arg4)) h := funext fun s => funext (key_read m c t h s)
theorem val_fun (c : Dev nD) (t : Fin cfg0.N) (h : Fin 4) :
    val (iblk m c 1 t) h = val (m ((c : Thread nD τ).loc main_arg4)) h := funext fun s => funext (val_read m c t h s)

theorem zeros (y : S256x512.Idx) : (k0_pay5 (F := Ideal)) y = 0 := by
  pointwise [k0_pay5]

/-- The points' parts of the memory's gradient, added up. -/
theorem parts_sum (c : Dev nD) (j : S256x512.Idx) : ∑ p : Fin cfg0.N, part (X0_0 m c p) (iblk m c 1 p) (iblk m c 2 p) j
    = gradMem (m ((c : Thread nD τ).loc main_arg1)) (m ((c : Thread nD τ).loc main_arg2)) (m ((c : Thread nD τ).loc main_arg5))
        (m ((c : Thread nD τ).loc main_arg4)) j := by
  unfold gradMem
  by_cases hj : (j 1).val < 256
  · rw [if_pos hj]
    unfold gradKey
    refine Finset.sum_congr rfl fun p _ => ?_
    unfold part dkeyPart
    rw [if_pos hj]
    simp only [qry_fun, gat_fun, cot_fun, key_fun, val_fun]
  · rw [if_neg hj]
    unfold gradVal
    refine Finset.sum_congr rfl fun p _ => ?_
    unfold part dvalPart
    rw [if_neg hj]
    simp only [qry_fun, gat_fun, cot_fun, key_fun, val_fun]

/-- The second array is the gradient of the memory. -/
theorem mem_array (c : Dev nD) : (dats m 0 c).arrAt 4 cfg0.N
    = gradMem (m ((c : Thread nD τ).loc main_arg1)) (m ((c : Thread nD τ).loc main_arg2)) (m ((c : Thread nD τ).loc main_arg5))
        (m ((c : Thread nD τ).loc main_arg4)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0)
    (fun t y => part (X0_0 m c t) (iblk m c 1 t) (iblk m c 2 t) y)
    (fun t h y => by rw [sums_first m c t h, firstSum, zeros]) (fun t h y => sums_next m c t h y) (le_of_eq N_0) t0_15 rfl _, zero_add]
  exact parts_sum m c j

/-- What a point stores is the gradient at its place in the array. -/
theorem rows_whole (c : Dev nD) (t : Fin cfg0.N) (x : S512x512.Idx) (z : S8192x10368.Idx) (h0 : (z 0).val = 512 * t.val + (x 0).val)
    (h1 : (z 1).val = 8704 + (x 1).val) : rowGrad (X0_0 m c t) (iblk m c 1 t) (iblk m c 2 t) x
    = gradCols (m ((c : Thread nD τ).loc main_arg1)) (m ((c : Thread nD τ).loc main_arg2)) (m ((c : Thread nD τ).loc main_arg5))
        (m ((c : Thread nD τ).loc main_arg4)) z := by
  have hx : (x 1).val < 512 := (x 1).isLt
  obtain ⟨r, hr⟩ : ∃ r : Fin 512, r.val = (x 0).val := ⟨x 0, rfl⟩
  have hz0 : (z 0).val = (row t r).val := by show _ = 512 * t.val + r.val; omega
  by_cases hz : (x 1).val < 256
  · have hd : (x 1).val = 64 * ((x 1).val / 64) + (x 1).val % 64 := by omega
    rw [rowGrad_query _ _ _ x ⟨(x 1).val / 64, by omega⟩ r ⟨(x 1).val % 64, by omega⟩ hr.symm hd,
      gradCols_query _ _ _ _ z ⟨(x 1).val / 64, by omega⟩ (row t r) ⟨(x 1).val % 64, by omega⟩ hz0 (by dsimp only; omega),
      qry_fun, gat_fun, cot_fun, key_fun, val_fun]
    rfl
  · have hd : (x 1).val = 256 + 64 * ((x 1).val / 64 - 4) + (x 1).val % 64 := by omega
    rw [rowGrad_gate _ _ _ x ⟨(x 1).val / 64 - 4, by omega⟩ r ⟨(x 1).val % 64, by omega⟩ hr.symm hd,
      gradCols_gate _ _ _ _ z ⟨(x 1).val / 64 - 4, by omega⟩ (row t r) ⟨(x 1).val % 64, by omega⟩ hz0 (by dsimp only; omega),
      qry_fun, gat_fun, cot_fun, key_fun, val_fun]
    rfl

/-- The first array is the gradient of the projection: the kernel's columns, and what the array held before elsewhere. -/
theorem cols_array (c : Dev nD) : (dats m 0 c).arrAt 3 cfg0.N
    = fun i => if (i 1).val / 512 = 17 then gradCols (m ((c : Thread nD τ).loc main_arg1)) (m ((c : Thread nD τ).loc main_arg2)) (m ((c : Thread nD τ).loc main_arg5))
        (m ((c : Thread nD τ).loc main_arg4)) i else m ((c : Thread nD τ).loc main_arg6) i := by
  have key : (dats m 0 c).arrAt 3 cfg0.N
    = fun i => if (i 1).val / 512 = 17 then gradCols (m ((c : Thread nD τ).loc main_arg1)) (m ((c : Thread nD τ).loc main_arg2)) (m ((c : Thread nD τ).loc main_arg5))
        (m ((c : Thread nD τ).loc main_arg4)) i else V m c main_v1_0 i := by
    refine (dats m 0 c).arrAt_eq_of_coversWhere 3 _ (fun β => β 1 = 17) (by decide +kernel) (fun t hf y => ?_) (fun j => Iff.rfl)
    blk_simp
    rw [after0_3, rows_at]
    exact rows_whole m c t _ _ (by blk_simp [idx3 t]; exact congrArg (· + (y 0).val) (Nat.mul_comm _ _)) (by blk_simp [idx3 t])
  exact key

end Cert.MemGrad
-- ==== Proof.RefForward.lean ====
module

public import proofs.«01_k».proof.Proof.Gen.ReferenceIdeal.Read
public import proofs.«01_k».proof.Proof.Arrays

@[expose] public section
set_option maxRecDepth 16384
noncomputable section
open Idealize.ShloMosaic Idealize.ShloMosaic.TcCoe Idealize.SL.Sem

/-! # The reference's forward pass, read at a head, a token, a slot and a channel -/
namespace Cert.MemGrad
open Cert.ReferenceIdeal Cert.ReferenceIdeal.Read Cert.ReferenceIdeal.Gen

variable (Q G C : Vec Ideal S8192x256 .f32) (KV : Vec Ideal S256x512 .f32)

theorem ref_query (h : Fin 4) (r : Fin 8192) (d : Fin 64) : val_main_v2 (F := Ideal) Q (ix3 r h d) = tok Q h r d := by
  unfold tok
  pointwise [val_main_v2]
  blk_point

theorem ref_key (h : Fin 4) (s : Fin 256) (d : Fin 64) : val_main_v3 (F := Ideal) KV (ix3 s h d) = key KV h s d := by
  unfold key
  pointwise [val_main_v3, val_main_v0]
  blk_point

theorem ref_val (h : Fin 4) (s : Fin 256) (d : Fin 64) : val_main_v4 (F := Ideal) KV (ix3 s h d) = val KV h s d := by
  unfold val
  pointwise [val_main_v4, val_main_v1]
  blk_point

theorem ref_score (h : Fin 4) (r : Fin 8192) (s : Fin 256) :
    val_main_v7 (F := Ideal) Q KV (ix3 h r s) = score (tok Q h r) (key KV h) s := by
  unfold score eighth
  simp only [← ref_query, ← ref_key]
  pointwise [val_main_v7, val_main_v5, val_main_v6, val_main_cst]

theorem reduce_top (X : Vec Ideal S4x8192x256 .f32) (z : Vec Ideal S_ .f32) (h : Fin 4) (r : Fin 8192) :
    Host.reduce (FloatOps.maximumf (F := Ideal) (φ := .f32)) X z reducesTo_S4x8192x256_S4x8192_d2 h_S_ (ix2 h r)
      = Finset.fold max (z (Shape.Idx.first h_S_)) (fun s => X (ix3 h r s)) Finset.univ := by
  pointwise

theorem ref_max (h : Fin 4) (r : Fin 8192) :
    val_main_v8 (F := Ideal) Q KV (ix2 h r)
      = Finset.fold max (Ideal.ofBits .f32 4286578688#32) (fun s => score (tok Q h r) (key KV h) s) Finset.univ := by
  unfold val_main_v8
  rw [reduce_top]
  exact congrArg (fun f => Finset.fold max (Ideal.ofBits .f32 4286578688#32) f Finset.univ) (funext fun s => ref_score Q KV h r s)

theorem ref_top (h : Fin 4) (r : Fin 8192) :
    val_main_v15 (F := Ideal) Q KV (ix2 h r) = top (tok Q h r) (key KV h) := by
  rw [val_main_v15_apply, ref_max, val_main_v14_apply, val_main_cst_2_apply]
  exact max_eq_right ((Finset.le_fold_max _).mpr (Or.inl le_rfl))

theorem ref_weight (h : Fin 4) (r : Fin 8192) (s : Fin 256) :
    val_main_v28 (F := Ideal) Q KV (ix3 h r s) = weight (tok Q h r) (key KV h) s := by
  unfold weight
  rw [← ref_score, ← ref_top]
  pointwise [val_main_v28, val_main_v27, val_main_v26, val_main_v25]

theorem ref_total (h : Fin 4) (r : Fin 8192) :
    val_main_v29 (F := Ideal) Q KV (ix2 h r) = ∑ s, weight (tok Q h r) (key KV h) s := by
  simp only [← ref_weight]
  pointwise [val_main_v29, val_main_cst_8]

theorem ref_prob (h : Fin 4) (r : Fin 8192) (s : Fin 256) :
    val_main_v32 (F := Ideal) Q KV (ix3 h r s) = prob (tok Q h r) (key KV h) s := by
  unfold prob
  rw [← ref_weight, ← ref_total]
  pointwise [val_main_v32, val_main_v31, val_main_v30]

theorem ref_out (h : Fin 4) (r : Fin 8192) (d : Fin 64) :
    val_main_v37 (F := Ideal) Q KV (ix3 r h d) = ∑ s, val KV h s d * prob (tok Q h r) (key KV h) s := by
  simp only [← ref_prob, ← ref_val]
  pointwise [val_main_v37, val_main_v36]

end Cert.MemGrad
-- ==== Proof.RefSpec.lean ====
module

public import proofs.«01_k».proof.Proof.Spec

@[expose] public section
noncomputable section
open Idealize.ShloMosaic

/-! # The same gradient as the reference computes it, at one token and one head -/
namespace Cert.MemGrad

variable (q : Fin 64 → EReal) (k v : Fin 256 → Fin 64 → EReal) (g c : Fin 64 → EReal)

/-- The attention's output. -/
def out' (d : Fin 64) : EReal := ∑ s, v s d * prob q k s

/-- The logistic function. -/
def logi' (x : EReal) : EReal := Ideal.div 1 (1 + Ideal.exp (-x))

/-- The cotangent of the attention's output. -/
def dout' (d : Fin 64) : EReal := c d * (g d * logi' (g d))

/-- The cotangent of a slot's weight. -/
def dprob' (s : Fin 256) : EReal := ∑ d, dout' g c d * v s d

/-- The cotangent of a slot's score, through the quotient weight / total. -/
def dscore' (s : Fin 256) : EReal :=
  (Ideal.div (dprob' v g c s) (∑ s, weight q k s)
    + -∑ s, dprob' v g c s * Ideal.div 1 ((∑ s, weight q k s) * (∑ s, weight q k s)) * weight q k s) * weight q k s * eighth

/-- The cotangent of the query. -/
def dquery' (d : Fin 64) : EReal := ∑ s, dscore' q k v g c s * k s d

/-- The cotangent of the gate. -/
def dgate' (d : Fin 64) : EReal :=
  out' q k v d * c d * logi' (g d) + g d * (out' q k v d * c d) * (logi' (g d) * (1 - logi' (g d)))

end Cert.MemGrad
-- ==== Proof.RefBackward.lean ====
module

public import proofs.«01_k».proof.Proof.RefForward
public import proofs.«01_k».proof.Proof.RefSpec

@[expose] public section
set_option maxRecDepth 16384
noncomputable section
open Idealize.ShloMosaic Idealize.ShloMosaic.TcCoe Idealize.SL.Sem

/-! # The reference's gradients, read at a head, a token, a slot and a channel -/
namespace Cert.MemGrad
open Cert.ReferenceIdeal Cert.ReferenceIdeal.Read Cert.ReferenceIdeal.Gen

variable (Q G C : Vec Ideal S8192x256 .f32) (KV : Vec Ideal S256x512 .f32)

theorem ref_logi (h : Fin 4) (r : Fin 8192) (d : Fin 64) :
    val_main_v39_2 (F := Ideal) G (ix2 r ⟨64 * h.val + d.val, by omega⟩) = logi' (tok G h r d) := by
  unfold logi' tok
  pointwise [val_main_v39_2, val_main_call0_v4, val_main_call0_v3, val_main_call0_v2, val_main_call0_v1, val_main_call0_v0,
    val_main_call0_cst, val_main_call0_cst_0]

theorem ref_dout_flat (h : Fin 4) (r : Fin 8192) (d : Fin 64) :
    val_main_v42 (F := Ideal) G C (ix2 r ⟨64 * h.val + d.val, by omega⟩) = dout' (tok G h r) (tok C h r) d := by
  unfold dout'
  rw [← ref_logi]
  unfold tok
  pointwise [val_main_v42, val_main_v39_0]

theorem ref_dout (h : Fin 4) (r : Fin 8192) (d : Fin 64) :
    val_main_v45 (F := Ideal) G C (ix3 h d r) = dout' (tok G h r) (tok C h r) d := by
  rw [← ref_dout_flat]
  pointwise [val_main_v45, val_main_v44]
  blk_point

theorem ref_out_flat (h : Fin 4) (r : Fin 8192) (d : Fin 64) :
    val_main_v38 (F := Ideal) Q KV (ix2 r ⟨64 * h.val + d.val, by omega⟩) = out' (tok Q h r) (key KV h) (val KV h) d := by
  unfold out'
  rw [← ref_out]
  pointwise [val_main_v38]

theorem ref_dgate (h : Fin 4) (r : Fin 8192) (d : Fin 64) :
    val_main_v43 (F := Ideal) Q G KV C (ix2 r ⟨64 * h.val + d.val, by omega⟩)
      = dgate' (tok Q h r) (key KV h) (val KV h) (tok G h r) (tok C h r) d := by
  unfold dgate'
  rw [← ref_out_flat, ← ref_logi]
  unfold tok
  pointwise [val_main_v43, val_main_call1_v2, val_main_call1_v1, val_main_call1_v0, val_main_v41, val_main_v39_1, val_main_call0_v7,
    val_main_call0_v6, val_main_call0_cst_1]

theorem ref_dprob (h : Fin 4) (r : Fin 8192) (s : Fin 256) :
    val_main_v46 (F := Ideal) G KV C (ix3 h r s) = dprob' (val KV h) (tok G h r) (tok C h r) s := by
  unfold dprob'
  simp only [← ref_dout, ← ref_val]
  pointwise [val_main_v46]

theorem ref_inverse (h : Fin 4) (r : Fin 8192) (s : Fin 256) :
    val_main_v49 (F := Ideal) Q KV (ix3 h r s)
      = Ideal.div 1 ((∑ s, weight (tok Q h r) (key KV h) s) * (∑ s, weight (tok Q h r) (key KV h) s)) := by
  rw [← ref_total]
  pointwise [val_main_v49, val_main_v35, val_main_v34, val_main_v33, val_main_v30, val_main_cst_9]

theorem ref_inner (h : Fin 4) (r : Fin 8192) :
    val_main_v52 (F := Ideal) Q G KV C (ix2 h r) = ∑ s, dprob' (val KV h) (tok G h r) (tok C h r) s
      * Ideal.div 1 ((∑ s, weight (tok Q h r) (key KV h) s) * (∑ s, weight (tok Q h r) (key KV h) s)) * weight (tok Q h r) (key KV h) s := by
  have e : val_main_v52 (F := Ideal) Q G KV C (ix2 h r) = ∑ s, val_main_v46 (F := Ideal) G KV C (ix3 h r s)
      * val_main_v49 (F := Ideal) Q KV (ix3 h r s) * val_main_v28 (F := Ideal) Q KV (ix3 h r s) := by
    pointwise [val_main_v52, val_main_v51, val_main_v50, val_main_cst_10]
  rw [e]
  exact Finset.sum_congr rfl fun s _ => by rw [ref_inverse, ref_dprob, ref_weight]

theorem ref_minus (h : Fin 4) (r : Fin 8192) (s : Fin 256) :
    val_main_v58 (F := Ideal) Q G KV C (ix3 h r s) = -val_main_v52 (F := Ideal) Q G KV C (ix2 h r) := by
  pointwise [val_main_v58, val_main_v57, val_main_v54, val_main_v53, val_main_cst_11]
  exact Fin.sum_univ_one _

theorem ref_dscore (h : Fin 4) (r : Fin 8192) (s : Fin 256) :
    val_main_v62 (F := Ideal) Q G KV C (ix3 h r s) = dscore' (tok Q h r) (key KV h) (val KV h) (tok G h r) (tok C h r) s := by
  unfold dscore' eighth
  rw [← ref_inner, ← ref_minus Q G C KV h r s, ← ref_total, ← ref_weight, ← ref_dprob]
  pointwise [val_main_v62, val_main_v61, val_main_v60, val_main_v59, val_main_v56, val_main_v55, val_main_v30, val_main_cst_12]

theorem ref_dquery (h : Fin 4) (r : Fin 8192) (d : Fin 64) :
    val_main_v69 (F := Ideal) Q G KV C (ix2 r ⟨64 * h.val + d.val, by omega⟩)
      = dquery' (tok Q h r) (key KV h) (val KV h) (tok G h r) (tok C h r) d := by
  unfold dquery'
  simp only [← ref_dscore, ← ref_key]
  pointwise [val_main_v69, val_main_v66, val_main_v65]

theorem ref_dkey (h : Fin 4) (s : Fin 256) (d : Fin 64) :
    val_main_v68 (F := Ideal) Q G KV C (ix2 s ⟨64 * h.val + d.val, by omega⟩)
      = ∑ r, dscore' (tok Q h r) (key KV h) (val KV h) (tok G h r) (tok C h r) s * tok Q h r d := by
  simp only [← ref_dscore, ← ref_query]
  pointwise [val_main_v68, val_main_v64, val_main_v63]

theorem ref_dval (h : Fin 4) (s : Fin 256) (d : Fin 64) :
    val_main_v67 (F := Ideal) Q G KV C (ix2 s ⟨64 * h.val + d.val, by omega⟩)
      = ∑ r, dout' (tok G h r) (tok C h r) d * prob (tok Q h r) (key KV h) s := by
  simp only [← ref_dout, ← ref_prob]
  pointwise [val_main_v67, val_main_v48, val_main_v47]

end Cert.MemGrad
-- ==== Proof.Token.lean ====
module

public import proofs.«01_k».proof.Proof.RefSpec
public import Idealize.ShloMosaic.Lib.IdealHost

@[expose] public section
noncomputable section
open Idealize.ShloMosaic

/-! # One token and one head: the kernel's gradient and the reference's are the same real numbers

The softmax's gradient is p·(a − Σ d·o) in the kernel and (a/Z − Σ a·w/Z²)·w in the reference, with weights w, total Z, p = w/Z and
o = Σ p·v. For finite inputs all of them are real numbers and Z is positive. -/
namespace Cert.MemGrad

/-- The sum of real numbers, as extended reals. -/
theorem sum_coe {ι : Type*} [Fintype ι] (f : ι → ℝ) : ∑ i, (f i : EReal) = ((∑ i, f i : ℝ) : EReal) := by
  classical
  refine Finset.induction_on (Finset.univ : Finset ι) (by simp) fun a s ha ih => ?_
  rw [Finset.sum_insert ha, Finset.sum_insert ha, ih, EReal.coe_add]

theorem eighth_coe : eighth = ((1 / 8 : ℝ) : EReal) := by
  unfold eighth
  simp [Ideal.ofBits, Ideal.ieee]
  rw [← EReal.coe_mul]
  norm_num

theorem negInf : Ideal.ofBits .f32 4286578688#32 = ⊥ := by simp [Ideal.ofBits, Ideal.ieee]

/-- The largest of finitely many real numbers is a real number. -/
theorem max_coe (f : Fin 256 → ℝ) : ∃ M : ℝ, Finset.fold max (Ideal.ofBits .f32 4286578688#32) (fun s => (f s : EReal)) Finset.univ = M := by
  rw [negInf]
  have h1 : (⊥ : EReal) < Finset.fold max ⊥ (fun s => (f s : EReal)) Finset.univ :=
    (Finset.lt_fold_max _).mpr (Or.inr ⟨0, Finset.mem_univ _, EReal.bot_lt_coe _⟩)
  have h2 : Finset.fold max ⊥ (fun s => (f s : EReal)) Finset.univ < (⊤ : EReal) :=
    (Finset.fold_max_lt _).mpr ⟨bot_lt_top, fun s _ => EReal.coe_lt_top _⟩
  exact ⟨_, (EReal.coe_toReal h2.ne h1.ne').symm⟩

/-- The sum over the channels and the sum over the slots change places. -/
theorem inner_real (D : Fin 64 → ℝ) (e : Fin 256 → ℝ) (v : Fin 256 → Fin 64 → ℝ) (Z : ℝ) (hZ : Z ≠ 0) :
    ∑ d, D d * ∑ s, e s * (1 / Z) * v s d = (∑ s, (∑ d, D d * v s d) * (1 / (Z * Z)) * e s) * Z := by
  have hl : ∀ d, D d * ∑ s, e s * (1 / Z) * v s d = ∑ s, D d * (e s * (1 / Z) * v s d) := fun d => Finset.mul_sum _ _ _
  rw [Finset.sum_congr rfl fun d _ => hl d, Finset.sum_comm, Finset.sum_mul]
  refine Finset.sum_congr rfl fun s _ => ?_
  rw [Finset.sum_mul, Finset.sum_mul, Finset.sum_mul]
  refine Finset.sum_congr rfl fun d _ => ?_
  field_simp

/-- The two forms of the softmax's gradient. -/
theorem quotient_real (a X e Z : ℝ) (hZ : Z ≠ 0) : (a * (1 / Z) + -X) * e * (1 / 8) = e * (1 / Z) * (a - X * Z) * (1 / 8) := by
  field_simp
  ring

/-- The two forms of the gate's gradient. -/
theorem gate_real (c o l g : ℝ) : c * o * (l * (1 + g * (1 - l))) = o * c * l + g * (o * c) * (l * (1 - l)) := by ring

section
variable (q : Fin 64 → ℝ) (k v : Fin 256 → Fin 64 → ℝ) (g c : Fin 64 → ℝ)

/-- A row of real numbers as extended reals. -/
abbrev up (f : Fin 64 → ℝ) : Fin 64 → EReal := fun d => (f d : EReal)
/-- A table of real numbers as extended reals. -/
abbrev up2 (f : Fin 256 → Fin 64 → ℝ) : Fin 256 → Fin 64 → EReal := fun s d => (f s d : EReal)

theorem score_coe (s : Fin 256) : score (up q) (up2 k) s = (((∑ d, q d * k s d) * (1 / 8) : ℝ) : EReal) := by
  unfold score
  simp only [← EReal.coe_mul, sum_coe, eighth_coe]

/-- The weights are positive real numbers. -/
theorem weight_coe : ∃ e : Fin 256 → ℝ, (∀ s, 0 < e s) ∧ ∀ s, weight (up q) (up2 k) s = e s := by
  obtain ⟨M, hM⟩ := max_coe fun s => (∑ d, q d * k s d) * (1 / 8)
  refine ⟨fun s => Real.exp ((∑ d, q d * k s d) * (1 / 8) - M), fun s => Real.exp_pos _, fun s => ?_⟩
  have ht : top (up q) (up2 k) = M := by
    unfold top
    simp only [score_coe]
    exact hM
  unfold weight
  rw [ht, score_coe, ← EReal.coe_sub, Ideal.exp_coe]

/-- The logistic function of a real number. -/
theorem logi_coe (x : ℝ) : ∃ l : ℝ, logi (x : EReal) = l ∧ logi' (x : EReal) = l := by
  have hx : (0 - (x : EReal)) = ((-x : ℝ) : EReal) := by rw [zero_sub, EReal.coe_neg]
  have h : (1 : EReal) + Ideal.exp ((-x : ℝ) : EReal) = ((1 + Real.exp (-x) : ℝ) : EReal) := by
    rw [Ideal.exp_coe, EReal.coe_add, EReal.coe_one]
  have hp : (1 + Real.exp (-x) : ℝ) ≠ 0 := (add_pos one_pos (Real.exp_pos _)).ne'
  refine ⟨1 / (1 + Real.exp (-x)), ?_, ?_⟩
  · unfold logi
    rw [hx, h, Ideal.div_coe hp, one_mul]
  · unfold logi'
    rw [← EReal.coe_neg, h, Ideal.div_coe hp, one_mul]

/-- The gradient at one token: the score's cotangent is real and the reference's is an eighth of it; the gate's is the same. -/
theorem token_real : (∃ x : Fin 256 → ℝ, (∀ s, dscore (up q) (up2 k) (up2 v) (up g) (up c) s = x s)
      ∧ ∀ s, dscore' (up q) (up2 k) (up2 v) (up g) (up c) s = ((x s * (1 / 8) : ℝ) : EReal))
    ∧ ∀ d, dgate (up q) (up2 k) (up2 v) (up g) (up c) d = dgate' (up q) (up2 k) (up2 v) (up g) (up c) d := by
  obtain ⟨e, he, hw⟩ := weight_coe q k
  choose l hl hl' using fun d => logi_coe (g d)
  have hZ : 0 < ∑ s, e s := Finset.sum_pos (fun s _ => he s) ⟨0, Finset.mem_univ _⟩
  have hZ' : (∑ s, e s) * (∑ s, e s) ≠ 0 := (mul_pos hZ hZ).ne'
  have hsum : ∑ s, weight (up q) (up2 k) s = ((∑ s, e s : ℝ) : EReal) := by simp only [hw, sum_coe]
  have hp : ∀ s, prob (up q) (up2 k) s = ((e s * (1 / ∑ s, e s) : ℝ) : EReal) := fun s => by
    unfold prob
    rw [hsum, hw, Ideal.div_coe hZ.ne', ← EReal.coe_mul]
  have ho : ∀ d, out (up q) (up2 k) (up2 v) d = ((∑ s, e s * (1 / ∑ s, e s) * v s d : ℝ) : EReal) := fun d => by
    unfold out
    simp only [hp, ← EReal.coe_mul, sum_coe]
  have ho' : ∀ d, out' (up q) (up2 k) (up2 v) d = ((∑ s, e s * (1 / ∑ s, e s) * v s d : ℝ) : EReal) := fun d => by
    rw [← ho]
    exact Finset.sum_congr rfl fun s _ => mul_comm _ _
  have hd : ∀ d, dout (up g) (up c) d = ((c d * g d * l d : ℝ) : EReal) := fun d => by
    unfold dout
    simp only [hl, ← EReal.coe_mul]
  have hd' : ∀ d, dout' (up g) (up c) d = ((c d * g d * l d : ℝ) : EReal) := fun d => by
    unfold dout'
    simp only [hl', ← EReal.coe_mul, mul_assoc]
  have ha : ∀ s, dprob' (up2 v) (up g) (up c) s = ((∑ d, c d * g d * l d * v s d : ℝ) : EReal) := fun s => by
    unfold dprob'
    simp only [hd', ← EReal.coe_mul, sum_coe]
  refine ⟨⟨fun s => e s * (1 / ∑ s, e s) * (∑ d, c d * g d * l d * v s d - ∑ d, c d * g d * l d * ∑ s, e s * (1 / ∑ s, e s) * v s d),
    fun s => ?_, fun s => ?_⟩, fun d => ?_⟩
  · unfold dscore
    simp only [hp, hd, ho, ← EReal.coe_mul, sum_coe, ← EReal.coe_sub]
  · unfold dscore'
    rw [hsum, ha, Ideal.div_coe hZ.ne', hw, eighth_coe]
    simp only [ha, hw, ← EReal.coe_mul, Ideal.div_coe hZ', one_mul, sum_coe, ← EReal.coe_neg, ← EReal.coe_add]
    rw [inner_real (fun d => c d * g d * l d) e v _ hZ.ne', ← quotient_real _ _ _ _ hZ.ne']
  · unfold dgate dgate'
    rw [ho, ho', hl, hl']
    have h1 : ∀ x : ℝ, (1 : EReal) - (x : EReal) = ((1 - x : ℝ) : EReal) := fun x => by rw [EReal.coe_sub, EReal.coe_one]
    have h2 : ∀ x : ℝ, (1 : EReal) + (x : EReal) = ((1 + x : ℝ) : EReal) := fun x => by rw [EReal.coe_add, EReal.coe_one]
    simp only [h1, ← EReal.coe_mul, h2, ← EReal.coe_add]
    rw [gate_real]

end

end Cert.MemGrad
-- ==== Proof.Finite.lean ====
module

public import proofs.«01_k».proof.Defs
public import proofs.«01_k».proof.Proof.Gen.Pre_finite
public import proofs.«01_k».proof.Proof.Token

@[expose] public section
set_option maxRecDepth 16384
noncomputable section
open Idealize.ShloMosaic Idealize.ShloMosaic.TcCoe Idealize.SL.Sem

/-! # What the precondition says: the entries it names are real numbers -/
namespace Cert.MemGrad
open Cert.Pre_finite Cert.Pre_finite.Gen

variable (x0 : FVec Ideal S8192x8704 .f32) (x1 x2 x5 : FVec Ideal S8192x256 .f32) (x3 : FVec Ideal S8192x1152 .f32)
  (x4 : FVec Ideal S256x512 .f32) (x6 : FVec Ideal S8192x10368 .bf16)

/-- The precondition's test of one entry. -/
def test (x : Ideal .f32) : BitVec 1 := BitVec.ofBool (decide (FloatOps.absf x < Ideal.ofBits .f32 2139095040#32))

theorem inf_top : Ideal.ofBits .f32 2139095040#32 = ⊤ := by simp [Ideal.ofBits, Ideal.ieee]

theorem real_of_test {x : Ideal .f32} (h : test x = 1#1) : ∃ r : ℝ, (x : EReal) = r := by
  unfold test at h
  rw [inf_top] at h
  by_cases hx : max (x : EReal) (-x) < (⊤ : EReal)
  · have h1 : (x : EReal) < ⊤ := lt_of_le_of_lt (le_max_left _ _) hx
    have h2 : (x : EReal) ≠ ⊥ := fun hb => by
      have := lt_of_le_of_lt (le_max_right (x : EReal) (-x)) hx
      rw [hb, EReal.neg_bot] at this
      exact lt_irrefl _ this
    exact ⟨EReal.toReal x, (EReal.coe_toReal h1.ne h2).symm⟩
  · have h0 : decide (FloatOps.absf x < (⊤ : EReal)) = false := decide_eq_false hx
    rw [h0] at h
    exact absurd h (by decide)

theorem test1 (r : Fin 8192) (j : Fin 256) : fn (F := Ideal) x0 x1 x2 x3 x4 x5 x6 (ix2 ⟨r.val, by omega⟩ j) = test (x1 (ix2 r j)) := by
  unfold test
  pointwise [fn]

theorem test2 (r : Fin 8192) (j : Fin 256) : fn (F := Ideal) x0 x1 x2 x3 x4 x5 x6 (ix2 ⟨8192 + r.val, by omega⟩ j) = test (x2 (ix2 r j)) := by
  unfold test
  pointwise [fn]

theorem test3 (r : Fin 8192) (j : Fin 256) : fn (F := Ideal) x0 x1 x2 x3 x4 x5 x6 (ix2 ⟨8192 + (8192 + r.val), by omega⟩ j) = test (x5 (ix2 r j)) := by
  unfold test
  pointwise [fn]

theorem test4 (s : Fin 256) (j : Fin 256) : fn (F := Ideal) x0 x1 x2 x3 x4 x5 x6 (ix2 ⟨8192 + (8192 + (8192 + s.val)), by omega⟩ j)
    = test (x4 (ix2 s ⟨j.val, by omega⟩)) := by
  unfold test
  pointwise [fn]

theorem test5 (s : Fin 256) (j : Fin 256) : fn (F := Ideal) x0 x1 x2 x3 x4 x5 x6 (ix2 ⟨8192 + (8192 + (8192 + (256 + s.val))), by omega⟩ j)
    = test (x4 (ix2 s ⟨256 + j.val, by omega⟩)) := by
  unfold test
  pointwise [fn]

end Cert.MemGrad
-- ==== Proof.Equation.lean ====
module

public import proofs.«01_k».proof.Proof.RefBackward
public import proofs.«01_k».proof.Proof.Token
public import proofs.«01_k».proof.Proof.Arrays
public import proofs.«01_k».proof.Proof.Finite

@[expose] public section
set_option maxRecDepth 16384
noncomputable section
open Idealize.ShloMosaic Idealize.ShloMosaic.TcCoe Idealize.SL.Sem

/-! # The kernel's arrays and the reference's are equal -/
namespace Cert.MemGrad
open Cert.ReferenceIdeal Cert.ReferenceIdeal.Read Cert.ReferenceIdeal.Gen

variable (Q G C : Vec Ideal S8192x256 .f32) (KV : Vec Ideal S256x512 .f32)

/-- Queries, gates, cotangents, keys and values are real numbers. -/
structure Real' : Prop where
  query : ∀ h r, ∃ f : Fin 64 → ℝ, tok Q h r = up f
  gate : ∀ h r, ∃ f : Fin 64 → ℝ, tok G h r = up f
  cot : ∀ h r, ∃ f : Fin 64 → ℝ, tok C h r = up f
  key : ∀ h, ∃ f : Fin 256 → Fin 64 → ℝ, key KV h = up2 f
  val : ∀ h, ∃ f : Fin 256 → Fin 64 → ℝ, val KV h = up2 f

/-- Two places of an array with the same coordinates are the same place. -/
theorem idx2_ext {a b : Nat} {i j : (⟨2, ![a, b]⟩ : Shape).Idx} (h0 : (i 0).val = (j 0).val) (h1 : (i 1).val = (j 1).val) : i = j := by
  funext k
  refine Fin.cases (Fin.ext h0) (fun k => ?_) k
  refine Fin.cases (Fin.ext h1) (fun k => k.elim0) k

/-- A sum over 8192 tokens is the sum over the 16 points of the sums over their 512 tokens. -/
theorem sum_rows (f : Fin 8192 → EReal) : ∑ r, f r = ∑ t : Fin Cert.KernelIdeal.cfg0.N, ∑ r : Fin 512, f (row t r) := by
  rw [Fin.sum_univ_tiles Cert.KernelIdeal.cfg0.N 512 (congrArg (· * 512) Cert.KernelIdeal.Gen.N_0) f]
  refine Finset.sum_congr rfl fun t _ => Finset.sum_congr rfl fun r _ => ?_
  exact congrArg f (Fin.ext (by show t.val * 512 + r.val = 512 * t.val + r.val; omega))

variable {Q G C KV}

theorem query_eq (H : Real' Q G C KV) (h : Fin 4) (r : Fin 8192) (d : Fin 64) :
    dquery' (tok Q h r) (key KV h) (val KV h) (tok G h r) (tok C h r) d = gradQuery Q G C KV h r d := by
  obtain ⟨q, hq⟩ := H.query h r
  obtain ⟨g, hg⟩ := H.gate h r
  obtain ⟨c, hc⟩ := H.cot h r
  obtain ⟨k, hk⟩ := H.key h
  obtain ⟨v, hv⟩ := H.val h
  unfold gradQuery dquery dquery'
  rw [hq, hg, hc, hk, hv]
  obtain ⟨⟨x, hx, hx'⟩, -⟩ := token_real q k v g c
  simp only [hx, hx', eighth_coe, ← EReal.coe_mul, sum_coe]
  refine congrArg _ ?_
  rw [Finset.sum_mul]
  exact Finset.sum_congr rfl fun s _ => by ring

theorem gate_eq (H : Real' Q G C KV) (h : Fin 4) (r : Fin 8192) (d : Fin 64) :
    dgate' (tok Q h r) (key KV h) (val KV h) (tok G h r) (tok C h r) d = gradGate Q G C KV h r d := by
  obtain ⟨q, hq⟩ := H.query h r
  obtain ⟨g, hg⟩ := H.gate h r
  obtain ⟨c, hc⟩ := H.cot h r
  obtain ⟨k, hk⟩ := H.key h
  obtain ⟨v, hv⟩ := H.val h
  unfold gradGate
  rw [hq, hg, hc, hk, hv]
  exact ((token_real q k v g c).2 d).symm

theorem key_eq (H : Real' Q G C KV) (h : Fin 4) (s : Fin 256) (d : Fin 64) :
    ∑ r, dscore' (tok Q h r) (key KV h) (val KV h) (tok G h r) (tok C h r) s * tok Q h r d = gradKey Q G C KV h s d := by
  choose q hq using H.query h
  choose g hg using H.gate h
  choose c hc using H.cot h
  obtain ⟨k, hk⟩ := H.key h
  obtain ⟨v, hv⟩ := H.val h
  choose x hx hx' using fun r => (token_real (q r) k v (g r) (c r)).1
  unfold gradKey
  rw [sum_rows]
  simp only [hq, hg, hc, hk, hv, hx, hx', eighth_coe, ← EReal.coe_mul, sum_coe]
  refine congrArg _ (Finset.sum_congr rfl fun t _ => ?_)
  rw [Finset.sum_mul]
  exact Finset.sum_congr rfl fun s _ => by ring

theorem val_eq (h : Fin 4) (s : Fin 256) (d : Fin 64) :
    ∑ r, dout' (tok G h r) (tok C h r) d * prob (tok Q h r) (key KV h) s = gradVal Q G C KV h s d := by
  unfold gradVal
  rw [sum_rows]
  refine Finset.sum_congr rfl fun t _ => Finset.sum_congr rfl fun r _ => ?_
  unfold dout' dout logi' logi
  rw [mul_comm, zero_sub, mul_assoc (tok C h (row t r) d)]

/-- The reference's second array at a key column. -/
theorem mem_left (s : Fin 256) (j : Fin 256) : val_main_v70 (F := Ideal) Q G KV C (ix2 s ⟨j.val, by omega⟩) = val_main_v68 (F := Ideal) Q G KV C (ix2 s j) := by
  pointwise [val_main_v70]

/-- The reference's second array at a value column. -/
theorem mem_right (s : Fin 256) (j : Fin 256) : val_main_v70 (F := Ideal) Q G KV C (ix2 s ⟨256 + j.val, by omega⟩) = val_main_v67 (F := Ideal) Q G KV C (ix2 s j) := by
  pointwise [val_main_v70]

/-- The reference's second array is the kernel's. -/
theorem mem_eq (H : Real' Q G C KV) : val_main_v70 (F := Ideal) Q G KV C = gradMem Q G C KV := by
  funext i
  have h1 : (i 1).val < 512 := (i 1).isLt
  obtain ⟨s, hs⟩ : ∃ s : Fin 256, s.val = (i 0).val := ⟨i 0, rfl⟩
  by_cases hi : (i 1).val < 256
  · obtain ⟨h, d, hd⟩ : ∃ (h : Fin 4) (d : Fin 64), (i 1).val = 64 * h.val + d.val := ⟨⟨(i 1).val / 64, by omega⟩, ⟨(i 1).val % 64, by omega⟩, by dsimp only; omega⟩
    have hj : i = ix2 s ⟨(⟨64 * h.val + d.val, by omega⟩ : Fin 256).val, by omega⟩ := idx2_ext (by show (i 0).val = s.val; omega) (by show (i 1).val = 64 * h.val + d.val; omega)
    rw [gradMem_key _ _ _ _ i h s d (by omega) (by omega), ← key_eq H h s d, ← ref_dkey, hj]
    exact mem_left s _
  · obtain ⟨h, d, hd⟩ : ∃ (h : Fin 4) (d : Fin 64), (i 1).val = 256 + (64 * h.val + d.val) := ⟨⟨((i 1).val - 256) / 64, by omega⟩, ⟨(i 1).val % 64, by omega⟩, by dsimp only; omega⟩
    have hj : i = ix2 s ⟨256 + (⟨64 * h.val + d.val, by omega⟩ : Fin 256).val, by dsimp only; omega⟩ := idx2_ext (by show (i 0).val = s.val; omega) (by show (i 1).val = 256 + (64 * h.val + d.val); omega)
    rw [gradMem_val _ _ _ _ i h s d (by omega) (by omega), ← val_eq h s d, ← ref_dval, hj]
    exact mem_right s _

variable (D : Vec Ideal S8192x10368 .bf16)

theorem cols_before (r : Fin 8192) (j : Fin 8704) : val_main_v75 (F := Ideal) Q G KV C D (ix2 r ⟨j.val, by omega⟩) = D (ix2 r ⟨j.val, by omega⟩) := by
  pointwise [val_main_v75, val_main_v71]

theorem cols_query (r : Fin 8192) (j : Fin 256) : val_main_v75 (F := Ideal) Q G KV C D (ix2 r ⟨8704 + j.val, by omega⟩) = val_main_v69 (F := Ideal) Q G KV C (ix2 r j) := by
  pointwise [val_main_v75, val_main_v73]

theorem cols_gate (r : Fin 8192) (j : Fin 256) : val_main_v75 (F := Ideal) Q G KV C D (ix2 r ⟨8704 + (256 + j.val), by omega⟩) = val_main_v43 (F := Ideal) Q G KV C (ix2 r j) := by
  pointwise [val_main_v75, val_main_v74]

theorem cols_after (r : Fin 8192) (j : Fin 1152) : val_main_v75 (F := Ideal) Q G KV C D (ix2 r ⟨8704 + (256 + (256 + j.val)), by omega⟩) = D (ix2 r ⟨9216 + j.val, by omega⟩) := by
  pointwise [val_main_v75, val_main_v72]

/-- The reference's first array is the kernel's. -/
theorem cols_eq (H : Real' Q G C KV) : val_main_v75 (F := Ideal) Q G KV C D = fun i => if (i 1).val / 512 = 17 then gradCols Q G C KV i else D i := by
  funext i
  have h1 : (i 1).val < 10368 := (i 1).isLt
  obtain ⟨r, hr⟩ : ∃ r : Fin 8192, r.val = (i 0).val := ⟨i 0, rfl⟩
  show _ = if (i 1).val / 512 = 17 then gradCols Q G C KV i else D i
  by_cases ha : (i 1).val < 8704
  · rw [if_neg (by omega)]
    have hj : i = ix2 r ⟨(⟨(i 1).val, ha⟩ : Fin 8704).val, by omega⟩ := idx2_ext (by show (i 0).val = r.val; omega) rfl
    rw [hj]
    exact cols_before D r _
  by_cases hb : (i 1).val < 8960
  · rw [if_pos (by omega)]
    obtain ⟨h, d, hd⟩ : ∃ (h : Fin 4) (d : Fin 64), (i 1).val = 8704 + (64 * h.val + d.val) := ⟨⟨((i 1).val - 8704) / 64, by omega⟩, ⟨(i 1).val % 64, by omega⟩, by dsimp only; omega⟩
    have hj : i = ix2 r ⟨8704 + (⟨64 * h.val + d.val, by omega⟩ : Fin 256).val, by dsimp only; omega⟩ := idx2_ext (by show (i 0).val = r.val; omega) (by show (i 1).val = 8704 + (64 * h.val + d.val); omega)
    rw [gradCols_query _ _ _ _ i h r d (by omega) (by omega), ← query_eq H h r d, ← ref_dquery, hj]
    exact cols_query D r _
  by_cases hc : (i 1).val < 9216
  · rw [if_pos (by omega)]
    obtain ⟨h, d, hd⟩ : ∃ (h : Fin 4) (d : Fin 64), (i 1).val = 8704 + (256 + (64 * h.val + d.val)) := ⟨⟨((i 1).val - 8960) / 64, by omega⟩, ⟨(i 1).val % 64, by omega⟩, by dsimp only; omega⟩
    have hj : i = ix2 r ⟨8704 + (256 + (⟨64 * h.val + d.val, by omega⟩ : Fin 256).val), by dsimp only; omega⟩ := idx2_ext (by show (i 0).val = r.val; omega) (by show (i 1).val = 8704 + (256 + (64 * h.val + d.val)); omega)
    rw [gradCols_gate _ _ _ _ i h r d (by omega) (by omega), ← gate_eq H h r d, ← ref_dgate, hj]
    exact cols_gate D r _
  · rw [if_neg (by omega)]
    have hj : i = ix2 r ⟨8704 + (256 + (256 + (⟨(i 1).val - 9216, by omega⟩ : Fin 1152).val)), by dsimp only; omega⟩ := idx2_ext (by show (i 0).val = r.val; omega) (by show (i 1).val = 8704 + (256 + (256 + ((i 1).val - 9216))); omega)
    have hk : i = ix2 r ⟨9216 + (⟨(i 1).val - 9216, by omega⟩ : Fin 1152).val, by dsimp only; omega⟩ := idx2_ext (by show (i 0).val = r.val; omega) (by show (i 1).val = 9216 + ((i 1).val - 9216); omega)
    exact ((congrArg _ hj).trans (cols_after D r _)).trans (congrArg D hk.symm)

/-- The precondition says that the queries, gates, keys, values and cotangents are real. -/
theorem real_of_pre [Cert.Pre_finite.Facts] {x0 x3} (hp : Cert.Pre_finite.fn (F := Ideal) x0 Q G x3 KV C D = fun _ => 1#1) : Real' Q G C KV where
  query h r := by
    choose f hf using fun d : Fin 64 => real_of_test ((test1 ..).symm.trans (congrFun hp (ix2 _ _)) : test (Q (ix2 r ⟨64 * h.val + d.val, by omega⟩)) = 1#1)
    exact ⟨f, funext hf⟩
  gate h r := by
    choose f hf using fun d : Fin 64 => real_of_test ((test2 ..).symm.trans (congrFun hp (ix2 _ _)) : test (G (ix2 r ⟨64 * h.val + d.val, by omega⟩)) = 1#1)
    exact ⟨f, funext hf⟩
  cot h r := by
    choose f hf using fun d : Fin 64 => real_of_test ((test3 ..).symm.trans (congrFun hp (ix2 _ _)) : test (C (ix2 r ⟨64 * h.val + d.val, by omega⟩)) = 1#1)
    exact ⟨f, funext hf⟩
  key h := by
    choose f hf using fun (s : Fin 256) (d : Fin 64) => real_of_test ((test4 (j := ⟨64 * h.val + d.val, by omega⟩) ..).symm.trans (congrFun hp (ix2 _ _)) : test (KV (ix2 s ⟨64 * h.val + d.val, by omega⟩)) = 1#1)
    exact ⟨f, funext fun s => funext (hf s)⟩
  val h := by
    choose f hf using fun (s : Fin 256) (d : Fin 64) => real_of_test ((test5 (j := ⟨64 * h.val + d.val, by omega⟩) ..).symm.trans (congrFun hp (ix2 _ _)) : test (KV (ix2 s ⟨256 + (64 * h.val + d.val), by omega⟩)) = 1#1)
    exact ⟨f, funext fun s => funext fun d => by show val KV h s d = _; unfold val; exact (congrArg KV (idx2_ext (i := ix2 s ⟨256 + 64 * h.val + d.val, by omega⟩) (j := ix2 s ⟨256 + (64 * h.val + d.val), by omega⟩) rfl (Nat.add_assoc ..))).trans (hf s d)⟩

end Cert.MemGrad
-- ==== Proof.WeightGrad.lean ====
module

public import proofs.«01_k».proof.Proof.Gen.Kernel2Ideal.Value
public import proofs.«01_k».proof.Proof.Gen.Reference2Ideal.Read
public import Idealize.ShloMosaic.Lib.Pipeline.ValueKit

@[expose] public section
set_option maxRecDepth 16384
noncomputable section
open Idealize.ShloMosaic Idealize.ShloMosaic.TcCoe Idealize.SL.Sem

/-! # The gradient of the projection with respect to its weight

The kernel walks the 8192 tokens in 8 steps of 1024, for each of the 9 blocks of 1152 columns. -/
namespace Cert.WeightGrad
open Cert.Kernel2Ideal Cert.Kernel2Ideal.Gen

/-- One entry of the product of two blocks. -/
def part (a : Vec Ideal S1024x1024 .bf16) (b : Vec Ideal S1024x1152 .bf16) (j : S1024x1152.Idx) : EReal :=
  ∑ k : Fin 1024, a (ix2 (j 0) k) * b (ix2 k (j 1))

theorem first_pay (a : Vec Ideal S1024x1024 .bf16) (b : Vec Ideal S1024x1152 .bf16) (j : S1024x1152.Idx) : k0_pay2 (F := Ideal) a b j = part a b j := by
  unfold part; pointwise [k0_pay2, k0_pay1]

theorem next_pay (a : Vec Ideal S1024x1024 .bf16) (b : Vec Ideal S1024x1152 .bf16) (s : Vec Ideal S1024x1152 .f32) (j : S1024x1152.Idx) :
    k0_pay3 (F := Ideal) a b s j = s j + part a b j := by
  unfold part; pointwise [k0_pay3, k0_pay1]

theorem last_pay (s : Vec Ideal S1024x1152 .f32) (j : S1024x1152.Idx) : k0_pay4 (F := Ideal) s j = s j := by pointwise [k0_pay4]

variable (m : (ℓ : Loc nD τ sig) → Buf (Elt Ideal) ℓ)

/-- The first step of a block stores its part. -/
theorem sum_first (c : Dev nD) (t : Fin cfg0.N) (h : t.val % 8 = 0) (j : S1024x1152.Idx) :
    (outsAt0 m c t.val t.isLt).2 j = 0 + part (iblk m c 0 t) (iblk m c 1 t) j := by
  rw [outsAt0_A m c t h (by omega) (by omega)]; frame_out; rw [first_pay, zero_add]

/-- A later step adds its part. -/
theorem sum_next (c : Dev nD) (t : Fin cfg0.N) (h : ¬ t.val % 8 = 0) (j : S1024x1152.Idx) :
    (outsAt0 m c t.val t.isLt).2 j = (outsAt0 m c (t.val - 1) (Nat.lt_of_le_of_lt (Nat.sub_le _ _) t.isLt)).2 j + part (iblk m c 0 t) (iblk m c 1 t) j := by
  by_cases h2 : t.val % 8 = 7
  · rw [outsAt0_C m c t h (by omega) h2]; frame_out; rw [next_pay]; exact congrArg (· + _) (congrFun (Memref.IsWhole.read_unread _ _) j)
  · rw [outsAt0_B m c t h (by omega) h2]; frame_out; rw [next_pay]; exact congrArg (· + _) (congrFun (Memref.IsWhole.read_unread _ _) j)

/-- The last step stores the sum in the output. -/
theorem out_last (c : Dev nD) (t : Fin cfg0.N) (h : t.val % 8 = 7) (j : S1024x1152.Idx) :
    (outsAt0 m c t.val t.isLt).1 j = (outsAt0 m c t.val t.isLt).2 j := by
  rw [outsAt0_C m c t (by omega) (by omega) h]; frame_out; rw [last_pay]

theorem idxs : ∀ t : Fin cfg0.N, (win0_0.index t 0 = 0 ∧ win0_0.index t 1 = t.val % 8) ∧ (win0_1.index t 0 = t.val % 8 ∧ win0_1.index t 1 = t.val / 8)
    ∧ (win0_2.index t 0 = 0 ∧ win0_2.index t 1 = t.val / 8) :=
  (by decide +kernel : ∀ t : Fin grid0.N, (win0_0.index t 0 = 0 ∧ win0_0.index t 1 = t.val % 8) ∧ (win0_1.index t 0 = t.val % 8 ∧ win0_1.index t 1 = t.val / 8)
    ∧ (win0_2.index t 0 = 0 ∧ win0_2.index t 1 = t.val / 8))

/-- The gradient of the weight, entry by entry. -/
def grad (X : Vec Ideal S8192x1024 .f32) (C : Vec Ideal S8192x10368 .bf16) (i : S1024x10368.Idx) : EReal :=
  ∑ r : Fin 8192, X (ix2 r (i 0)) * C (ix2 r (i 1))

/-- The operand of the first window is the tokens, transposed. -/
theorem turned (c : Dev nD) (x : S1024x8192.Idx) (r : Fin 8192) (d : Fin 1024) (h0 : (x 0).val = d.val) (h1 : (x 1).val = r.val) :
    V m c main_v1 x = m ((c : Thread nD τ).loc main_arg0) (ix2 r d) := by
  have hx : x = (ix2 d r : S1024x8192.Idx) := by blk_ext [h0, h1]
  rw [hx]
  entry_read
  pointwise

/-- One entry of the block of tokens a step reads. -/
theorem left_read (c : Dev nD) (t : Fin cfg0.N) (a : Fin 1024) (k : Fin 1024) (r : Fin 8192) (hr : r.val = t.val % 8 * 1024 + k.val) :
    iblk m c 0 t (ix2 a k) = m ((c : Thread nD τ).loc main_arg0) (ix2 r a) := by
  unfold iblk
  refine turned m c _ r a ?_ ?_
  · blk_simp [idxs t]
  · blk_simp [idxs t]; omega

/-- One entry of the block of cotangents a step reads. -/
theorem right_read (c : Dev nD) (t : Fin cfg0.N) (k : Fin 1024) (b : Fin 1152) (r : Fin 8192) (p : Fin 10368)
    (hr : r.val = t.val % 8 * 1024 + k.val) (hp : p.val = t.val / 8 * 1152 + b.val) :
    iblk m c 1 t (ix2 k b) = m ((c : Thread nD τ).loc main_arg2) (ix2 r p) := by
  blk_ext [iblk, V, idxs t, hr, hp]

/-- The array the kernel leaves is the gradient. -/
theorem array (c : Dev nD) : (dats m 0 c).arrAt 2 cfg0.N
    = grad (m ((c : Thread nD τ).loc main_arg0)) (m ((c : Thread nD τ).loc main_arg2)) := by
  refine (dats m 0 c).arrAt_eq_of_covers 2 _ (by decide +kernel) fun t hf y => ?_
  blk_simp
  have h7 : t.val % 8 = 7 := (flush0_2 t).mp hf
  rw [after0_2, out_last m c t h7, Pipeline.eq_sum_fin_of_reset_step_apply_of_flush (fun n h => (outsAt0 m c n h).2) 8 (fun _ => 0)
    (fun t j => part (iblk m c 0 t) (iblk m c 1 t) j) (fun t h j => sum_first m c t h j) (fun t h j => sum_next m c t h j) t h7 _, zero_add]
  unfold grad part
  refine Fin.sum_mul_add_congr fun s k hl => ?_
  have hs := Pipeline.run_point_lt_of_flush t h7 s
  have hr : s.val * 1024 + k.val = (⟨8 * (t.val / 8) + s.val, hs⟩ : Fin cfg0.N).val % 8 * 1024 + k.val := by
    have := s.isLt; dsimp only; omega
  refine congrArg₂ (· * ·) ((left_read m c ⟨_, hs⟩ (y 0) k ⟨_, hl⟩ hr).trans ?_) (right_read m c ⟨_, hs⟩ k (y 1) ⟨_, hl⟩ _ hr ?_)
  · blk_ext [idxs t]
  · blk_simp [idxs t]; dsimp only; have := s.isLt; omega

variable (X : Vec Ideal S8192x1024 .f32) (C : Vec Ideal S8192x10368 .bf16)

/-- The reference's array is the gradient. -/
theorem reference : Cert.Reference2Ideal.Read.val_main_v5 (F := Ideal) X C = grad X C := by
  funext i
  unfold grad
  pointwise [Cert.Reference2Ideal.Read.val_main_v5, Cert.Reference2Ideal.Read.val_main_v4, Cert.Reference2Ideal.Read.val_main_v3, Cert.Reference2Ideal.Read.val_main_v2]
  exact Finset.sum_congr rfl fun r _ => mul_comm _ _

end Cert.WeightGrad
-- ==== Proof.InputGrad.lean ====
module

public import proofs.«01_k».proof.Proof.Gen.Kernel3Ideal.Value
public import proofs.«01_k».proof.Proof.Gen.Reference3Ideal.Read
public import Idealize.ShloMosaic.Lib.Pipeline.ValueKit

@[expose] public section
set_option maxRecDepth 16384
noncomputable section
open Idealize.ShloMosaic Idealize.ShloMosaic.TcCoe Idealize.SL.Sem

/-! # The gradient of the projection and of the residual branch with respect to the tokens

The kernel walks the 10368 columns in 9 steps of 1152, for each of the 8 blocks of 1024 tokens, and
adds the scaled cotangent of the residual branch in the last step. -/
namespace Cert.InputGrad
open Cert.Kernel3Ideal Cert.Kernel3Ideal.Gen

/-- One entry of the product of a block with the transpose of another. -/
def part (a : Vec Ideal S1024x1152 .bf16) (b : Vec Ideal S1024x1152 .bf16) (j : S1024x1024.Idx) : EReal :=
  ∑ k : Fin 1152, a (ix2 (j 0) k) * b (ix2 (j 1) k)

theorem first_pay (a : Vec Ideal S1024x1152 .bf16) (b : Vec Ideal S1024x1152 .bf16) (j : S1024x1024.Idx) : k0_pay2 (F := Ideal) a b j = part a b j := by
  unfold part; pointwise [k0_pay2, k0_pay1]

theorem next_pay (a : Vec Ideal S1024x1152 .bf16) (b : Vec Ideal S1024x1152 .bf16) (s : Vec Ideal S1024x1024 .f32) (j : S1024x1024.Idx) :
    k0_pay3 (F := Ideal) a b s j = s j + part a b j := by
  unfold part; pointwise [k0_pay3, k0_pay1]

theorem last_pay (s d : Vec Ideal S1024x1024 .f32) (j : S1024x1024.Idx) :
    k0_pay4 (F := Ideal) s d j = s j + Ideal.ofBits .f32 0x3FD744FD#32 * d j := by pointwise [k0_pay4]

variable (m : (ℓ : Loc nD τ sig) → Buf (Elt Ideal) ℓ)

/-- The first step of a block stores its part. -/
theorem sum_first (c : Dev nD) (t : Fin cfg0.N) (h : t.val % 9 = 0) (j : S1024x1024.Idx) :
    (outsAt0 m c t.val t.isLt).2 j = 0 + part (iblk m c 0 t) (iblk m c 1 t) j := by
  rw [outsAt0_A m c t h (by omega) (by omega)]; frame_out; rw [first_pay, zero_add]

/-- A later step adds its part. -/
theorem sum_next (c : Dev nD) (t : Fin cfg0.N) (h : ¬ t.val % 9 = 0) (j : S1024x1024.Idx) :
    (outsAt0 m c t.val t.isLt).2 j = (outsAt0 m c (t.val - 1) (Nat.lt_of_le_of_lt (Nat.sub_le _ _) t.isLt)).2 j + part (iblk m c 0 t) (iblk m c 1 t) j := by
  by_cases h2 : t.val % 9 = 8
  · rw [outsAt0_C m c t h (by omega) h2]; frame_out; rw [next_pay]; exact congrArg (· + _) (congrFun (Memref.IsWhole.read_unread _ _) j)
  · rw [outsAt0_B m c t h (by omega) h2]; frame_out; rw [next_pay]; exact congrArg (· + _) (congrFun (Memref.IsWhole.read_unread _ _) j)

/-- The last step stores the sum and the scaled cotangent in the output. -/
theorem out_last (c : Dev nD) (t : Fin cfg0.N) (h : t.val % 9 = 8) (j : S1024x1024.Idx) :
    (outsAt0 m c t.val t.isLt).1 j = (outsAt0 m c t.val t.isLt).2 j + Ideal.ofBits .f32 0x3FD744FD#32 * (iblk m c 2 t) j := by
  rw [outsAt0_C m c t (by omega) (by omega) h]; frame_out; rw [last_pay]

theorem idxs : ∀ t : Fin cfg0.N, (win0_0.index t 0 = t.val / 9 ∧ win0_0.index t 1 = t.val % 9) ∧ (win0_1.index t 0 = 0 ∧ win0_1.index t 1 = t.val % 9)
    ∧ (win0_2.index t 0 = t.val / 9 ∧ win0_2.index t 1 = 0) ∧ (win0_3.index t 0 = t.val / 9 ∧ win0_3.index t 1 = 0) :=
  (by decide +kernel : ∀ t : Fin grid0.N, (win0_0.index t 0 = t.val / 9 ∧ win0_0.index t 1 = t.val % 9) ∧ (win0_1.index t 0 = 0 ∧ win0_1.index t 1 = t.val % 9)
    ∧ (win0_2.index t 0 = t.val / 9 ∧ win0_2.index t 1 = 0) ∧ (win0_3.index t 0 = t.val / 9 ∧ win0_3.index t 1 = 0))

/-- The gradient of the tokens, entry by entry. -/
def grad (W : Vec Ideal S1024x10368 .bf16) (C : Vec Ideal S8192x10368 .bf16) (D : Vec Ideal S8192x1024 .f32) (i : S8192x1024.Idx) : EReal :=
  (∑ p : Fin 10368, C (ix2 (i 0) p) * W (ix2 (i 1) p)) + Ideal.ofBits .f32 0x3FD744FD#32 * D i

/-- One entry of the block of cotangents a step reads. -/
theorem left_read (c : Dev nD) (t : Fin cfg0.N) (a : Fin 1024) (k : Fin 1152) (r : Fin 8192) (p : Fin 10368)
    (hr : r.val = t.val / 9 * 1024 + a.val) (hp : p.val = t.val % 9 * 1152 + k.val) :
    iblk m c 0 t (ix2 a k) = m ((c : Thread nD τ).loc main_arg2) (ix2 r p) := by
  blk_ext [iblk, V, idxs t, hr, hp]

/-- One entry of the block of the weight a step reads. -/
theorem right_read (c : Dev nD) (t : Fin cfg0.N) (b : Fin 1024) (k : Fin 1152) (d : Fin 1024) (p : Fin 10368)
    (hd : d.val = b.val) (hp : p.val = t.val % 9 * 1152 + k.val) :
    iblk m c 1 t (ix2 b k) = m ((c : Thread nD τ).loc main_arg1) (ix2 d p) := by
  blk_ext [iblk, V, idxs t, hd, hp]

/-- The array the kernel leaves is the gradient. -/
theorem array (c : Dev nD) : (dats m 0 c).arrAt 3 cfg0.N
    = grad (m ((c : Thread nD τ).loc main_arg1)) (m ((c : Thread nD τ).loc main_arg2)) (m ((c : Thread nD τ).loc main_arg3)) := by
  refine (dats m 0 c).arrAt_eq_of_covers 3 _ (by decide +kernel) fun t hf y => ?_
  blk_simp
  have h8 : t.val % 9 = 8 := (flush0_3 t).mp hf
  rw [after0_3, out_last m c t h8, Pipeline.eq_sum_fin_of_reset_step_apply_of_flush (fun n h => (outsAt0 m c n h).2) 9 (fun _ => 0)
    (fun t j => part (iblk m c 0 t) (iblk m c 1 t) j) (fun t h j => sum_first m c t h j) (fun t h j => sum_next m c t h j) t h8 _, zero_add]
  unfold grad part
  refine congrArg₂ (· + ·) (Fin.sum_mul_add_congr fun s k hl => ?_) (congrArg _ ?_)
  · have hs := Pipeline.run_point_lt_of_flush t h8 s
    have hp : s.val * 1152 + k.val = (⟨9 * (t.val / 9) + s.val, hs⟩ : Fin cfg0.N).val % 9 * 1152 + k.val := by
      have := s.isLt; dsimp only; omega
    refine congrArg₂ (· * ·) (left_read m c ⟨_, hs⟩ (y 0) k _ ⟨_, hl⟩ ?_ hp) (right_read m c ⟨_, hs⟩ (y 1) k _ ⟨_, hl⟩ ?_ hp)
    · blk_simp [idxs t]; dsimp only; have := s.isLt; omega
    · blk_simp [idxs t]
  · blk_ext [iblk, V, idxs t]

variable (W : Vec Ideal S1024x10368 .bf16) (C : Vec Ideal S8192x10368 .bf16) (D : Vec Ideal S8192x1024 .f32)

/-- The reference's array is the gradient. -/
theorem reference : Cert.Reference3Ideal.Read.val_main_v8 (F := Ideal) W C D = grad W C D := by
  funext i
  unfold grad
  pointwise [Cert.Reference3Ideal.Read.val_main_v8, Cert.Reference3Ideal.Read.val_main_v7, Cert.Reference3Ideal.Read.val_main_v6, Cert.Reference3Ideal.Read.val_main_v5,
    Cert.Reference3Ideal.Read.val_main_v4, Cert.Reference3Ideal.Read.val_main_cst_0, Cert.Reference3Ideal.Read.val_main_v0]
  exact add_comm _ _

end Cert.InputGrad
-- ==== Proof.Project.lean ====
module

public import proofs.«01_k».proof.Proof.Gen.Kernel4Ideal.Value
public import proofs.«01_k».proof.Proof.Gen.Reference4Ideal.Read
public import Idealize.ShloMosaic.Lib.Pipeline.ValueKit

@[expose] public section
set_option maxRecDepth 16384
noncomputable section
open Idealize.ShloMosaic Idealize.ShloMosaic.TcCoe Idealize.SL.Sem

/-! # The projection of the tokens

Each point of the grid computes one block of 1024 tokens and 1152 columns, with one product. -/
namespace Cert.Project
open Cert.Kernel4Ideal Cert.Kernel4Ideal.Gen

/-- One entry of the product of two blocks. -/
def part (a : Vec Ideal S1024x1024 .f32) (b : Vec Ideal S1024x1152 .bf16) (j : S1024x1152.Idx) : EReal :=
  ∑ k : Fin 1024, a (ix2 (j 0) k) * b (ix2 k (j 1))

theorem pay (a : Vec Ideal S1024x1024 .f32) (b : Vec Ideal S1024x1152 .bf16) (j : S1024x1152.Idx) : k0_pay1 (F := Ideal) a b j = part a b j := by
  unfold part; pointwise [k0_pay1]

variable (m : (ℓ : Loc nD τ sig) → Buf (Elt Ideal) ℓ)

theorem idxs : ∀ t : Fin cfg0.N, (win0_0.index t 0 = t.val / 9 ∧ win0_0.index t 1 = 0) ∧ (win0_1.index t 0 = 0 ∧ win0_1.index t 1 = t.val % 9)
    ∧ (win0_2.index t 0 = t.val / 9 ∧ win0_2.index t 1 = t.val % 9) :=
  (by decide +kernel : ∀ t : Fin grid0.N, (win0_0.index t 0 = t.val / 9 ∧ win0_0.index t 1 = 0) ∧ (win0_1.index t 0 = 0 ∧ win0_1.index t 1 = t.val % 9)
    ∧ (win0_2.index t 0 = t.val / 9 ∧ win0_2.index t 1 = t.val % 9))

/-- The projection, entry by entry. -/
def proj (X : Vec Ideal S8192x1024 .f32) (W : Vec Ideal S1024x10368 .bf16) (i : S8192x10368.Idx) : EReal :=
  ∑ k : Fin 1024, X (ix2 (i 0) k) * W (ix2 k (i 1))

/-- One entry of the block of tokens a point reads. -/
theorem left_read (c : Dev nD) (t : Fin cfg0.N) (a : Fin 1024) (k : Fin 1024) (r : Fin 8192) (hr : r.val = t.val / 9 * 1024 + a.val) :
    iblk m c 0 t (ix2 a k) = m ((c : Thread nD τ).loc main_arg0) (ix2 r k) := by
  blk_ext [iblk, V, idxs t, hr]

/-- One entry of the block of the weight a point reads. -/
theorem right_read (c : Dev nD) (t : Fin cfg0.N) (k : Fin 1024) (b : Fin 1152) (p : Fin 10368) (hp : p.val = t.val % 9 * 1152 + b.val) :
    iblk m c 1 t (ix2 k b) = m ((c : Thread nD τ).loc main_arg1) (ix2 k p) := by
  blk_ext [iblk, V, idxs t, hp]

/-- A product of two blocks is the projection's entry where the blocks' entries are the arrays'. -/
theorem part_eq_proj (a : Vec Ideal S1024x1024 .f32) (b : Vec Ideal S1024x1152 .bf16) (j : S1024x1152.Idx) (X : Vec Ideal S8192x1024 .f32)
    (W : Vec Ideal S1024x10368 .bf16) (i : S8192x10368.Idx) (h : ∀ k, a (ix2 (j 0) k) = X (ix2 (i 0) k) ∧ b (ix2 k (j 1)) = W (ix2 k (i 1))) :
    part a b j = proj X W i :=
  Finset.sum_congr rfl fun k _ => congrArg₂ (· * ·) (h k).1 (h k).2

/-- The array the kernel leaves is the projection. -/
theorem array (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  rw [pay]
  refine part_eq_proj _ _ _ _ _ _ fun k => ⟨left_read m c t (y 0) k _ ?_, right_read m c t k (y 1) _ ?_⟩
  · blk_simp [idxs t]
  · blk_simp [idxs t]

variable (X : Vec Ideal S8192x1024 .f32) (W : Vec Ideal S1024x10368 .bf16)

/-- The reference's array is the projection. -/
theorem reference : Cert.Reference4Ideal.Read.val_main_v1 (F := Ideal) X W = proj X W := by
  funext i
  unfold proj
  pointwise [Cert.Reference4Ideal.Read.val_main_v1, Cert.Reference4Ideal.Read.val_main_v0]

end Cert.Project
-- ==== Proof.Adam.lean ====
module

public import proofs.«01_k».proof.Proof.Gen.Kernel5Ideal.Value
public import proofs.«01_k».proof.Proof.Gen.Reference5Ideal.Read
public import Idealize.ShloMosaic.Lib.Pipeline.ValueKit

@[expose] public section
set_option maxRecDepth 16384
noncomputable section
open Idealize.ShloMosaic Idealize.ShloMosaic.TcCoe Idealize.SL.Sem

/-! # One step of the optimiser on the projection's weight

Each point of the grid updates 128 rows; the gradient is the sum of the eight devices' parts. -/
namespace Cert.Adam
open Cert.Kernel5Ideal Cert.Kernel5Ideal.Gen

/-- The new first moment, from the old one and the gradient. -/
def newM (m g : EReal) : EReal := Ideal.ofBits .f32 0x3F666666#32 * m + Ideal.ofBits .f32 0x3DCCCCCD#32 * g

/-- The new second moment. -/
def newV (v g : EReal) : EReal := Ideal.ofBits .f32 0x3F7FBE77#32 * v + Ideal.ofBits .f32 0x3A83126F#32 * (g * g)

theorem pay1 (g m : Vec Ideal S128x1281 .f32) (j : S128x1281.Idx) : k0_pay1 (F := Ideal) g m j = newM (m j) (g j) := by
  unfold newM; pointwise [k0_pay1]

theorem pay2 (g v : Vec Ideal S128x1281 .f32) (j : S128x1281.Idx) : k0_pay2 (F := Ideal) g v j = newV (v j) (g j) := by
  unfold newV; pointwise [k0_pay2]

/-- What the weight is changed by, from the new moments and the weight. -/
def delta (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

theorem pay3 (g m v w : Vec Ideal S128x1281 .f32) (j : S128x1281.Idx) :
    k0_pay3 (F := Ideal) g m v w j = delta (w j) (newM (m j) (g j)) (newV (v j) (g j)) := by
  rw [← pay1, ← pay2]; unfold delta; pointwise [k0_pay3]

theorem pay6 (W M V : Vec Ideal S128x1281 .f32) (G : Vec Ideal S8x128x1281 .bf16) (j : S128x1281.Idx) :
    k0_pay6 (F := Ideal) W M V G j = ∑ p : Fin 8, G (ix3 p (j 0) (j 1)) := by
  unfold k0_pay6
  simp only [Fin.sum_univ_eight]
  pointwise [k0_pay4]

theorem pay7 (W M V : Vec Ideal S128x1281 .f32) (G : Vec Ideal S8x128x1281 .bf16) (j : S128x1281.Idx) : k0_pay7 (F := Ideal) W M V G j = M j := by
  unfold k0_pay7; pointwise [k0_pay5]

/-- The gradient: the sum of the parts. -/
def grad (G : Vec Ideal S8x4096x1281 .bf16) (i : S4096x1281.Idx) : EReal := ∑ p : Fin 8, G (ix3 p (i 0) (i 1))

/-- A weight's entry at a row of the four layers' rows together. -/
def flat (W : Vec Ideal S4x1024x1281 .f32) (i : S4096x1281.Idx) : EReal :=
  W (ix3 ⟨(i 0).val / 1024, Nat.div_lt_of_lt_mul (i 0).isLt⟩ ⟨(i 0).val % 1024, Nat.mod_lt _ (by decide)⟩ (i 1))

section kernel
variable (m : (ℓ : Loc nD τ sig) → Buf (Elt Ideal) ℓ)

theorem idxs : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-- The three operands of the size of the weight are the arguments, the layers' rows together. -/
theorem rows0 (c : Dev nD) (i : S4096x1281.Idx) : Gen.V m c main_v0 i = flat (m ((c : Thread nD τ).loc main_arg0)) i := by
  unfold flat; entry_read; pointwise

theorem rows1 (c : Dev nD) (i : S4096x1281.Idx) : Gen.V m c main_v1 i = flat (m ((c : Thread nD τ).loc main_arg1)) i := by
  unfold flat; entry_read; pointwise

theorem rows2 (c : Dev nD) (i : S4096x1281.Idx) : Gen.V m c main_v2 i = flat (m ((c : Thread nD τ).loc main_arg2)) i := by
  unfold flat; entry_read; pointwise

/-- One entry of the sum of the parts' blocks a point reads. -/
theorem parts_read (c : Dev nD) (t : Fin cfg0.N) (j : S128x1281.Idx) (i : S4096x1281.Idx) (h0 : (i 0).val = t.val * 128 + (j 0).val) (h1 : (i 1).val = (j 1).val) :
    k0_pay6 (F := Ideal) (iblk m c 0 t) (iblk m c 1 t) (iblk m c 2 t) (iblk m c 3 t) j = grad (m ((c : Thread nD τ).loc main_arg3)) i := by
  rw [pay6]
  refine Finset.sum_congr rfl fun p _ => ?_
  blk_ext [iblk, Gen.V, idxs t, h0, h1]

/-- One entry of each block of an operand of the size of the weight. -/
theorem read0 (c : Dev nD) (t : Fin cfg0.N) (j : S128x1281.Idx) (i : S4096x1281.Idx) (h0 : (i 0).val = t.val * 128 + (j 0).val) (h1 : (i 1).val = (j 1).val) :
    (iblk m c 0 t : Vec Ideal S128x1281 .f32) j = flat (m ((c : Thread nD τ).loc main_arg0)) i := by
  rw [← rows0]; blk_ext [iblk, idxs t, h0, h1]

theorem read1 (c : Dev nD) (t : Fin cfg0.N) (j : S128x1281.Idx) (i : S4096x1281.Idx) (h0 : (i 0).val = t.val * 128 + (j 0).val) (h1 : (i 1).val = (j 1).val) :
    (iblk m c 1 t : Vec Ideal S128x1281 .f32) j = flat (m ((c : Thread nD τ).loc main_arg1)) i := by
  rw [← rows1]; blk_ext [iblk, idxs t, h0, h1]

theorem read2 (c : Dev nD) (t : Fin cfg0.N) (j : S128x1281.Idx) (i : S4096x1281.Idx) (h0 : (i 0).val = t.val * 128 + (j 0).val) (h1 : (i 1).val = (j 1).val) :
    (iblk m c 2 t : Vec Ideal S128x1281 .f32) j = flat (m ((c : Thread nD τ).loc main_arg2)) i := by
  rw [← rows2]; blk_ext [iblk, idxs t, h0, h1]

theorem array4 (c : Dev nD) : (dats m 0 c).arrAt 4 cfg0.N = grad (m ((c : Thread nD τ).loc main_arg3)) := by
  refine (dats m 0 c).arrAt_eq_of_covers 4 _ (by decide +kernel) fun t hf y => ?_
  blk_simp
  rw [after0_4]
  unfold out0_4
  frame_out
  refine parts_read m c t y _ ?_ ?_ <;> blk_simp [idxs t]

theorem array5 (c : Dev nD) : (dats m 0 c).arrAt 5 cfg0.N
    = fun i => delta (flat (m ((c : Thread nD τ).loc main_arg0)) i)
        (newM (flat (m ((c : Thread nD τ).loc main_arg1)) i) (grad (m ((c : Thread nD τ).loc main_arg3)) i))
        (newV (flat (m ((c : Thread nD τ).loc main_arg2)) i) (grad (m ((c : Thread nD τ).loc main_arg3)) i)) := by
  refine (dats m 0 c).arrAt_eq_of_covers 5 _ (by decide +kernel) fun t hf y => ?_
  blk_simp
  rw [after0_5]
  unfold out0_5
  frame_out
  rw [pay3, pay7]
  refine congr (congr (congrArg delta (read0 m c t y _ ?_ ?_)) (congr (congrArg newM (read1 m c t y _ ?_ ?_)) (parts_read m c t y _ ?_ ?_)))
    (congr (congrArg newV (read2 m c t y _ ?_ ?_)) (parts_read m c t y _ ?_ ?_)) <;> blk_simp [idxs t]

theorem array6 (c : Dev nD) : (dats m 0 c).arrAt 6 cfg0.N
    = fun i => newM (flat (m ((c : Thread nD τ).loc main_arg1)) i) (grad (m ((c : Thread nD τ).loc main_arg3)) i) := by
  refine (dats m 0 c).arrAt_eq_of_covers 6 _ (by decide +kernel) fun t hf y => ?_
  blk_simp
  rw [after0_6]
  unfold out0_6
  frame_out
  rw [pay1, pay7]
  refine congr (congrArg newM (read1 m c t y _ ?_ ?_)) (parts_read m c t y _ ?_ ?_) <;> blk_simp [idxs t]

theorem array7 (c : Dev nD) : (dats m 0 c).arrAt 7 cfg0.N
    = fun i => newV (flat (m ((c : Thread nD τ).loc main_arg2)) i) (grad (m ((c : Thread nD τ).loc main_arg3)) i) := by
  refine (dats m 0 c).arrAt_eq_of_covers 7 _ (by decide +kernel) fun t hf y => ?_
  blk_simp
  rw [after0_7]
  unfold out0_7
  frame_out
  rw [pay2]
  refine congr (congrArg newV (read2 m c t y _ ?_ ?_)) (parts_read m c t y _ ?_ ?_) <;> blk_simp [idxs t]

end kernel

variable (W M V : Vec Ideal S4x1024x1281 .f32) (G : Vec Ideal S8x4096x1281 .bf16)

theorem ref_sum (i : S4096x1281.Idx) : Cert.Reference5Ideal.Read.val_main_v1 (F := Ideal) G i = grad G i := by
  unfold grad
  pointwise [Cert.Reference5Ideal.Read.val_main_v1, Cert.Reference5Ideal.Read.val_main_v0, Cert.Reference5Ideal.Read.val_main_cst]

theorem ref_newM (j : S4x1024x1281.Idx) : Cert.Reference5Ideal.Read.val_main_v7 (F := Ideal) M G j = newM (M j) (Cert.Reference5Ideal.Read.val_main_v2 (F := Ideal) G j) := by
  unfold newM; pointwise [Cert.Reference5Ideal.Read.val_main_v7, Cert.Reference5Ideal.Read.val_main_v4, Cert.Reference5Ideal.Read.val_main_v3, Cert.Reference5Ideal.Read.val_main_v6, Cert.Reference5Ideal.Read.val_main_v5, Cert.Reference5Ideal.Read.val_main_cst_0, Cert.Reference5Ideal.Read.val_main_cst_1]

theorem ref_newV (j : S4x1024x1281.Idx) : Cert.Reference5Ideal.Read.val_main_v13 (F := Ideal) V G j = newV (V j) (Cert.Reference5Ideal.Read.val_main_v2 (F := Ideal) G j) := by
  unfold newV; pointwise [Cert.Reference5Ideal.Read.val_main_v13, Cert.Reference5Ideal.Read.val_main_v9, Cert.Reference5Ideal.Read.val_main_v8, Cert.Reference5Ideal.Read.val_main_v12, Cert.Reference5Ideal.Read.val_main_v11, Cert.Reference5Ideal.Read.val_main_v10, Cert.Reference5Ideal.Read.val_main_cst_2, Cert.Reference5Ideal.Read.val_main_cst_3]

theorem ref_delta (j : S4x1024x1281.Idx) : Cert.Reference5Ideal.Read.val_main_v26 (F := Ideal) W M V G j
    = delta (W j) (Cert.Reference5Ideal.Read.val_main_v7 (F := Ideal) M G j) (Cert.Reference5Ideal.Read.val_main_v13 (F := Ideal) V G j) := by
  unfold delta; pointwise [Cert.Reference5Ideal.Read.val_main_v26, Cert.Reference5Ideal.Read.val_main_v25, Cert.Reference5Ideal.Read.val_main_v24, Cert.Reference5Ideal.Read.val_main_v23, Cert.Reference5Ideal.Read.val_main_v22, Cert.Reference5Ideal.Read.val_main_v21, Cert.Reference5Ideal.Read.val_main_v20, Cert.Reference5Ideal.Read.val_main_v19, Cert.Reference5Ideal.Read.val_main_v18, Cert.Reference5Ideal.Read.val_main_v17, Cert.Reference5Ideal.Read.val_main_v16, Cert.Reference5Ideal.Read.val_main_v15, Cert.Reference5Ideal.Read.val_main_v14, Cert.Reference5Ideal.Read.val_main_cst_4, Cert.Reference5Ideal.Read.val_main_cst_5, Cert.Reference5Ideal.Read.val_main_cst_6, Cert.Reference5Ideal.Read.val_main_cst_7, Cert.Reference5Ideal.Read.val_main_cst_8]

/-- The reference's four results, with the layers' rows together. -/
theorem ref_g : Cert.Reference5Ideal.Read.val_main_v27 (F := Ideal) G = grad G := by
  funext i
  rw [← ref_sum]
  pointwise [Cert.Reference5Ideal.Read.val_main_v27, Cert.Reference5Ideal.Read.val_main_v2]

/-- Where a row of the four layers' rows together lies in the layers. -/
def place (i : S4096x1281.Idx) : S4x1024x1281.Idx :=
  ix3 ⟨(i 0).val / 1024, Nat.div_lt_of_lt_mul (i 0).isLt⟩ ⟨(i 0).val % 1024, Nat.mod_lt _ (by decide)⟩ (i 1)

theorem place_grad (i : S4096x1281.Idx) : Cert.Reference5Ideal.Read.val_main_v2 (F := Ideal) G (place i) = grad G i := by
  rw [← ref_sum]
  unfold place
  pointwise [Cert.Reference5Ideal.Read.val_main_v2]

theorem at_place (X : Vec Ideal S4x1024x1281 .f32) (i : S4096x1281.Idx) : X (Cert.Reference5Ideal.Read.idx_main_v29 i) = X (place i) := by
  have h1 : (i 1).val < 1281 := (i 1).isLt
  refine congrArg X (funext fun a => Fin.ext ?_)
  match a with
  | ⟨0, _⟩ => show ((i 0).val * 1281 + (i 1).val) / 1311744 = (i 0).val / 1024; omega
  | ⟨1, _⟩ => show ((i 0).val * 1281 + (i 1).val) / 1281 % 1024 = (i 0).val % 1024; omega
  | ⟨2, _⟩ => show ((i 0).val * 1281 + (i 1).val) % 1281 = (i 1).val; omega

theorem ref_m : Cert.Reference5Ideal.Read.val_main_v29 (F := Ideal) M G = fun i => newM (flat M i) (grad G i) := by
  funext i
  rw [← place_grad, Cert.Reference5Ideal.Read.val_main_v29_apply]
  refine (at_place _ i).trans ?_
  rw [ref_newM]
  rfl

theorem ref_v : Cert.Reference5Ideal.Read.val_main_v30 (F := Ideal) V G = fun i => newV (flat V i) (grad G i) := by
  funext i
  rw [← place_grad, Cert.Reference5Ideal.Read.val_main_v30_apply]
  refine (at_place _ i).trans ?_
  rw [ref_newV]
  rfl

theorem ref_d : Cert.Reference5Ideal.Read.val_main_v28 (F := Ideal) W M V G
    = fun i => delta (flat W i) (newM (flat M i) (grad G i)) (newV (flat V i) (grad G i)) := by
  funext i
  rw [← place_grad, Cert.Reference5Ideal.Read.val_main_v28_apply]
  refine (at_place _ i).trans ?_
  rw [ref_delta, ref_newM, ref_newV]
  rfl

end Cert.Adam
-- ==== Proof.AdamMid.lean ====
module

public import proofs.«01_k».proof.Proof.Adam
public import proofs.«01_k».proof.Proof.Gen.Kernel7Ideal.Value
public import proofs.«01_k».proof.Proof.Gen.Reference7Ideal.Read

@[expose] public section
set_option maxRecDepth 16384
noncomputable section
open Idealize.ShloMosaic Idealize.ShloMosaic.TcCoe Idealize.SL.Sem

/-! # One step of the optimiser on six weights

The six weights of the four layers stand one under another in rows of 128 numbers. Each point of the grid updates
1024 rows, as `Adam.lean` says of the rows of another weight. -/
namespace Cert.AdamMid
open Cert.Kernel7Ideal Cert.Kernel7Ideal.Gen Cert.Adam

theorem pay1 (g m : Vec Ideal S1024x128 .f32) (j : S1024x128.Idx) : k0_pay1 (F := Ideal) g m j = newM (m j) (g j) := by
  unfold newM; pointwise [k0_pay1]

theorem pay2 (g v : Vec Ideal S1024x128 .f32) (j : S1024x128.Idx) : k0_pay2 (F := Ideal) g v j = newV (v j) (g j) := by
  unfold newV; pointwise [k0_pay2]

theorem pay3 (g m v w : Vec Ideal S1024x128 .f32) (j : S1024x128.Idx) :
    k0_pay3 (F := Ideal) g m v w j = delta (w j) (newM (m j) (g j)) (newV (v j) (g j)) := by
  rw [← pay1, ← pay2]; unfold delta; pointwise [k0_pay3]

theorem pay6 (W M V : Vec Ideal S1024x128 .f32) (G : Vec Ideal S8x1024x128 .bf16) (j : S1024x128.Idx) :
    k0_pay6 (F := Ideal) W M V G j = ∑ p : Fin 8, G (ix3 p (j 0) (j 1)) := by
  unfold k0_pay6
  simp only [Fin.sum_univ_eight]
  pointwise [k0_pay4]

theorem pay7 (W M V : Vec Ideal S1024x128 .f32) (G : Vec Ideal S8x1024x128 .bf16) (j : S1024x128.Idx) : k0_pay7 (F := Ideal) W M V G j = M j := by
  unfold k0_pay7; pointwise [k0_pay5]

/-- The gradient: the sum of the parts. -/
def grad (G : Vec Ideal S8x13312x128 .bf16) (i : S13312x128.Idx) : EReal := ∑ p : Fin 8, G (ix3 p (i 0) (i 1))

section kernel
variable (m : (ℓ : Loc nD τ sig) → Buf (Elt Ideal) ℓ)

theorem idxs : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

set_option maxHeartbeats 1000000 in
/-- The rows of the weights, as the reference puts them together. -/
theorem rows0 (c : Dev nD) : Gen.V m c main_v60 = Cert.Reference7Ideal.Read.val_main_v60 (F := Ideal)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := rfl

set_option maxHeartbeats 1000000 in
theorem rows1 (c : Dev nD) : Gen.V m c main_v121 = Cert.Reference7Ideal.Read.val_main_v121 (F := Ideal)
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := rfl

set_option maxHeartbeats 1000000 in
theorem rows2 (c : Dev nD) : Gen.V m c main_v182 = Cert.Reference7Ideal.Read.val_main_v182 (F := Ideal)
    (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := rfl

/-- One entry of the sum of the parts' blocks a point reads. -/
theorem parts_read (c : Dev nD) (t : Fin cfg0.N) (j : S1024x128.Idx) (i : S13312x128.Idx) (h0 : (i 0).val = t.val * 1024 + (j 0).val) (h1 : (i 1).val = (j 1).val) :
    k0_pay6 (F := Ideal) (iblk m c 0 t) (iblk m c 1 t) (iblk m c 2 t) (iblk m c 3 t) j = grad (m ((c : Thread nD τ).loc main_arg18)) i := by
  rw [pay6, ← V_main_arg18 m c]
  refine Finset.sum_congr rfl fun p _ => ?_
  blk_ext [iblk, idxs t, h0, h1]

/-- One entry of each block of the rows. -/
theorem read0 (c : Dev nD) (t : Fin cfg0.N) (j : S1024x128.Idx) (i : S13312x128.Idx) (h0 : (i 0).val = t.val * 1024 + (j 0).val) (h1 : (i 1).val = (j 1).val) :
    (iblk m c 0 t : Vec Ideal S1024x128 .f32) j = Gen.V m c main_v60 i := by
  blk_ext [iblk, idxs t, h0, h1]

theorem read1 (c : Dev nD) (t : Fin cfg0.N) (j : S1024x128.Idx) (i : S13312x128.Idx) (h0 : (i 0).val = t.val * 1024 + (j 0).val) (h1 : (i 1).val = (j 1).val) :
    (iblk m c 1 t : Vec Ideal S1024x128 .f32) j = Gen.V m c main_v121 i := by
  blk_ext [iblk, idxs t, h0, h1]

theorem read2 (c : Dev nD) (t : Fin cfg0.N) (j : S1024x128.Idx) (i : S13312x128.Idx) (h0 : (i 0).val = t.val * 1024 + (j 0).val) (h1 : (i 1).val = (j 1).val) :
    (iblk m c 2 t : Vec Ideal S1024x128 .f32) j = Gen.V m c main_v182 i := by
  blk_ext [iblk, idxs t, h0, h1]

theorem array4 (c : Dev nD) : (dats m 0 c).arrAt 4 cfg0.N = grad (m ((c : Thread nD τ).loc main_arg18)) := by
  refine (dats m 0 c).arrAt_eq_of_covers 4 _ (by decide +kernel) fun t hf y => ?_
  blk_simp
  rw [after0_4]
  unfold out0_4
  frame_out
  refine parts_read m c t y _ ?_ ?_ <;> blk_simp [idxs t]

theorem array5 (c : Dev nD) : (dats m 0 c).arrAt 5 cfg0.N
    = fun i : S13312x128.Idx => delta ((Gen.V m c main_v60 : S13312x128.Idx → EReal) i)
        (newM ((Gen.V m c main_v121 : S13312x128.Idx → EReal) i) (grad (m ((c : Thread nD τ).loc main_arg18)) i))
        (newV ((Gen.V m c main_v182 : S13312x128.Idx → EReal) i) (grad (m ((c : Thread nD τ).loc main_arg18)) i)) := by
  refine (dats m 0 c).arrAt_eq_of_covers 5 _ (by decide +kernel) fun t hf y => ?_
  blk_simp
  rw [after0_5]
  unfold out0_5
  frame_out
  rw [pay3, pay7]
  refine congr (congr (congrArg delta (read0 m c t y _ ?_ ?_)) (congr (congrArg newM (read1 m c t y _ ?_ ?_)) (parts_read m c t y _ ?_ ?_)))
    (congr (congrArg newV (read2 m c t y _ ?_ ?_)) (parts_read m c t y _ ?_ ?_)) <;> blk_simp [idxs t]

theorem array6 (c : Dev nD) : (dats m 0 c).arrAt 6 cfg0.N
    = fun i : S13312x128.Idx => newM ((Gen.V m c main_v121 : S13312x128.Idx → EReal) i) (grad (m ((c : Thread nD τ).loc main_arg18)) i) := by
  refine (dats m 0 c).arrAt_eq_of_covers 6 _ (by decide +kernel) fun t hf y => ?_
  blk_simp
  rw [after0_6]
  unfold out0_6
  frame_out
  rw [pay1, pay7]
  refine congr (congrArg newM (read1 m c t y _ ?_ ?_)) (parts_read m c t y _ ?_ ?_) <;> blk_simp [idxs t]

theorem array7 (c : Dev nD) : (dats m 0 c).arrAt 7 cfg0.N
    = fun i : S13312x128.Idx => newV ((Gen.V m c main_v182 : S13312x128.Idx → EReal) i) (grad (m ((c : Thread nD τ).loc main_arg18)) i) := by
  refine (dats m 0 c).arrAt_eq_of_covers 7 _ (by decide +kernel) fun t hf y => ?_
  blk_simp
  rw [after0_7]
  unfold out0_7
  frame_out
  rw [pay2]
  refine congr (congrArg newV (read2 m c t y _ ?_ ?_)) (parts_read m c t y _ ?_ ?_) <;> blk_simp [idxs t]

end kernel

variable (a0 a1 a2 b0 b1 b2 c0 c1 c2 : Vec Ideal S4x512x128 .f32) (a3 b3 c3 : Vec Ideal S4x256x128 .f32) (a4 b4 c4 : Vec Ideal S4x128x1024 .f32)
  (a5 b5 c5 : Vec Ideal S4x128x512 .f32) (G : Vec Ideal S8x13312x128 .bf16)

section reference
open Cert.Reference7Ideal.Read

theorem ref_g : val_main_v184 (F := Ideal) G = grad G := by
  funext i
  unfold grad
  pointwise [val_main_v184, val_main_v183, val_main_cst]

theorem ref_m : val_main_v189 (F := Ideal) b0 b1 b2 b3 b4 b5 G = fun i => newM (val_main_v121 (F := Ideal) b0 b1 b2 b3 b4 b5 i) (grad G i) := by
  funext i
  rw [← ref_g]
  unfold newM
  pointwise [val_main_v189, val_main_v186, val_main_v185, val_main_v188, val_main_v187, val_main_cst_0, val_main_cst_1]

theorem ref_v : val_main_v195 (F := Ideal) c0 c1 c2 c3 c4 c5 G = fun i => newV (val_main_v182 (F := Ideal) c0 c1 c2 c3 c4 c5 i) (grad G i) := by
  funext i
  rw [← ref_g]
  unfold newV
  pointwise [val_main_v195, val_main_v191, val_main_v190, val_main_v194, val_main_v193, val_main_v192, val_main_cst_2, val_main_cst_3]

theorem ref_d : val_main_v208 (F := Ideal) a0 a1 a2 a3 a4 a5 b0 b1 b2 b3 b4 b5 c0 c1 c2 c3 c4 c5 G
    = fun i => delta (val_main_v60 (F := Ideal) a0 a1 a2 a3 a4 a5 i) (newM (val_main_v121 (F := Ideal) b0 b1 b2 b3 b4 b5 i) (grad G i))
        (newV (val_main_v182 (F := Ideal) c0 c1 c2 c3 c4 c5 i) (grad G i)) := by
  funext i
  refine Eq.trans ?_ (congr (congrArg (delta _) (congrFun (ref_m b0 b1 b2 b3 b4 b5 G) i)) (congrFun (ref_v c0 c1 c2 c3 c4 c5 G) i))
  unfold delta
  pointwise [val_main_v208, val_main_v207, val_main_v206, val_main_v205, val_main_v204, val_main_v203, val_main_v202, val_main_v201, val_main_v200, val_main_v199, val_main_v198, val_main_v197, val_main_v196, val_main_cst_4, val_main_cst_5, val_main_cst_6, val_main_cst_7, val_main_cst_8]

/-! The same of arguments that are given by equations. -/

section
variable {a0 a1 a2 b0 b1 b2 c0 c1 c2 : Vec Ideal S4x512x128 .f32} {a3 b3 c3 : Vec Ideal S4x256x128 .f32} {a4 b4 c4 : Vec Ideal S4x128x1024 .f32}
  {a5 b5 c5 : Vec Ideal S4x128x512 .f32} {G G' : Vec Ideal S8x13312x128 .bf16}
variable {a0' a1' a2' b0' b1' b2' c0' c1' c2' : Vec Ideal S4x512x128 .f32} {a3' b3' c3' : Vec Ideal S4x256x128 .f32} {a4' b4' c4' : Vec Ideal S4x128x1024 .f32}
  {a5' b5' c5' : Vec Ideal S4x128x512 .f32}

theorem g_of (hG : G' = G) : val_main_v184 (F := Ideal) G' = grad G := by
  subst hG; exact ref_g _

theorem m_of (h0 : b0' = b0) (h1 : b1' = b1) (h2 : b2' = b2) (h3 : b3' = b3) (h4 : b4' = b4) (h5 : b5' = b5) (hG : G' = G) :
    val_main_v189 (F := Ideal) b0' b1' b2' b3' b4' b5' G' = fun i => newM (val_main_v121 (F := Ideal) b0 b1 b2 b3 b4 b5 i) (grad G i) := by
  subst h0 h1 h2 h3 h4 h5 hG; exact ref_m _ _ _ _ _ _ _

theorem v_of (h0 : c0' = c0) (h1 : c1' = c1) (h2 : c2' = c2) (h3 : c3' = c3) (h4 : c4' = c4) (h5 : c5' = c5) (hG : G' = G) :
    val_main_v195 (F := Ideal) c0' c1' c2' c3' c4' c5' G' = fun i => newV (val_main_v182 (F := Ideal) c0 c1 c2 c3 c4 c5 i) (grad G i) := by
  subst h0 h1 h2 h3 h4 h5 hG; exact ref_v _ _ _ _ _ _ _

theorem d_of (ha0 : a0' = a0) (ha1 : a1' = a1) (ha2 : a2' = a2) (ha3 : a3' = a3) (ha4 : a4' = a4) (ha5 : a5' = a5) (hb0 : b0' = b0) (hb1 : b1' = b1) (hb2 : b2' = b2) (hb3 : b3' = b3) (hb4 : b4' = b4) (hb5 : b5' = b5) (hc0 : c0' = c0) (hc1 : c1' = c1) (hc2 : c2' = c2) (hc3 : c3' = c3) (hc4 : c4' = c4) (hc5 : c5' = c5) (hG : G' = G) :
    val_main_v208 (F := Ideal) a0' a1' a2' a3' a4' a5' b0' b1' b2' b3' b4' b5' c0' c1' c2' c3' c4' c5' G'
      = fun i => delta (val_main_v60 (F := Ideal) a0 a1 a2 a3 a4 a5 i) (newM (val_main_v121 (F := Ideal) b0 b1 b2 b3 b4 b5 i) (grad G i))
        (newV (val_main_v182 (F := Ideal) c0 c1 c2 c3 c4 c5 i) (grad G i)) := by
  subst ha0 ha1 ha2 ha3 ha4 ha5 hb0 hb1 hb2 hb3 hb4 hb5 hc0 hc1 hc2 hc3 hc4 hc5 hG; exact ref_d _ _ _ _ _ _ _ _ _ _ _ _ _ _ _ _ _ _ _
end

end reference
end Cert.AdamMid
-- ==== Proof.Channels.lean ====
module

public import Idealize.ShloMosaic.Lib.Pipeline.ValueKit

@[expose] public section
set_option maxRecDepth 16384
noncomputable section
open Idealize.ShloMosaic

/-! # A device's channels among all the channels

The 512 channels of a convolution are eight devices' 64 channels, one device after another. An array of one
device's channels, written over another array at that device's place, is read by the channel's device and its
number there. -/
namespace Cert.Channels

theorem place {K : Nat} (x : (⟨3, ![4, K, 512]⟩ : Shape).Idx → EReal) (u : (⟨3, ![4, K, 64]⟩ : Shape).Idx → EReal) (start : Fin 3 → Int)
    (h : (⟨3, ![4, K, 512]⟩ : Shape).Slices (fun _ => 0) ⟨3, ![4, K, 64]⟩) (q : Nat) (hq : q < 8) (s0 : start 0 = 0) (s1 : start 1 = 0) (s2 : start 2 = (64 * q : Nat))
    (i : (⟨3, ![4, K, 512]⟩ : Shape).Idx) :
    Host.dynamicUpdateSlice x u start h i
      = if (i 2).val / 64 = q then u (ix3 (i 0) (i 1) ⟨(i 2).val % 64, Nat.mod_lt _ (by decide)⟩) else x i := by
  have h2 : (i 2).val < 512 := (i 2).isLt
  have z1 : (i 1).val < K := (i 1).isLt
  have z0 : (i 0).val < 4 := (i 0).isLt
  rw [Host.dynamicUpdateSlice_eq_updateSlice x u start h ![0, 0, 64 * q]
    (by
      intro a
      fin_cases a
      · show (min (max (start 0) 0) _).toNat = 0
        rw [s0]; omega
      · show (min (max (start 1) 0) _).toNat = 0
        rw [s1]; omega
      · show (min (max (start 2) 0) (((512 - 64 : Nat) : Int))).toNat = 64 * q
        rw [s2]; omega)
    ⟨rfl, by
      intro a
      fin_cases a
      · show 0 + 4 ≤ 4; omega
      · show 0 + K ≤ K; omega
      · show 64 * q + 64 ≤ 512; omega⟩]
  unfold updateSlice
  by_cases hin : (i 2).val / 64 = q
  · rw [if_pos hin, dif_pos]
    · congr 1
      funext b
      fin_cases b
      · exact Fin.ext (Nat.sub_zero _)
      · exact Fin.ext (Nat.sub_zero _)
      · refine Fin.ext ?_
        show (i 2).val - 64 * q = (i 2).val % 64
        omega
    · intro a
      fin_cases a
      · show 0 ≤ (i 0).val ∧ (i 0).val < 0 + 4; omega
      · show 0 ≤ (i 1).val ∧ (i 1).val < 0 + K; omega
      · show 64 * q ≤ (i 2).val ∧ (i 2).val < 64 * q + 64; omega
  · rw [if_neg hin, dif_neg]
    intro hall
    have h3 : 64 * q ≤ (i 2).val ∧ (i 2).val < 64 * q + 64 := hall 2
    omega

end Cert.Channels
-- ==== Proof.AdamSmall.lean ====
module

public import proofs.«01_k».proof.Proof.Adam
public import proofs.«01_k».proof.Proof.Channels
public import proofs.«01_k».proof.Proof.Gen.Kernel8Ideal.Value
public import proofs.«01_k».proof.Proof.Gen.Reference8Ideal.Read

@[expose] public section
set_option maxRecDepth 16384
noncomputable section
open Idealize.ShloMosaic Idealize.ShloMosaic.TcCoe Idealize.SL.Sem

/-! # One step of the optimiser on the small weights

Ten small weights stand one after another, with zeros at the end, in 680 rows of 128 numbers. Of the two
convolutions' weights a device holds 64 channels, which stand at the device's place among the 512. One point updates
them all, as `Adam.lean` says of the rows of another weight. -/
namespace Cert.AdamSmall
open Cert.Kernel8Ideal Cert.Kernel8Ideal.Gen Cert.Adam

theorem pay1 (g v : Vec Ideal S680x128 .f32) (j : S680x128.Idx) : k0_pay1 (F := Ideal) g v j = newV (v j) (g j) := by
  unfold newV; pointwise [k0_pay1]

theorem pay2 (g n v w : Vec Ideal S680x128 .f32) (j : S680x128.Idx) :
    k0_pay2 (F := Ideal) g n v w j = delta (w j) (n j) (newV (v j) (g j)) := by
  rw [← pay1]; unfold delta; pointwise [k0_pay2]

theorem pay5 (W M V : Vec Ideal S680x128 .f32) (G : Vec Ideal S8x680x128 .f32) (j : S680x128.Idx) :
    k0_pay5 (F := Ideal) W M V G j = ∑ p : Fin 8, G (ix3 p (j 0) (j 1)) := by
  unfold k0_pay5
  simp only [Fin.sum_univ_eight]
  pointwise [k0_pay3]

theorem pay6 (W M V : Vec Ideal S680x128 .f32) (G : Vec Ideal S8x680x128 .f32) (j : S680x128.Idx) :
    k0_pay6 (F := Ideal) W M V G j = newM (M j) (k0_pay5 (F := Ideal) W M V G j) := by
  unfold k0_pay6 k0_pay5 newM; pointwise [k0_pay4]

/-- The gradient: the sum of the parts. -/
def grad (G : Vec Ideal S8x680x128 .f32) (i : S680x128.Idx) : EReal := ∑ p : Fin 8, G (ix3 p (i 0) (i 1))

/-- The first channel of a device: a negative number would count from the last channel. -/
def place (me : IVec S_ 32) : BitVec 32 :=
  Scalar.select (IntOp.cmpi .slt (IntOp.muli (me (Shape.Idx.first h_S_)) 64#32) 0#32) (IntOp.addi (IntOp.muli (me (Shape.Idx.first h_S_)) 64#32) 512#32) (IntOp.muli (me (Shape.Idx.first h_S_)) 64#32)

theorem place_start (q : Nat) (hq : q < 8) : (place fun _ => BitVec.ofNat 32 q).toInt = (64 * q : Nat) :=
  (by decide : ∀ n : Fin 8, (Scalar.select (IntOp.cmpi .slt (IntOp.muli (BitVec.ofNat 32 n.val) 64#32) 0#32) (IntOp.addi (IntOp.muli (BitVec.ofNat 32 n.val) 64#32) 512#32) (IntOp.muli (BitVec.ofNat 32 n.val) 64#32)).toInt = ((64 * n.val : Nat) : Int)) ⟨q, hq⟩

/-- The reference's comparison of a channel's device with the device. -/
theorem is_mine (n q : Nat) (hn : n < 8) (hq : q < 8) : (IntOp.cmpi .eq (BitVec.ofNat 32 n) (BitVec.ofNat 32 q) = 1) ↔ n = q :=
  (by decide : ∀ a b : Fin 8, (IntOp.cmpi .eq (BitVec.ofNat 32 a.val) (BitVec.ofNat 32 b.val) = 1) ↔ a.val = b.val) ⟨n, hn⟩ ⟨q, hq⟩

section place
open Cert.Reference8Ideal.Read

/-! Writing a device's channels at their place is the reference's choice by the channel's device. -/

theorem mask8 (a : Vec Ideal S4x31x64 .f32) (me : IVec S_ 32) (q : Nat) (hq : q < 8) (hme : me = fun _ => BitVec.ofNat 32 q) (st : Fin 3 → Int)
    (h : S4x31x512.Slices (fun _ => 0) S4x31x64) (s0 : st 0 = 0) (s1 : st 1 = 0) (s2 : st 2 = (64 * q : Nat)) :
    Host.dynamicUpdateSlice (fun _ => Ideal.ofBits .f32 0x00000000#32) a st h = val_main_v6 (F := Ideal) a me := by
  funext i
  have h2 : (i 2).val < 512 := (i 2).isLt
  have z1 : (i 1).val < 31 := (i 1).isLt
  have z0 : (i 0).val < 4 := (i 0).isLt
  have hn : (((i 0).val * 31 + (i 1).val) * 512 + (i 2).val) / 64 % 8 = (i 2).val / 64 := by omega
  rw [val_main_v6_apply, val_main_v5_apply, val_main_call0_v1_apply, val_main_v3_apply, val_main_v2_apply, val_main_v0_apply, val_main_v1_apply, val_main_call0_v2_apply, val_main_v4_apply, val_main_call0_v3_apply, val_main_call0_v0_apply, val_main_cst_apply, hme]
  refine (Cert.Channels.place _ a st h q hq s0 s1 s2 i).trans (ite_congr (propext ?_) (fun _ => congrArg a ?_) (fun _ => rfl))
  · refine Iff.trans ?_ (is_mine _ q (Nat.mod_lt _ (by decide)) hq).symm
    show (i 2).val / 64 = q ↔ (((i 0).val * 31 + (i 1).val) * 512 + (i 2).val) / 64 % 8 = q
    rw [hn]
  · funext b
    fin_cases b
    · exact Fin.ext (by show (i 0).val = (((i 0).val * 31 + (i 1).val) * 512 + (i 2).val) / 15872; omega)
    · exact Fin.ext (by show (i 1).val = (((i 0).val * 31 + (i 1).val) * 512 + (i 2).val) / 512 % 31; omega)
    · exact Fin.ext (by show (i 2).val % 64 = (((i 0).val * 31 + (i 1).val) * 512 + (i 2).val) % 64; omega)

theorem mask9 (a : Vec Ideal S4x3x64 .f32) (me : IVec S_ 32) (q : Nat) (hq : q < 8) (hme : me = fun _ => BitVec.ofNat 32 q) (st : Fin 3 → Int)
    (h : S4x3x512.Slices (fun _ => 0) S4x3x64) (s0 : st 0 = 0) (s1 : st 1 = 0) (s2 : st 2 = (64 * q : Nat)) :
    Host.dynamicUpdateSlice (fun _ => Ideal.ofBits .f32 0x00000000#32) a st h = val_main_v9 (F := Ideal) a me := by
  funext i
  have h2 : (i 2).val < 512 := (i 2).isLt
  have z1 : (i 1).val < 3 := (i 1).isLt
  have z0 : (i 0).val < 4 := (i 0).isLt
  have hn : (((i 0).val * 3 + (i 1).val) * 512 + (i 2).val) / 64 % 8 = (i 2).val / 64 := by omega
  rw [val_main_v9_apply, val_main_v8_apply, val_main_call1_v1_apply, val_main_v3_apply, val_main_v2_apply, val_main_v0_apply, val_main_v1_apply, val_main_call1_v2_apply, val_main_v7_apply, val_main_call1_v3_apply, val_main_call1_v0_apply, val_main_cst_0_apply, hme]
  refine (Cert.Channels.place _ a st h q hq s0 s1 s2 i).trans (ite_congr (propext ?_) (fun _ => congrArg a ?_) (fun _ => rfl))
  · refine Iff.trans ?_ (is_mine _ q (Nat.mod_lt _ (by decide)) hq).symm
    show (i 2).val / 64 = q ↔ (((i 0).val * 3 + (i 1).val) * 512 + (i 2).val) / 64 % 8 = q
    rw [hn]
  · funext b
    fin_cases b
    · exact Fin.ext (by show (i 0).val = (((i 0).val * 3 + (i 1).val) * 512 + (i 2).val) / 1536; omega)
    · exact Fin.ext (by show (i 1).val = (((i 0).val * 3 + (i 1).val) * 512 + (i 2).val) / 512 % 3; omega)
    · exact Fin.ext (by show (i 2).val % 64 = (((i 0).val * 3 + (i 1).val) * 512 + (i 2).val) % 64; omega)

/-- The rows of ten weights, the convolutions' at all 512 channels. -/
def pack (x0 : Vec Ideal S4x8 .f32) (x1 x2 x3 : Vec Ideal S4x512 .f32) (x4 x5 : Vec Ideal S1024 .f32) (x6 x7 : Vec Ideal S4x1024 .f32) (y8 : Vec Ideal S4x31x512 .f32) (y9 : Vec Ideal S4x3x512 .f32) : Vec Ideal S680x128 .f32 :=
  shapeCast _ (pad S87040 ![0] ![992] ![0] (concatenate S86048 0 [⟨S32, val_main_v10 (F := Ideal) x0⟩, ⟨S2048, val_main_v11 (F := Ideal) x1⟩, ⟨S2048, val_main_v12 (F := Ideal) x2⟩, ⟨S2048, val_main_v13 (F := Ideal) x3⟩,
    ⟨S1024, x4⟩, ⟨S1024, x5⟩, ⟨S4096, val_main_v14 (F := Ideal) x6⟩, ⟨S4096, val_main_v15 (F := Ideal) x7⟩, ⟨S63488, shapeCast _ y8 shapeCasts_S4x31x512_S63488⟩, ⟨S6144, shapeCast _ y9 shapeCasts_S4x3x512_S6144⟩]
    concatenates_S32_S2048_S2048_S2048_S1024_S1024_S4096_S4096_S63488_S6144_S86048_d0) (val_main_call2_v0 (F := Ideal)) pads_S86048_S87040_09920 h_S_) shapeCasts_S87040_S680x128

end place

section kernel
variable (m : (ℓ : Loc nD τ sig) → Buf (Elt Ideal) ℓ)

theorem idxs : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = t.val ∧ win0_3.index t 2 = 0)
    ∧ (win0_4.index t 0 = t.val ∧ win0_4.index t 1 = 0) ∧ (win0_5.index t 0 = t.val ∧ win0_5.index t 1 = 0)
    ∧ (win0_6.index t 0 = t.val ∧ win0_6.index t 1 = 0) ∧ (win0_7.index t 0 = t.val ∧ win0_7.index t 1 = 0))

/-! The two convolutions' weights at a device's place, before they are packed. -/

set_option maxHeartbeats 1000000 in
theorem wide8_0 (c : Dev nD) : ∃ st : Fin 3 → Int, Gen.V m c main_v5 = Host.dynamicUpdateSlice (fun _ => Ideal.ofBits .f32 0x00000000#32) (m ((c : Thread nD τ).loc main_arg8)) st updateFits_S4x31x512_S4x31x64
    ∧ st 0 = 0 ∧ st 1 = 0 ∧ st 2 = (place (m ((c : Thread nD τ).loc main_arg31))).toInt := ⟨_, rfl, rfl, rfl, rfl⟩

set_option maxHeartbeats 1000000 in
theorem wide9_0 (c : Dev nD) : ∃ st : Fin 3 → Int, Gen.V m c main_v11 = Host.dynamicUpdateSlice (fun _ => Ideal.ofBits .f32 0x00000000#32) (m ((c : Thread nD τ).loc main_arg9)) st updateFits_S4x3x512_S4x3x64
    ∧ st 0 = 0 ∧ st 1 = 0 ∧ st 2 = (place (m ((c : Thread nD τ).loc main_arg31))).toInt := ⟨_, rfl, rfl, rfl, rfl⟩

set_option maxHeartbeats 1000000 in
theorem wide8_1 (c : Dev nD) : ∃ st : Fin 3 → Int, Gen.V m c main_v28 = Host.dynamicUpdateSlice (fun _ => Ideal.ofBits .f32 0x00000000#32) (m ((c : Thread nD τ).loc main_arg18)) st updateFits_S4x31x512_S4x31x64
    ∧ st 0 = 0 ∧ st 1 = 0 ∧ st 2 = (place (m ((c : Thread nD τ).loc main_arg31))).toInt := ⟨_, rfl, rfl, rfl, rfl⟩

set_option maxHeartbeats 1000000 in
theorem wide9_1 (c : Dev nD) : ∃ st : Fin 3 → Int, Gen.V m c main_v34 = Host.dynamicUpdateSlice (fun _ => Ideal.ofBits .f32 0x00000000#32) (m ((c : Thread nD τ).loc main_arg19)) st updateFits_S4x3x512_S4x3x64
    ∧ st 0 = 0 ∧ st 1 = 0 ∧ st 2 = (place (m ((c : Thread nD τ).loc main_arg31))).toInt := ⟨_, rfl, rfl, rfl, rfl⟩

set_option maxHeartbeats 1000000 in
theorem wide8_2 (c : Dev nD) : ∃ st : Fin 3 → Int, Gen.V m c main_v51 = Host.dynamicUpdateSlice (fun _ => Ideal.ofBits .f32 0x00000000#32) (m ((c : Thread nD τ).loc main_arg28)) st updateFits_S4x31x512_S4x31x64
    ∧ st 0 = 0 ∧ st 1 = 0 ∧ st 2 = (place (m ((c : Thread nD τ).loc main_arg31))).toInt := ⟨_, rfl, rfl, rfl, rfl⟩

set_option maxHeartbeats 1000000 in
theorem wide9_2 (c : Dev nD) : ∃ st : Fin 3 → Int, Gen.V m c main_v57 = Host.dynamicUpdateSlice (fun _ => Ideal.ofBits .f32 0x00000000#32) (m ((c : Thread nD τ).loc main_arg29)) st updateFits_S4x3x512_S4x3x64
    ∧ st 0 = 0 ∧ st 1 = 0 ∧ st 2 = (place (m ((c : Thread nD τ).loc main_arg31))).toInt := ⟨_, rfl, rfl, rfl, rfl⟩

/-! The rows of the weights and of their moments, as the reference puts them together. -/

set_option maxHeartbeats 1000000 in
theorem rows0 (c : Dev nD) (q : Nat) (hq : q < 8) (hme : (m ((c : Thread nD τ).loc main_arg31)) = fun _ => BitVec.ofNat 32 q) :
    Gen.V m c main_v22 = Cert.Reference8Ideal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg31)) := by
  obtain ⟨st8, e8, z8, o8, w8⟩ := wide8_0 m c
  obtain ⟨st9, e9, z9, o9, w9⟩ := wide9_0 m c
  rw [hme] at w8 w9
  refine Eq.trans (b := pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (Gen.V m c main_v5) (Gen.V m c main_v11)) rfl ?_
  rw [e8, e9, mask8 _ _ q hq hme _ _ z8 o8 (w8.trans (place_start q hq)), mask9 _ _ q hq hme _ _ z9 o9 (w9.trans (place_start q hq))]
  rfl

set_option maxHeartbeats 1000000 in
theorem rows1 (c : Dev nD) (q : Nat) (hq : q < 8) (hme : (m ((c : Thread nD τ).loc main_arg31)) = fun _ => BitVec.ofNat 32 q) :
    Gen.V m c main_v45 = Cert.Reference8Ideal.Read.val_main_v37 (F := Ideal) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg31)) := by
  obtain ⟨st8, e8, z8, o8, w8⟩ := wide8_1 m c
  obtain ⟨st9, e9, z9, o9, w9⟩ := wide9_1 m c
  rw [hme] at w8 w9
  refine Eq.trans (b := pack (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (Gen.V m c main_v28) (Gen.V m c main_v34)) rfl ?_
  rw [e8, e9, mask8 _ _ q hq hme _ _ z8 o8 (w8.trans (place_start q hq)), mask9 _ _ q hq hme _ _ z9 o9 (w9.trans (place_start q hq))]
  rfl

set_option maxHeartbeats 1000000 in
theorem rows2 (c : Dev nD) (q : Nat) (hq : q < 8) (hme : (m ((c : Thread nD τ).loc main_arg31)) = fun _ => BitVec.ofNat 32 q) :
    Gen.V m c main_v68 = Cert.Reference8Ideal.Read.val_main_v54 (F := Ideal) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg31)) := by
  obtain ⟨st8, e8, z8, o8, w8⟩ := wide8_2 m c
  obtain ⟨st9, e9, z9, o9, w9⟩ := wide9_2 m c
  rw [hme] at w8 w9
  refine Eq.trans (b := pack (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (Gen.V m c main_v51) (Gen.V m c main_v57)) rfl ?_
  rw [e8, e9, mask8 _ _ q hq hme _ _ z8 o8 (w8.trans (place_start q hq)), mask9 _ _ q hq hme _ _ z9 o9 (w9.trans (place_start q hq))]
  rfl

/-- One entry of the sum of the parts' blocks a point reads. -/
theorem parts_read (c : Dev nD) (t : Fin cfg0.N) (j : S680x128.Idx) (i : S680x128.Idx) (h0 : (i 0).val = t.val * 680 + (j 0).val) (h1 : (i 1).val = (j 1).val) :
    k0_pay5 (F := Ideal) (iblk m c 0 t) (iblk m c 1 t) (iblk m c 2 t) (iblk m c 3 t) j = grad (m ((c : Thread nD τ).loc main_arg30)) i := by
  rw [pay5, ← V_main_arg30 m c]
  refine Finset.sum_congr rfl fun p _ => ?_
  blk_ext [iblk, idxs t, h0, h1]

/-- One entry of each block of the rows. -/
theorem read0 (c : Dev nD) (t : Fin cfg0.N) (j : S680x128.Idx) (i : S680x128.Idx) (h0 : (i 0).val = t.val * 680 + (j 0).val) (h1 : (i 1).val = (j 1).val) :
    (iblk m c 0 t : Vec Ideal S680x128 .f32) j = Gen.V m c main_v22 i := by
  blk_ext [iblk, idxs t, h0, h1]

theorem read1 (c : Dev nD) (t : Fin cfg0.N) (j : S680x128.Idx) (i : S680x128.Idx) (h0 : (i 0).val = t.val * 680 + (j 0).val) (h1 : (i 1).val = (j 1).val) :
    (iblk m c 1 t : Vec Ideal S680x128 .f32) j = Gen.V m c main_v45 i := by
  blk_ext [iblk, idxs t, h0, h1]

theorem read2 (c : Dev nD) (t : Fin cfg0.N) (j : S680x128.Idx) (i : S680x128.Idx) (h0 : (i 0).val = t.val * 680 + (j 0).val) (h1 : (i 1).val = (j 1).val) :
    (iblk m c 2 t : Vec Ideal S680x128 .f32) j = Gen.V m c main_v68 i := by
  blk_ext [iblk, idxs t, h0, h1]

theorem array4 (c : Dev nD) : (dats m 0 c).arrAt 4 cfg0.N = grad (m ((c : Thread nD τ).loc main_arg30)) := by
  refine (dats m 0 c).arrAt_eq_of_covers 4 _ (by decide +kernel) fun t hf y => ?_
  blk_simp
  rw [after0_4]
  unfold out0_4
  frame_out
  refine parts_read m c t y _ ?_ ?_ <;> blk_simp [idxs t]

theorem array5 (c : Dev nD) : (dats m 0 c).arrAt 5 cfg0.N
    = fun i : S680x128.Idx => delta ((Gen.V m c main_v22 : S680x128.Idx → EReal) i)
        (newM ((Gen.V m c main_v45 : S680x128.Idx → EReal) i) (grad (m ((c : Thread nD τ).loc main_arg30)) i))
        (newV ((Gen.V m c main_v68 : S680x128.Idx → EReal) i) (grad (m ((c : Thread nD τ).loc main_arg30)) i)) := by
  refine (dats m 0 c).arrAt_eq_of_covers 5 _ (by decide +kernel) fun t hf y => ?_
  blk_simp
  rw [after0_5]
  unfold out0_5
  frame_out
  rw [pay2, pay6]
  refine congr (congr (congrArg delta (read0 m c t y _ ?_ ?_)) (congr (congrArg newM (read1 m c t y _ ?_ ?_)) (parts_read m c t y _ ?_ ?_)))
    (congr (congrArg newV (read2 m c t y _ ?_ ?_)) (parts_read m c t y _ ?_ ?_)) <;> blk_simp [idxs t]

theorem array6 (c : Dev nD) : (dats m 0 c).arrAt 6 cfg0.N
    = fun i : S680x128.Idx => newM ((Gen.V m c main_v45 : S680x128.Idx → EReal) i) (grad (m ((c : Thread nD τ).loc main_arg30)) i) := by
  refine (dats m 0 c).arrAt_eq_of_covers 6 _ (by decide +kernel) fun t hf y => ?_
  blk_simp
  rw [after0_6]
  unfold out0_6
  frame_out
  rw [pay6]
  refine congr (congrArg newM (read1 m c t y _ ?_ ?_)) (parts_read m c t y _ ?_ ?_) <;> blk_simp [idxs t]

theorem array7 (c : Dev nD) : (dats m 0 c).arrAt 7 cfg0.N
    = fun i : S680x128.Idx => newV ((Gen.V m c main_v68 : S680x128.Idx → EReal) i) (grad (m ((c : Thread nD τ).loc main_arg30)) i) := by
  refine (dats m 0 c).arrAt_eq_of_covers 7 _ (by decide +kernel) fun t hf y => ?_
  blk_simp
  rw [after0_7]
  unfold out0_7
  frame_out
  rw [pay1]
  refine congr (congrArg newV (read2 m c t y _ ?_ ?_)) (parts_read m c t y _ ?_ ?_) <;> blk_simp [idxs t]

end kernel

section reference
open Cert.Reference8Ideal.Read

theorem ref_g (G : Vec Ideal S8x680x128 .f32) : val_main_v55 (F := Ideal) G = grad G := by
  funext i
  unfold grad
  pointwise [val_main_v55, val_main_cst_7]

section
variable {a0 b0 c0 : Vec Ideal S4x8 .f32} {a1 a2 a3 b1 b2 b3 c1 c2 c3 : Vec Ideal S4x512 .f32} {a4 a5 b4 b5 c4 c5 : Vec Ideal S1024 .f32} {a6 a7 b6 b7 c6 c7 : Vec Ideal S4x1024 .f32}
  {a8 b8 c8 : Vec Ideal S4x31x64 .f32} {a9 b9 c9 : Vec Ideal S4x3x64 .f32}
  {me : IVec S_ 32} {G G' : Vec Ideal S8x680x128 .f32} {W M V : Vec Ideal S680x128 .f32}

/-! The reference's arrays, of rows and parts that are given by equations. -/

theorem g_of (hG : G' = G) : val_main_v55 (F := Ideal) G' = grad G := by
  subst hG; exact ref_g _

theorem m_of (hM : val_main_v37 (F := Ideal) b0 b1 b2 b3 b4 b5 b6 b7 b8 b9 me = M) (hG : G' = G) : val_main_v60 (F := Ideal) b0 b1 b2 b3 b4 b5 b6 b7 b8 b9 G' me = fun i => newM (M i) (grad G i) := by
  subst hM hG
  funext i
  rw [← ref_g]
  unfold newM
  pointwise [val_main_v60, val_main_v57, val_main_v56, val_main_v59, val_main_v58, val_main_cst_8, val_main_cst_9]

theorem v_of (hV : val_main_v54 (F := Ideal) c0 c1 c2 c3 c4 c5 c6 c7 c8 c9 me = V) (hG : G' = G) : val_main_v66 (F := Ideal) c0 c1 c2 c3 c4 c5 c6 c7 c8 c9 G' me = fun i => newV (V i) (grad G i) := by
  subst hV hG
  funext i
  rw [← ref_g]
  unfold newV
  pointwise [val_main_v66, val_main_v62, val_main_v61, val_main_v65, val_main_v64, val_main_v63, val_main_cst_10, val_main_cst_11]

theorem d_of (hW : val_main_v20 (F := Ideal) a0 a1 a2 a3 a4 a5 a6 a7 a8 a9 me = W) (hM : val_main_v37 (F := Ideal) b0 b1 b2 b3 b4 b5 b6 b7 b8 b9 me = M) (hV : val_main_v54 (F := Ideal) c0 c1 c2 c3 c4 c5 c6 c7 c8 c9 me = V) (hG : G' = G) :
    val_main_v79 (F := Ideal) a0 a1 a2 a3 a4 a5 a6 a7 a8 a9 b0 b1 b2 b3 b4 b5 b6 b7 b8 b9 c0 c1 c2 c3 c4 c5 c6 c7 c8 c9 G' me = fun i => delta (W i) (newM (M i) (grad G i)) (newV (V i) (grad G i)) := by
  funext i
  refine Eq.trans ?_ (congr (congrArg (delta _) (congrFun (m_of hM hG) i)) (congrFun (v_of hV hG) i))
  subst hW
  unfold delta
  pointwise [val_main_v79, val_main_v78, val_main_v77, val_main_v76, val_main_v75, val_main_v74, val_main_v73, val_main_v72, val_main_v71, val_main_v70, val_main_v69, val_main_v68, val_main_v67, val_main_cst_12, val_main_cst_13, val_main_cst_14, val_main_cst_15, val_main_cst_16]
end

section
variable {a0 a0' : Vec Ideal S4x8 .f32} {a1 a2 a3 a1' a2' a3' : Vec Ideal S4x512 .f32} {a4 a5 a4' a5' : Vec Ideal S1024 .f32} {a6 a7 a6' a7' : Vec Ideal S4x1024 .f32}
  {a8 a8' : Vec Ideal S4x31x64 .f32} {a9 a9' : Vec Ideal S4x3x64 .f32} {me me' : IVec S_ 32}

/-! Equal weights give equal rows. -/

theorem rowsW (h0 : a0' = a0) (h1 : a1' = a1) (h2 : a2' = a2) (h3 : a3' = a3) (h4 : a4' = a4) (h5 : a5' = a5) (h6 : a6' = a6) (h7 : a7' = a7) (h8 : a8' = a8) (h9 : a9' = a9) (hd : me' = me) :
    val_main_v20 (F := Ideal) a0' a1' a2' a3' a4' a5' a6' a7' a8' a9' me' = val_main_v20 (F := Ideal) a0 a1 a2 a3 a4 a5 a6 a7 a8 a9 me := by
  subst h0 h1 h2 h3 h4 h5 h6 h7 h8 h9 hd; rfl

theorem rowsM (h0 : a0' = a0) (h1 : a1' = a1) (h2 : a2' = a2) (h3 : a3' = a3) (h4 : a4' = a4) (h5 : a5' = a5) (h6 : a6' = a6) (h7 : a7' = a7) (h8 : a8' = a8) (h9 : a9' = a9) (hd : me' = me) :
    val_main_v37 (F := Ideal) a0' a1' a2' a3' a4' a5' a6' a7' a8' a9' me' = val_main_v37 (F := Ideal) a0 a1 a2 a3 a4 a5 a6 a7 a8 a9 me := by
  subst h0 h1 h2 h3 h4 h5 h6 h7 h8 h9 hd; rfl

theorem rowsV (h0 : a0' = a0) (h1 : a1' = a1) (h2 : a2' = a2) (h3 : a3' = a3) (h4 : a4' = a4) (h5 : a5' = a5) (h6 : a6' = a6) (h7 : a7' = a7) (h8 : a8' = a8) (h9 : a9' = a9) (hd : me' = me) :
    val_main_v54 (F := Ideal) a0' a1' a2' a3' a4' a5' a6' a7' a8' a9' me' = val_main_v54 (F := Ideal) a0 a1 a2 a3 a4 a5 a6 a7 a8 a9 me := by
  subst h0 h1 h2 h3 h4 h5 h6 h7 h8 h9 hd; rfl

end

end reference
end Cert.AdamSmall
-- ==== Proof.Device.lean ====
module

public import Idealize.ShloMosaic.Lib.Pipeline.ValueKit

@[expose] public section
noncomputable section
open Idealize.ShloMosaic

/-! # What the precondition of the small weights' step says: the device's number is below eight -/
namespace Cert.AdamSmall

theorem device_of (me : IVec ⟨0, ![]⟩ 32) (i : (⟨0, ![]⟩ : Shape).Idx) (h : IntOp.andi (IntOp.cmpi .sge (me i) 0#32) (IntOp.cmpi .slt (me i) 8#32) = 1#1) :
    ∃ q : Nat, q < 8 ∧ me = fun _ => BitVec.ofNat 32 q := by
  have hb : (0#32).sle (me i) = true ∧ (me i).slt 8#32 = true := by
    have h' : BitVec.ofBool ((0#32).sle (me i)) &&& BitVec.ofBool ((me i).slt 8#32) = 1#1 := h
    generalize (0#32).sle (me i) = a at h' ⊢
    generalize (me i).slt 8#32 = b at h' ⊢
    revert a b; decide
  have h0 : (0#32 : BitVec 32).toInt ≤ (me i).toInt := BitVec.sle_iff_toInt_le.mp hb.1
  have h8 : (me i).toInt < (8#32 : BitVec 32).toInt := BitVec.slt_iff_toInt_lt.mp hb.2
  have e0 : (0#32 : BitVec 32).toInt = 0 := by decide
  have e8 : (8#32 : BitVec 32).toInt = 8 := by decide
  have hl : (me i).toNat < 2 ^ 32 := (me i).isLt
  rw [e0, BitVec.toInt_eq_toNat_cond] at h0
  rw [e8, BitVec.toInt_eq_toNat_cond] at h8
  refine ⟨(me i).toNat, by split at h0 <;> split at h8 <;> omega, funext fun j => ?_⟩
  rw [show j = i from funext fun a => a.elim0, BitVec.ofNat_toNat, BitVec.setWidth_eq]

end Cert.AdamSmall
-- ==== Proof.LossHead.lean ====
module

public import proofs.«01_k».proof.Proof.Gen.Kernel9Ideal.Value
public import proofs.«01_k».proof.Proof.Gen.Reference9Ideal.Read
public import Idealize.ShloMosaic.Lib.Pipeline.ValueKit

@[expose] public section
set_option maxRecDepth 16384
noncomputable section
open Idealize.ShloMosaic Idealize.ShloMosaic.TcCoe Idealize.SL.Sem

/-! # The loss head

The kernel walks the 8192 tokens in 32 steps of 256. Each step writes its tokens' cotangents and adds its tokens'
losses to one number. -/
namespace Cert.LossHead
open Cert.Kernel9Ideal Cert.Kernel9Ideal.Gen

theorem half_coe : Ideal.ofBits .f32 0x3F000000#32 = ((1 / 2 : ℝ) : EReal) := by
  simp [Ideal.ofBits, Ideal.ieee]
  rw [← EReal.coe_mul]
  norm_num

theorem one_coe : Ideal.ofBits .f32 0x3F800000#32 = 1 := by
  simp [Ideal.ofBits, Ideal.ieee]
  rw [← EReal.coe_mul]
  norm_num

theorem two_coe : Ideal.ofBits .f32 0x40000000#32 = ((2 : ℝ) : EReal) := by
  simp [Ideal.ofBits, Ideal.ieee]
  rw [← EReal.coe_mul]
  norm_num

theorem width_coe : Ideal.ofBits .f32 0x44800000#32 = ((1024 : ℝ) : EReal) := by
  simp [Ideal.ofBits, Ideal.ieee]
  rw [← EReal.coe_mul]
  norm_num

theorem mean (x : EReal) : Ideal.div x (Ideal.ofBits .f32 0x44800000#32) = x * ((1 / 1024 : ℝ) : EReal) := by
  rw [width_coe, Ideal.div_coe (by norm_num)]

/-- Half of a mean over the 1024 features is a sum times this number. -/
theorem half_mean (x : EReal) : ((1 / 2 : ℝ) : EReal) * (x * ((1 / 1024 : ℝ) : EReal)) = ((1 / 2048 : ℝ) : EReal) * x := by
  rw [mul_left_comm, mul_comm x, ← EReal.coe_mul]
  norm_num

/-- A nonnegative real number times a finite sum of extended reals. -/
theorem scale {ι : Type*} [Fintype ι] (w : ℝ) (hw : 0 ≤ w) (f : ι → EReal) : (w : EReal) * ∑ i, f i = ∑ i, (w : EReal) * f i := by
  classical
  refine Finset.induction_on (Finset.univ : Finset ι) (by simp) fun a s ha ih => ?_
  rw [Finset.sum_insert ha, Finset.sum_insert ha, EReal.left_distrib_of_nonneg_of_ne_top (by exact_mod_cast hw) (EReal.coe_ne_top w), ih]

/-- The loss of one feature of one token. -/
def term (y t : EReal) : EReal := ((1 / 2048 : ℝ) : EReal) * ((y - t) * (y - t))

/-- The cotangent of one feature of one token. -/
def slope (y t : EReal) : EReal := (y - t) * ((1 / 1024 : ℝ) : EReal)

/-- The loss of one step's tokens. -/
def part (a b : Vec Ideal S256x1024 .f32) : EReal := ∑ r : Fin 256, ∑ k : Fin 1024, term (a (ix2 r k)) (b (ix2 r k))

theorem pay3 (a b : Vec Ideal S256x1024 .f32) (j : S256x1024.Idx) : k0_pay3 (F := Ideal) a b j = slope (a j) (b j) := by
  unfold slope
  rw [← mean]
  pointwise [k0_pay3, k0_pay2]

theorem pay4 (a b : Vec Ideal S256x1024 .f32) (s : Vec Ideal S1x1 .f32) (j : S1x1.Idx) : k0_pay4 (F := Ideal) a b s j = s j + part a b := by
  have h : part a b = Ideal.div (Ideal.ofBits .f32 0x3F000000#32 * ∑ k : Fin 1024, ∑ r : Fin 256, (a (ix2 r k) - b (ix2 r k)) * (a (ix2 r k) - b (ix2 r k)))
      (Ideal.ofBits .f32 0x44800000#32) := by
    rw [mean, half_coe, mul_assoc, half_mean, Finset.sum_comm, scale _ (by norm_num)]
    exact Finset.sum_congr rfl fun r _ => (scale _ (by norm_num) _).symm
  rw [h]
  pointwise [k0_pay4, k0_pay2]

theorem pay1 (j : S1x1.Idx) : k0_pay1 (F := Ideal) j = 0 := by pointwise [k0_pay1]

variable (m : (ℓ : Loc nD τ sig) → Buf (Elt Ideal) ℓ)

/-- The first step starts from zero. -/
theorem sum_first (c : Dev nD) (t : Fin cfg0.N) (h : t.val % 32 = 0) (j : S1x1.Idx) :
    (outsAt0 m c t.val t.isLt).2 j = 0 + part (iblk m c 0 t) (iblk m c 1 t) := by
  rw [outsAt0_A m c t h]; frame_out; rw [pay4, pay1]

/-- A later step adds its tokens' loss. -/
theorem sum_next (c : Dev nD) (t : Fin cfg0.N) (h : ¬ t.val % 32 = 0) (j : S1x1.Idx) :
    (outsAt0 m c t.val t.isLt).2 j = (outsAt0 m c (t.val - 1) (Nat.lt_of_le_of_lt (Nat.sub_le _ _) t.isLt)).2 j + part (iblk m c 0 t) (iblk m c 1 t) := by
  rw [outsAt0_B m c t h]; frame_out; rw [pay4]

theorem out_slope (c : Dev nD) (t : Fin cfg0.N) (j : S256x1024.Idx) :
    (outsAt0 m c t.val t.isLt).1 j = slope ((iblk m c 0 t : Vec Ideal S256x1024 .f32) j) ((iblk m c 1 t : Vec Ideal S256x1024 .f32) j) := by
  by_cases h : t.val % 32 = 0
  · rw [outsAt0_A m c t h]; frame_out; rw [pay3]
  · rw [outsAt0_B m c t h]; frame_out; rw [pay3]

theorem idxs : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = 0 ∧ win0_3.index t 1 = 0))

/-- One entry of each block a step reads. -/
theorem read0 (c : Dev nD) (t : Fin cfg0.N) (j : S256x1024.Idx) (i : S8192x1024.Idx) (h0 : (i 0).val = t.val * 256 + (j 0).val) (h1 : (i 1).val = (j 1).val) :
    (iblk m c 0 t : Vec Ideal S256x1024 .f32) j = m ((c : Thread nD τ).loc main_arg0) i := by
  blk_ext [iblk, V, idxs t, h0, h1]

theorem read1 (c : Dev nD) (t : Fin cfg0.N) (j : S256x1024.Idx) (i : S8192x1024.Idx) (h0 : (i 0).val = t.val * 256 + (j 0).val) (h1 : (i 1).val = (j 1).val) :
    (iblk m c 1 t : Vec Ideal S256x1024 .f32) j = m ((c : Thread nD τ).loc main_arg1) i := by
  blk_ext [iblk, V, idxs t, h0, h1]

/-- The loss, summed over tokens and features. -/
def loss (Y T : Vec Ideal S8192x1024 .f32) : EReal := ∑ r : Fin 8192, ∑ k : Fin 1024, term (Y (ix2 r k)) (T (ix2 r k))

/-- The array of cotangents the kernel leaves. -/
theorem array2 (c : Dev nD) : (dats m 0 c).arrAt 2 cfg0.N
    = fun i : S8192x1024.Idx => slope ((m ((c : Thread nD τ).loc main_arg0) : S8192x1024.Idx → EReal) i) ((m ((c : Thread nD τ).loc main_arg1) : S8192x1024.Idx → EReal) i) := by
  refine (dats m 0 c).arrAt_eq_of_covers 2 _ (by decide +kernel) fun t hf y => ?_
  blk_simp
  rw [after0_2, out_slope]
  refine congr (congrArg slope (read0 m c t y _ ?_ ?_)) (read1 m c t y _ ?_ ?_) <;> blk_simp [idxs t]

/-- The number the kernel leaves is the loss. -/
theorem array3 (c : Dev nD) : (dats m 0 c).arrAt 3 cfg0.N
    = fun i : S1x1.Idx => loss (m ((c : Thread nD τ).loc main_arg0)) (m ((c : Thread nD τ).loc main_arg1)) := by
  refine (dats m 0 c).arrAt_eq_of_covers 3 _ (by decide +kernel) fun t hf y => ?_
  blk_simp
  have h31 : t.val % 32 = 31 := (flush0_3 t).mp hf
  rw [after0_3, Pipeline.eq_sum_fin_of_reset_step_apply_of_flush (fun n h => (outsAt0 m c n h).2) 32 (fun _ => 0)
    (fun t _ => part (iblk m c 0 t) (iblk m c 1 t)) (fun t h j => sum_first m c t h j) (fun t h j => sum_next m c t h j) t h31 _, zero_add]
  unfold loss part
  refine Fin.sum_mul_add_congr (M := EReal) fun s r hl => ?_
  have hs := Pipeline.run_point_lt_of_flush t h31 s
  have ht : t.val < 32 := t.isLt
  refine Finset.sum_congr rfl fun k _ => congr (congrArg term (read0 m c ⟨_, hs⟩ _ _ ?_ ?_)) (read1 m c ⟨_, hs⟩ _ _ ?_ ?_) <;> dsimp only [ix2] <;> first | rfl | (simp; omega)

variable (Y T : Vec Ideal S8192x1024 .f32)

theorem reference_slope : Cert.Reference9Ideal.Read.val_main_v14 (F := Ideal) Y T = fun i => slope (Y i) (T i) := by
  funext i
  have h : slope (Y i) (T i) = Ideal.div (Ideal.ofBits .f32 0x3F000000#32 * Ideal.ofBits .f32 0x3F800000#32) (Ideal.ofBits .f32 0x44800000#32)
      * (Ideal.ofBits .f32 0x40000000#32 * (Y i - T i)) := by
    unfold slope
    rw [mean, half_coe, one_coe, two_coe, mul_one, ← mul_assoc, ← EReal.coe_mul, ← EReal.coe_mul, mul_comm]
    norm_num
  rw [h]
  pointwise [Cert.Reference9Ideal.Read.val_main_v14, Cert.Reference9Ideal.Read.val_main_v13, Cert.Reference9Ideal.Read.val_main_v12, Cert.Reference9Ideal.Read.val_main_v11, Cert.Reference9Ideal.Read.val_main_v10, Cert.Reference9Ideal.Read.val_main_v9, Cert.Reference9Ideal.Read.val_main_v3, Cert.Reference9Ideal.Read.val_main_v2, Cert.Reference9Ideal.Read.val_main_v0, Cert.Reference9Ideal.Read.val_main_cst, Cert.Reference9Ideal.Read.val_main_cst_4, Cert.Reference9Ideal.Read.val_main_cst_5, Cert.Reference9Ideal.Read.val_main_cst_6]

theorem reference_loss : Cert.Reference9Ideal.Read.val_main_v15 (F := Ideal) Y T = fun _ => loss Y T := by
  funext i
  have h : loss Y T = Ideal.ofBits .f32 0x3F000000#32 * ∑ r : Fin 8192,
      Ideal.div (∑ k : Fin 1024, (Y (ix2 r k) - T (ix2 r k)) * (Y (ix2 r k) - T (ix2 r k))) (Ideal.ofBits .f32 0x44800000#32) := by
    rw [half_coe, scale _ (by norm_num)]
    refine Finset.sum_congr rfl fun r _ => ?_
    rw [mean, half_mean, scale _ (by norm_num)]
    rfl
  rw [h]
  pointwise [Cert.Reference9Ideal.Read.val_main_v15, Cert.Reference9Ideal.Read.val_main_v8, Cert.Reference9Ideal.Read.val_main_v7, Cert.Reference9Ideal.Read.val_main_v6, Cert.Reference9Ideal.Read.val_main_v5, Cert.Reference9Ideal.Read.val_main_v4, Cert.Reference9Ideal.Read.val_main_v1, Cert.Reference9Ideal.Read.val_main_v0, Cert.Reference9Ideal.Read.val_main_cst_0, Cert.Reference9Ideal.Read.val_main_cst_1, Cert.Reference9Ideal.Read.val_main_cst_2, Cert.Reference9Ideal.Read.val_main_cst_3]

end Cert.LossHead
-- ==== Proof.OutBwd.lean ====
module

public import proofs.«01_k».proof.Proof.Gen.Kernel10Ideal.Value
public import proofs.«01_k».proof.Proof.Gen.Reference10Ideal.Read
public import Idealize.ShloMosaic.Lib.Pipeline.ValueKit

@[expose] public section
set_option maxRecDepth 16384
noncomputable section
open Idealize.ShloMosaic Idealize.ShloMosaic.TcCoe Idealize.SL.Sem

/-! # The gradient of the layer norm and of the output projection

The kernel walks the 8192 tokens in 32 steps of 256. Each step writes the gradients of its tokens' residual and
merged rows, and adds its tokens' shares to the gradients of the weight, the gain and the bias. -/
namespace Cert.OutBwd
open Cert.Kernel10Ideal Cert.Kernel10Ideal.Gen

/-- The gradient of a token's residual: `d` is the cotangent, `h` the normed row, `g` the gain, `s` the inverse deviation. -/
def norm (d h g : Fin 1024 → EReal) (s : EReal) (k : Fin 1024) : EReal :=
  s * (d k * g k - Ideal.div (∑ q, d q * g q) (Ideal.ofBits .f32 0x44800000#32)
    - h k * Ideal.div (∑ q, d q * g q * h q) (Ideal.ofBits .f32 0x44800000#32))

/-- The same of one step's blocks. -/
def rows (d h : Vec Ideal S256x1024 .f32) (g : Vec Ideal S1x1024 .f32) (s : Vec Ideal S256x1 .f32) (r : Fin 256) (k : Fin 1024) : EReal :=
  norm (fun q => d (ix2 r q)) (fun q => h (ix2 r q)) (fun q => g (ix2 0 q)) (s (ix2 r 0)) k

theorem pay7 (d h : Vec Ideal S256x1024 .f32) (g : Vec Ideal S1x1024 .f32) (s : Vec Ideal S256x1 .f32) (j : S256x1024.Idx) :
    k0_pay7 (F := Ideal) d h g s j = rows d h g s (j 0) (j 1) := by
  unfold rows norm; pointwise [k0_pay7]

theorem pay9 (d h : Vec Ideal S256x1024 .f32) (g : Vec Ideal S1x1024 .f32) (s : Vec Ideal S256x1 .f32) (w : Vec Ideal S1024x1024 .bf16) (j : S256x1024.Idx) :
    k0_pay9 (F := Ideal) d h g s w j = ∑ q : Fin 1024, rows d h g s (j 0) q * w (ix2 (j 1) q) := by
  have h7 : ∀ q : Fin 1024, rows d h g s (j 0) q = k0_pay7 (F := Ideal) d h g s (ix2 (j 0) q) := fun q => (pay7 d h g s (ix2 (j 0) q)).symm
  simp only [h7]
  pointwise [k0_pay9, k0_pay8]

theorem pay1 (d h : Vec Ideal S256x1024 .f32) (g : Vec Ideal S1x1024 .f32) (s : Vec Ideal S256x1 .f32) (a : Vec Ideal S1024x1024 .f32) (n : Vec Ideal S256x1024 .bf16) (j : S1024x1024.Idx) :
    k0_pay1 (F := Ideal) (k0_pay8 (F := Ideal) d h g s) (k0_pay10 (F := Ideal) a) n j = a j + ∑ r : Fin 256, n (ix2 r (j 0)) * rows d h g s r (j 1) := by
  have h7 : ∀ r : Fin 256, rows d h g s r (j 1) = k0_pay7 (F := Ideal) d h g s (ix2 r (j 1)) := fun r => (pay7 d h g s (ix2 r (j 1))).symm
  simp only [h7]
  pointwise [k0_pay1, k0_pay8, k0_pay10]

theorem pay2 (d h : Vec Ideal S256x1024 .f32) (a : Vec Ideal S1x1024 .f32) (j : S1x1024.Idx) :
    k0_pay2 (F := Ideal) d h a j = a j + ∑ r : Fin 256, d (ix2 r (j 1)) * h (ix2 r (j 1)) := by
  pointwise [k0_pay2]

theorem pay3 (d : Vec Ideal S256x1024 .f32) (a : Vec Ideal S1x1024 .f32) (j : S1x1024.Idx) :
    k0_pay3 (F := Ideal) d a j = a j + ∑ r : Fin 256, d (ix2 r (j 1)) := by
  pointwise [k0_pay3]

theorem pay4 (j : S1024x1024.Idx) : k0_pay4 (F := Ideal) j = 0 := by pointwise [k0_pay4]

theorem pay5 (j : S1x1024.Idx) : k0_pay5 (F := Ideal) j = 0 := by pointwise [k0_pay5]

theorem pay6 (j : S1x1024.Idx) : k0_pay6 (F := Ideal) j = 0 := by pointwise [k0_pay6]

variable (m : (ℓ : Loc nD τ sig) → Buf (Elt Ideal) ℓ)

/-- The gradients of the residual of the tokens of one step. -/
def rowsAt (c : Dev nD) (t : Fin cfg0.N) (r : Fin 256) (k : Fin 1024) : EReal := rows (iblk m c 0 t) (iblk m c 1 t) (iblk m c 5 t) (iblk m c 2 t) r k

/-- What one step adds to the gradient of the weight, of the gain and of the bias. -/
def shareW (d h : Vec Ideal S256x1024 .f32) (g : Vec Ideal S1x1024 .f32) (s : Vec Ideal S256x1 .f32) (n : Vec Ideal S256x1024 .bf16) (j : S1024x1024.Idx) : EReal :=
  ∑ r : Fin 256, n (ix2 r (j 0)) * rows d h g s r (j 1)

def shareG (d h : Vec Ideal S256x1024 .f32) (j : S1x1024.Idx) : EReal := ∑ r : Fin 256, d (ix2 r (j 1)) * h (ix2 r (j 1))

def shareB (d : Vec Ideal S256x1024 .f32) (j : S1x1024.Idx) : EReal := ∑ r : Fin 256, d (ix2 r (j 1))

def partW (c : Dev nD) (t : Fin cfg0.N) : S1024x1024.Idx → EReal := shareW (iblk m c 0 t) (iblk m c 1 t) (iblk m c 5 t) (iblk m c 2 t) (iblk m c 3 t)

def partG (c : Dev nD) (t : Fin cfg0.N) : S1x1024.Idx → EReal := shareG (iblk m c 0 t) (iblk m c 1 t)

def partB (c : Dev nD) (t : Fin cfg0.N) : S1x1024.Idx → EReal := shareB (iblk m c 0 t)

theorem out_rows (c : Dev nD) (t : Fin cfg0.N) (j : S256x1024.Idx) : (outsAt0 m c t.val t.isLt).1 j = rowsAt m c t (j 0) (j 1) := by
  by_cases h : t.val % 32 = 0
  · rw [outsAt0_A m c t h]; frame_out; rw [pay7]; rfl
  · rw [outsAt0_B m c t h]; frame_out; rw [pay7]; rfl

theorem out_merged (c : Dev nD) (t : Fin cfg0.N) (j : S256x1024.Idx) :
    (outsAt0 m c t.val t.isLt).2.1 j = ∑ q : Fin 1024, rowsAt m c t (j 0) q * (iblk m c 4 t : Vec Ideal S1024x1024 .bf16) (ix2 (j 1) q) := by
  by_cases h : t.val % 32 = 0
  · rw [outsAt0_A m c t h]; frame_out; rw [pay9]; rfl
  · rw [outsAt0_B m c t h]; frame_out; rw [pay9]; rfl

theorem firstW (c : Dev nD) (t : Fin cfg0.N) (h : t.val % 32 = 0) (j : S1024x1024.Idx) :
    (outsAt0 m c t.val t.isLt).2.2.1 j = 0 + partW m c t j := by
  rw [outsAt0_A m c t h]; frame_out; rw [pay1]; exact congrArg (· + _) (pay4 _)

theorem nextW (c : Dev nD) (t : Fin cfg0.N) (h : ¬ t.val % 32 = 0) (j : S1024x1024.Idx) :
    (outsAt0 m c t.val t.isLt).2.2.1 j = (outsAt0 m c (t.val - 1) (Nat.lt_of_le_of_lt (Nat.sub_le _ _) t.isLt)).2.2.1 j + partW m c t j := by
  rw [outsAt0_B m c t h]; frame_out; rw [pay1]; rfl

theorem firstG (c : Dev nD) (t : Fin cfg0.N) (h : t.val % 32 = 0) (j : S1x1024.Idx) :
    (outsAt0 m c t.val t.isLt).2.2.2.1 j = 0 + partG m c t j := by
  rw [outsAt0_A m c t h]; frame_out; rw [pay2]; exact congrArg (· + _) (pay5 _)

theorem nextG (c : Dev nD) (t : Fin cfg0.N) (h : ¬ t.val % 32 = 0) (j : S1x1024.Idx) :
    (outsAt0 m c t.val t.isLt).2.2.2.1 j = (outsAt0 m c (t.val - 1) (Nat.lt_of_le_of_lt (Nat.sub_le _ _) t.isLt)).2.2.2.1 j + partG m c t j := by
  rw [outsAt0_B m c t h]; frame_out; rw [pay2]; rfl

theorem firstB (c : Dev nD) (t : Fin cfg0.N) (h : t.val % 32 = 0) (j : S1x1024.Idx) :
    (outsAt0 m c t.val t.isLt).2.2.2.2 j = 0 + partB m c t j := by
  rw [outsAt0_A m c t h]; frame_out; rw [pay3]; exact congrArg (· + _) (pay6 _)

theorem nextB (c : Dev nD) (t : Fin cfg0.N) (h : ¬ t.val % 32 = 0) (j : S1x1024.Idx) :
    (outsAt0 m c t.val t.isLt).2.2.2.2 j = (outsAt0 m c (t.val - 1) (Nat.lt_of_le_of_lt (Nat.sub_le _ _) t.isLt)).2.2.2.2 j + partB m c t j := by
  rw [outsAt0_B m c t h]; frame_out; rw [pay3]; rfl

theorem idxs : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_6.index t 0 = t.val ∧ win0_6.index t 1 = 0) ∧ (win0_7.index t 0 = t.val ∧ win0_7.index t 1 = 0)
    ∧ (win0_4.index t 0 = 0 ∧ win0_4.index t 1 = 0) ∧ (win0_5.index t 0 = 0 ∧ win0_5.index t 1 = 0) ∧ (win0_8.index t 0 = 0 ∧ win0_8.index t 1 = 0)
    ∧ (win0_9.index t 0 = 0 ∧ win0_9.index t 1 = 0) ∧ (win0_10.index t 0 = 0 ∧ win0_10.index t 1 = 0) :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_6.index t 0 = t.val ∧ win0_6.index t 1 = 0) ∧ (win0_7.index t 0 = t.val ∧ win0_7.index t 1 = 0)
    ∧ (win0_4.index t 0 = 0 ∧ win0_4.index t 1 = 0) ∧ (win0_5.index t 0 = 0 ∧ win0_5.index t 1 = 0) ∧ (win0_8.index t 0 = 0 ∧ win0_8.index t 1 = 0)
    ∧ (win0_9.index t 0 = 0 ∧ win0_9.index t 1 = 0) ∧ (win0_10.index t 0 = 0 ∧ win0_10.index t 1 = 0))

/-! Where the entries of the blocks a step reads lie in the arrays. -/

theorem read0 (c : Dev nD) (t : Fin cfg0.N) (a : Fin 256) (k : Fin 1024) (r : Fin 8192) (hr : r.val = t.val * 256 + a.val) :
    (iblk m c 0 t : Vec Ideal S256x1024 .f32) (ix2 a k) = m ((c : Thread nD τ).loc main_arg0) (ix2 r k) := by
  blk_ext [iblk, V, idxs t, hr]

theorem read1 (c : Dev nD) (t : Fin cfg0.N) (a : Fin 256) (k : Fin 1024) (r : Fin 8192) (hr : r.val = t.val * 256 + a.val) :
    (iblk m c 1 t : Vec Ideal S256x1024 .f32) (ix2 a k) = m ((c : Thread nD τ).loc main_arg1) (ix2 r k) := by
  blk_ext [iblk, V, idxs t, hr]

theorem read2 (c : Dev nD) (t : Fin cfg0.N) (a : Fin 256) (r : Fin 8192) (hr : r.val = t.val * 256 + a.val) :
    (iblk m c 2 t : Vec Ideal S256x1 .f32) (ix2 a 0) = m ((c : Thread nD τ).loc main_arg2) (ix2 r 0) := by
  blk_ext [iblk, V, idxs t, hr]

theorem read3 (c : Dev nD) (t : Fin cfg0.N) (a : Fin 256) (k : Fin 1024) (r : Fin 8192) (hr : r.val = t.val * 256 + a.val) :
    (iblk m c 3 t : Vec Ideal S256x1024 .bf16) (ix2 a k) = m ((c : Thread nD τ).loc main_arg3) (ix2 r k) := by
  blk_ext [iblk, V, idxs t, hr]

theorem read4 (c : Dev nD) (t : Fin cfg0.N) (j : S1024x1024.Idx) : (iblk m c 4 t : Vec Ideal S1024x1024 .bf16) j = m ((c : Thread nD τ).loc main_arg4) j := by
  blk_ext [iblk, V, idxs t]

theorem read5 (c : Dev nD) (t : Fin cfg0.N) (j : S1x1024.Idx) : (iblk m c 5 t : Vec Ideal S1x1024 .f32) j = m ((c : Thread nD τ).loc main_arg5) j := by
  blk_ext [iblk, V, idxs t]

/-! The results as functions of the arrays. -/

def resid (D H : Vec Ideal S8192x1024 .f32) (R : Vec Ideal S8192x1 .f32) (G : Vec Ideal S1x1024 .f32) (r : Fin 8192) (k : Fin 1024) : EReal :=
  norm (fun q => D (ix2 r q)) (fun q => H (ix2 r q)) (fun q => G (ix2 0 q)) (R (ix2 r 0)) k

def gradM (D H : Vec Ideal S8192x1024 .f32) (R : Vec Ideal S8192x1 .f32) (G : Vec Ideal S1x1024 .f32) (W : Vec Ideal S1024x1024 .bf16) (i : S8192x1024.Idx) : EReal :=
  ∑ q : Fin 1024, resid D H R G (i 0) q * W (ix2 (i 1) q)

def gradW (D H : Vec Ideal S8192x1024 .f32) (R : Vec Ideal S8192x1 .f32) (G : Vec Ideal S1x1024 .f32) (M : Vec Ideal S8192x1024 .bf16) (i : S1024x1024.Idx) : EReal :=
  ∑ r : Fin 8192, M (ix2 r (i 0)) * resid D H R G r (i 1)

def gradG (D H : Vec Ideal S8192x1024 .f32) (i : S1x1024.Idx) : EReal := ∑ r : Fin 8192, D (ix2 r (i 1)) * H (ix2 r (i 1))

def gradB (D : Vec Ideal S8192x1024 .f32) (i : S1x1024.Idx) : EReal := ∑ r : Fin 8192, D (ix2 r (i 1))

theorem rows_read (c : Dev nD) (t : Fin cfg0.N) (a : Fin 256) (k : Fin 1024) (r : Fin 8192) (hr : r.val = t.val * 256 + a.val) :
    rowsAt m c t a k = resid (m ((c : Thread nD τ).loc main_arg0)) (m ((c : Thread nD τ).loc main_arg1)) (m ((c : Thread nD τ).loc main_arg2)) (m ((c : Thread nD τ).loc main_arg5)) r k := by
  unfold rowsAt rows resid
  rw [read2 m c t a r hr, funext fun q => read0 m c t a q r hr, funext fun q => read1 m c t a q r hr, funext fun q => read5 m c t (ix2 0 q)]

theorem array6 (c : Dev nD) : (dats m 0 c).arrAt 6 cfg0.N
    = fun i : S8192x1024.Idx => resid (m ((c : Thread nD τ).loc main_arg0)) (m ((c : Thread nD τ).loc main_arg1)) (m ((c : Thread nD τ).loc main_arg2)) (m ((c : Thread nD τ).loc main_arg5)) (i 0) (i 1) := by
  refine (dats m 0 c).arrAt_eq_of_covers 6 _ (by decide +kernel) fun t hf y => ?_
  blk_simp
  rw [after0_6, out_rows]
  refine (rows_read m c t (y 0) (y 1) ((win0_6.blk t).view.emb y 0) ?_).trans (congrArg (resid _ _ _ _ _) ?_)
  · blk_simp [idxs t]
  · exact Fin.ext (by blk_simp [idxs t])

theorem array7 (c : Dev nD) : (dats m 0 c).arrAt 7 cfg0.N
    = gradM (m ((c : Thread nD τ).loc main_arg0)) (m ((c : Thread nD τ).loc main_arg1)) (m ((c : Thread nD τ).loc main_arg2)) (m ((c : Thread nD τ).loc main_arg5)) (m ((c : Thread nD τ).loc main_arg4)) := by
  refine (dats m 0 c).arrAt_eq_of_covers 7 _ (by decide +kernel) fun t hf y => ?_
  blk_simp
  rw [after0_7, out_merged]
  unfold gradM
  refine Finset.sum_congr (M := EReal) rfl fun q _ => congrArg₂ (· * ·) (rows_read m c t (y 0) q _ ?_) ((read4 m c t _).trans (congrArg _ ?_))
  · blk_simp [idxs t]
  · blk_ext [idxs t]

/-- The token that a step's row is. -/
theorem row_of (t : Fin cfg0.N) (h : t.val % 32 = 31) (s : Fin 32) (r : Fin 256) (hl : s.val * 256 + r.val < 8192) (hs : 32 * (t.val / 32) + s.val < cfg0.N) :
    (⟨s.val * 256 + r.val, hl⟩ : Fin 8192).val = (⟨32 * (t.val / 32) + s.val, hs⟩ : Fin cfg0.N).val * 256 + r.val := by
  have ht : t.val < 32 := t.isLt
  dsimp only
  omega

theorem array8 (c : Dev nD) : (dats m 0 c).arrAt 8 cfg0.N
    = gradW (m ((c : Thread nD τ).loc main_arg0)) (m ((c : Thread nD τ).loc main_arg1)) (m ((c : Thread nD τ).loc main_arg2)) (m ((c : Thread nD τ).loc main_arg5)) (m ((c : Thread nD τ).loc main_arg3)) := by
  refine (dats m 0 c).arrAt_eq_of_covers 8 _ (by decide +kernel) fun t hf y => ?_
  blk_simp
  have h31 : t.val % 32 = 31 := (flush0_8 t).mp hf
  rw [after0_8, Pipeline.eq_sum_fin_of_reset_step_apply_of_flush (fun n h => (outsAt0 m c n h).2.2.1) 32 (fun _ => 0)
    (fun t j => partW m c t j) (fun t h j => firstW m c t h j) (fun t h j => nextW m c t h j) t h31 _, zero_add]
  unfold gradW partW shareW
  refine Fin.sum_mul_add_congr (M := EReal) fun s r hl => ?_
  have hs := Pipeline.run_point_lt_of_flush t h31 s
  refine congrArg₂ (· * ·) ((read3 m c ⟨_, hs⟩ r _ _ (row_of t h31 s r hl hs)).trans (congrArg _ ?_)) ((rows_read m c ⟨_, hs⟩ r _ _ (row_of t h31 s r hl hs)).trans (congrArg _ ?_))
  · blk_ext [idxs t]
  · exact Fin.ext (by blk_simp [idxs t])

theorem array9 (c : Dev nD) : (dats m 0 c).arrAt 9 cfg0.N = gradG (m ((c : Thread nD τ).loc main_arg0)) (m ((c : Thread nD τ).loc main_arg1)) := by
  refine (dats m 0 c).arrAt_eq_of_covers 9 _ (by decide +kernel) fun t hf y => ?_
  blk_simp
  have h31 : t.val % 32 = 31 := (flush0_9 t).mp hf
  rw [after0_9, Pipeline.eq_sum_fin_of_reset_step_apply_of_flush (fun n h => (outsAt0 m c n h).2.2.2.1) 32 (fun _ => 0)
    (fun t j => partG m c t j) (fun t h j => firstG m c t h j) (fun t h j => nextG m c t h j) t h31 _, zero_add]
  unfold gradG partG shareG
  refine Fin.sum_mul_add_congr (M := EReal) fun s r hl => ?_
  have hs := Pipeline.run_point_lt_of_flush t h31 s
  refine congrArg₂ (· * ·) ((read0 m c ⟨_, hs⟩ r _ _ (row_of t h31 s r hl hs)).trans (congrArg _ ?_)) ((read1 m c ⟨_, hs⟩ r _ _ (row_of t h31 s r hl hs)).trans (congrArg _ ?_))
  · blk_ext [idxs t]
  · blk_ext [idxs t]

theorem array10 (c : Dev nD) : (dats m 0 c).arrAt 10 cfg0.N = gradB (m ((c : Thread nD τ).loc main_arg0)) := by
  refine (dats m 0 c).arrAt_eq_of_covers 10 _ (by decide +kernel) fun t hf y => ?_
  blk_simp
  have h31 : t.val % 32 = 31 := (flush0_10 t).mp hf
  rw [after0_10, Pipeline.eq_sum_fin_of_reset_step_apply_of_flush (fun n h => (outsAt0 m c n h).2.2.2.2) 32 (fun _ => 0)
    (fun t j => partB m c t j) (fun t h j => firstB m c t h j) (fun t h j => nextB m c t h j) t h31 _, zero_add]
  unfold gradB partB shareB
  refine Fin.sum_mul_add_congr (M := EReal) fun s r hl => ?_
  have hs := Pipeline.run_point_lt_of_flush t h31 s
  refine (read0 m c ⟨_, hs⟩ r _ _ (row_of t h31 s r hl hs)).trans (congrArg _ ?_)
  blk_ext [idxs t]

section reference
open Cert.Reference10Ideal.Read
variable (D H : Vec Ideal S8192x1024 .f32) (R : Vec Ideal S8192x1 .f32) (G : Vec Ideal S1x1024 .f32) (W : Vec Ideal S1024x1024 .bf16) (M : Vec Ideal S8192x1024 .bf16)

theorem ref_resid : val_main_v17 (F := Ideal) D H R G = fun i => resid D H R G (i 0) (i 1) := by
  funext i
  unfold resid norm
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

theorem ref_m : val_main_v20 (F := Ideal) D H R W G = gradM D H R G W := by
  funext i
  unfold gradM
  have h : ∀ q : Fin 1024, resid D H R G (i 0) q = val_main_v17 (F := Ideal) D H R G (ix2 (i 0) q) := fun q => by rw [ref_resid]; rfl
  simp only [h]
  pointwise [val_main_v20, val_main_v19, val_main_v18]

theorem ref_w : val_main_v23 (F := Ideal) D H R M G = gradW D H R G M := by
  funext i
  unfold gradW
  have h : ∀ r : Fin 8192, resid D H R G r (i 1) = val_main_v17 (F := Ideal) D H R G (ix2 r (i 1)) := fun r => by rw [ref_resid]; rfl
  simp only [h]
  pointwise [val_main_v23, val_main_v22, val_main_v21]

theorem ref_g : val_main_v26 (F := Ideal) D H = gradG D H := by
  funext i
  unfold gradG
  pointwise [val_main_v26, val_main_v25, val_main_v24, val_main_cst_3]

theorem ref_b : val_main_v28 (F := Ideal) D = gradB D := by
  funext i
  unfold gradB
  pointwise [val_main_v28, val_main_v27, val_main_cst_4]

end reference
end Cert.OutBwd
-- ==== Proof.MergeSpec.lean ====
module

public import Idealize.ShloMosaic.Lib.Pipeline.ValueKit

@[expose] public section
noncomputable section
open Idealize.ShloMosaic Idealize.ShloMosaic.TcCoe Idealize.SL.Sem

/-! # Merging the four branches at one token, and the residual's layer norm -/
namespace Cert.Merge

/-- The gate of a value. -/
def gate (x : EReal) : EReal := Ideal.div 1 (1 + Ideal.exp (-x))

/-- A branch's output at one token: its row times its projection. -/
def branch {n : ℕ} (z : Fin n → EReal) (p : Fin n → Fin 1024 → EReal) (c : Fin 1024) : EReal := ∑ k, z k * p k c

/-- The gated sum of four branches. -/
def merged (ya yb yc ym ga gb gc gm : Fin 1024 → EReal) (c : Fin 1024) : EReal :=
  gate (ga c) * ya c + gate (gb c) * yb c + gate (gc c) * yc c + gate (gm c) * ym c

/-- The residual: a multiple of the token and the output projection of the merged row. -/
def resid (x m : Fin 1024 → EReal) (w : Fin 1024 → Fin 1024 → EReal) (c : Fin 1024) : EReal :=
  Ideal.ofBits .f32 0x3FD744FD#32 * x c + ∑ k, m k * w k c

/-- A row less its mean. -/
def centre (r : Fin 1024 → EReal) (c : Fin 1024) : EReal := r c - Ideal.div (∑ k, r k) (Ideal.ofBits .f32 0x44800000#32)

/-- One over a row's standard deviation. -/
def rstd (r : Fin 1024 → EReal) : EReal :=
  Ideal.rsqrt (Ideal.div (∑ k, centre r k * centre r k) (Ideal.ofBits .f32 0x44800000#32) + Ideal.ofBits .f32 0x3727C5AC#32)

/-- A row normalised. -/
def normed (r : Fin 1024 → EReal) (c : Fin 1024) : EReal := centre r c * rstd r

end Cert.Merge
-- ==== Proof.MergeFwd.lean ====
module

public import proofs.«01_k».proof.Proof.Gen.Kernel6Ideal.Value
public import proofs.«01_k».proof.Proof.MergeSpec

@[expose] public section
set_option maxRecDepth 16384
noncomputable section
open Idealize.ShloMosaic Idealize.ShloMosaic.TcCoe Idealize.SL.Sem

/-! # The kernel that merges the branches

Each point of the grid computes 256 tokens; every token's results depend on that token's rows alone. -/
namespace Cert.MergeFwd
open Cert.Kernel6Ideal Cert.Kernel6Ideal.Gen Cert.Merge

theorem pay5 (z : Vec Ideal S256x512 .bf16) (p : Vec Ideal S512x1024 .bf16) (j : S256x1024.Idx) :
    k0_pay5 (F := Ideal) z p j = branch (fun k => z (ix2 (j 0) k)) (fun k c => p (ix2 k c)) (j 1) := by
  unfold branch; pointwise [k0_pay5]

theorem pay12 (z : Vec Ideal S256x256 .bf16) (p : Vec Ideal S256x1024 .bf16) (j : S256x1024.Idx) :
    k0_pay12 (F := Ideal) z p j = branch (fun k => z (ix2 (j 0) k)) (fun k c => p (ix2 k c)) (j 1) := by
  unfold branch; pointwise [k0_pay12]

theorem pay8 (za zb : Vec Ideal S256x512 .bf16) (pa pb : Vec Ideal S512x1024 .bf16) (ga gb : Vec Ideal S256x1024 .f32) (j : S256x1024.Idx) :
    k0_pay8 (F := Ideal) za pa ga zb pb gb j = gate (ga j) * k0_pay5 (F := Ideal) za pa j + gate (gb j) * k0_pay7 (F := Ideal) zb pb j := by
  unfold gate; pointwise [k0_pay8]
  simp only [zero_sub]

theorem pay14 (u : Vec Ideal S256x1024 .f32) (zc : Vec Ideal S256x512 .bf16) (pc : Vec Ideal S512x1024 .bf16) (gc : Vec Ideal S256x1024 .f32)
    (zm : Vec Ideal S256x256 .bf16) (pm : Vec Ideal S256x1024 .bf16) (gm : Vec Ideal S256x1024 .f32) (j : S256x1024.Idx) :
    k0_pay14 (F := Ideal) u zc pc gc zm pm gm j = u j + gate (gc j) * k0_pay10 (F := Ideal) zc pc j + gate (gm j) * k0_pay12 (F := Ideal) zm pm j := by
  unfold gate; pointwise [k0_pay14]
  simp only [zero_sub]

theorem pay1 (v : Vec Ideal S256x1024 .bf16) (x : Vec Ideal S256x1024 .f32) (w : Vec Ideal S1024x1024 .bf16) (j : S256x1024.Idx) :
    k0_pay1 (F := Ideal) v x w j = centre (resid (fun k => x (ix2 (j 0) k)) (fun k => v (ix2 (j 0) k)) (fun k c => w (ix2 k c))) (j 1) := by
  unfold centre resid; pointwise [k0_pay1]

theorem pay2 (v : Vec Ideal S256x1024 .bf16) (x : Vec Ideal S256x1024 .f32) (w : Vec Ideal S1024x1024 .bf16) (j : S256x1.Idx) :
    k0_pay2 (F := Ideal) v x w j = rstd (resid (fun k => x (ix2 (j 0) k)) (fun k => v (ix2 (j 0) k)) (fun k c => w (ix2 k c))) := by
  unfold rstd; pointwise [k0_pay2, pay1]

theorem pay3 (v : Vec Ideal S256x1024 .bf16) (x : Vec Ideal S256x1024 .f32) (w : Vec Ideal S1024x1024 .bf16) (j : S256x1024.Idx) :
    k0_pay3 (F := Ideal) v x w j = normed (resid (fun k => x (ix2 (j 0) k)) (fun k => v (ix2 (j 0) k)) (fun k c => w (ix2 k c))) (j 1) := by
  unfold normed; pointwise [k0_pay3, pay1, pay2]

theorem pay4 (v : Vec Ideal S256x1024 .bf16) (x : Vec Ideal S256x1024 .f32) (w : Vec Ideal S1024x1024 .bf16) (g b : Vec Ideal S1x1024 .f32) (j : S256x1024.Idx) :
    k0_pay4 (F := Ideal) v x w g b j
      = normed (resid (fun k => x (ix2 (j 0) k)) (fun k => v (ix2 (j 0) k)) (fun k c => w (ix2 k c))) (j 1) * g (ix2 0 (j 1)) + b (ix2 0 (j 1)) := by
  pointwise [k0_pay4, pay3]

variable (m : (ℓ : Loc nD τ sig) → Buf (Elt Ideal) ℓ)

theorem idxs : ∀ t : Fin cfg0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0) :=
  (by decide +kernel : ∀ t : Fin grid0.N, (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_13.index t 0 = t.val ∧ win0_13.index t 1 = 0)
    ∧ (win0_14.index t 0 = t.val ∧ win0_14.index t 1 = 0)
    ∧ (win0_15.index t 0 = t.val ∧ win0_15.index t 1 = 0)
    ∧ (win0_16.index t 0 = t.val ∧ win0_16.index t 1 = 0)
    ∧ (win0_17.index t 0 = t.val ∧ win0_17.index t 1 = 0)
    ∧ (win0_18.index t 0 = t.val ∧ win0_18.index t 1 = 0)
    ∧ (win0_19.index t 0 = t.val ∧ win0_19.index t 1 = 0)
    ∧ (win0_20.index t 0 = t.val ∧ win0_20.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = 0 ∧ win0_11.index t 1 = 0)
    ∧ (win0_12.index t 0 = 0 ∧ win0_12.index t 1 = 0))

/-! Where the entries of the blocks a point reads lie in the arrays. -/

theorem read_za (c : Dev nD) (t : Fin cfg0.N) (a : Fin 256) (k : Fin 512) (r : Fin 8192) (hr : r.val = t.val * 256 + a.val) :
    (iblk m c 0 t : Vec Ideal S256x512 .bf16) (ix2 a k) = m ((c : Thread nD τ).loc main_arg0) (ix2 r k) := by
  blk_ext [iblk, V, idxs t, hr]

theorem read_zb (c : Dev nD) (t : Fin cfg0.N) (a : Fin 256) (k : Fin 512) (r : Fin 8192) (hr : r.val = t.val * 256 + a.val) :
    (iblk m c 1 t : Vec Ideal S256x512 .bf16) (ix2 a k) = m ((c : Thread nD τ).loc main_arg1) (ix2 r k) := by
  blk_ext [iblk, V, idxs t, hr]

theorem read_zc (c : Dev nD) (t : Fin cfg0.N) (a : Fin 256) (k : Fin 512) (r : Fin 8192) (hr : r.val = t.val * 256 + a.val) :
    (iblk m c 2 t : Vec Ideal S256x512 .bf16) (ix2 a k) = m ((c : Thread nD τ).loc main_arg2) (ix2 r k) := by
  blk_ext [iblk, V, idxs t, hr]

theorem read_zm (c : Dev nD) (t : Fin cfg0.N) (a : Fin 256) (k : Fin 256) (r : Fin 8192) (hr : r.val = t.val * 256 + a.val) :
    (iblk m c 3 t : Vec Ideal S256x256 .bf16) (ix2 a k) = m ((c : Thread nD τ).loc main_arg3) (ix2 r k) := by
  blk_ext [iblk, V, idxs t, hr]

theorem read_x (c : Dev nD) (t : Fin cfg0.N) (a : Fin 256) (k : Fin 1024) (r : Fin 8192) (hr : r.val = t.val * 256 + a.val) :
    (iblk m c 5 t : Vec Ideal S256x1024 .f32) (ix2 a k) = m ((c : Thread nD τ).loc main_arg5) (ix2 r k) := by
  blk_ext [iblk, V, idxs t, hr]

theorem read_g (c : Dev nD) (t : Fin cfg0.N) (a : Fin 256) (k : Fin 4096) (r : Fin 8192) (hr : r.val = t.val * 256 + a.val) :
    (X0_4 m c t : Vec Ideal S256x4096 .f32) (ix2 a k) = m ((c : Thread nD τ).loc main_arg4) (ix2 r ⟨k.val, k.isLt.trans (by decide)⟩) := by
  unfold X0_4 Pipeline.Window.fill
  rw [dif_pos (moved0_4 t _)]
  blk_ext [iblk, V, idxs t, hr]

theorem read_pa (c : Dev nD) (t : Fin cfg0.N) (j : S512x1024.Idx) : (iblk m c 6 t : Vec Ideal S512x1024 .bf16) j = m ((c : Thread nD τ).loc main_arg6) j := by
  blk_ext [iblk, V, idxs t]

theorem read_pb (c : Dev nD) (t : Fin cfg0.N) (j : S512x1024.Idx) : (iblk m c 7 t : Vec Ideal S512x1024 .bf16) j = m ((c : Thread nD τ).loc main_arg7) j := by
  blk_ext [iblk, V, idxs t]

theorem read_pc (c : Dev nD) (t : Fin cfg0.N) (j : S512x1024.Idx) : (iblk m c 8 t : Vec Ideal S512x1024 .bf16) j = m ((c : Thread nD τ).loc main_arg8) j := by
  blk_ext [iblk, V, idxs t]

theorem read_pm (c : Dev nD) (t : Fin cfg0.N) (j : S256x1024.Idx) : (iblk m c 9 t : Vec Ideal S256x1024 .bf16) j = m ((c : Thread nD τ).loc main_arg9) j := by
  blk_ext [iblk, V, idxs t]

theorem read_wo (c : Dev nD) (t : Fin cfg0.N) (j : S1024x1024.Idx) : (iblk m c 10 t : Vec Ideal S1024x1024 .bf16) j = m ((c : Thread nD τ).loc main_arg10) j := by
  blk_ext [iblk, V, idxs t]

theorem read_lng (c : Dev nD) (t : Fin cfg0.N) (j : S1x1024.Idx) : (iblk m c 11 t : Vec Ideal S1x1024 .f32) j = m ((c : Thread nD τ).loc main_arg11) j := by
  blk_ext [iblk, V, idxs t]

theorem read_lnb (c : Dev nD) (t : Fin cfg0.N) (j : S1x1024.Idx) : (iblk m c 12 t : Vec Ideal S1x1024 .f32) j = m ((c : Thread nD τ).loc main_arg12) j := by
  blk_ext [iblk, V, idxs t]

/-! The results, by token and column, as functions of the arrays. -/

section results
variable (Za Zb Zc : Vec Ideal S8192x512 .bf16) (Zm : Vec Ideal S8192x256 .bf16) (G : Vec Ideal S8192x10368 .f32) (X : Vec Ideal S8192x1024 .f32)
  (Pa Pb Pc : Vec Ideal S512x1024 .bf16) (Pm : Vec Ideal S256x1024 .bf16) (W : Vec Ideal S1024x1024 .bf16) (g b : Vec Ideal S1x1024 .f32)

/-- A token's output of one of the first three branches. -/
def wide (Z : Vec Ideal S8192x512 .bf16) (P : Vec Ideal S512x1024 .bf16) (r : Fin 8192) : Fin 1024 → EReal :=
  branch (fun k => Z (ix2 r k)) (fun k c => P (ix2 k c))

/-- A token's output of the last branch. -/
def slim (Z : Vec Ideal S8192x256 .bf16) (P : Vec Ideal S256x1024 .bf16) (r : Fin 8192) : Fin 1024 → EReal :=
  branch (fun k => Z (ix2 r k)) (fun k c => P (ix2 k c))

/-- A token's values before a branch's gate. -/
def pre (n : Fin 4) (r : Fin 8192) (c : Fin 1024) : EReal := G (ix2 r ⟨n.val * 1024 + c.val, by omega⟩)

/-- A token's merged row. -/
def mrow (r : Fin 8192) : Fin 1024 → EReal :=
  merged (wide Za Pa r) (wide Zb Pb r) (wide Zc Pc r) (slim Zm Pm r) (pre G 0 r) (pre G 1 r) (pre G 2 r) (pre G 3 r)

/-- A token's residual. -/
def rrow (r : Fin 8192) : Fin 1024 → EReal :=
  resid (fun k => X (ix2 r k)) (mrow Za Zb Zc Zm G Pa Pb Pc Pm r) (fun k c => W (ix2 k c))

end results

theorem ld0 (c : Dev nD) (t : Fin cfg0.N) (y : S256x1024.Idx) (r : Fin 8192) (hr : r.val = t.val * 256 + (y 0).val) :
    (View.ld (X0_4 m c t) (Rect.unit ![0, 0] ![256, 1024] inb_S256x4096_S256x1024_0_0) : Vec Ideal S256x1024 .f32) y
      = pre (m ((c : Thread nD τ).loc main_arg4)) 0 r (y 1) := by
  refine Eq.trans (congrArg (X0_4 m c t) (a₂ := ix2 (y 0) ⟨0 * 1024 + (y 1).val, by have : (y 1).val < 1024 := (y 1).isLt; omega⟩) ?_) (read_g m c t (y 0) _ r hr)
  blk_ext [Rect.idx_unit_val]

theorem ld1 (c : Dev nD) (t : Fin cfg0.N) (y : S256x1024.Idx) (r : Fin 8192) (hr : r.val = t.val * 256 + (y 0).val) :
    (View.ld (X0_4 m c t) (Rect.unit ![0, 1024] ![256, 1024] inb_S256x4096_S256x1024_0_1024) : Vec Ideal S256x1024 .f32) y
      = pre (m ((c : Thread nD τ).loc main_arg4)) 1 r (y 1) := by
  refine Eq.trans (congrArg (X0_4 m c t) (a₂ := ix2 (y 0) ⟨1 * 1024 + (y 1).val, by have : (y 1).val < 1024 := (y 1).isLt; omega⟩) ?_) (read_g m c t (y 0) _ r hr)
  blk_ext [Rect.idx_unit_val]

theorem ld2 (c : Dev nD) (t : Fin cfg0.N) (y : S256x1024.Idx) (r : Fin 8192) (hr : r.val = t.val * 256 + (y 0).val) :
    (View.ld (X0_4 m c t) (Rect.unit ![0, 2048] ![256, 1024] inb_S256x4096_S256x1024_0_2048) : Vec Ideal S256x1024 .f32) y
      = pre (m ((c : Thread nD τ).loc main_arg4)) 2 r (y 1) := by
  refine Eq.trans (congrArg (X0_4 m c t) (a₂ := ix2 (y 0) ⟨2 * 1024 + (y 1).val, by have : (y 1).val < 1024 := (y 1).isLt; omega⟩) ?_) (read_g m c t (y 0) _ r hr)
  blk_ext [Rect.idx_unit_val]

theorem ld3 (c : Dev nD) (t : Fin cfg0.N) (y : S256x1024.Idx) (r : Fin 8192) (hr : r.val = t.val * 256 + (y 0).val) :
    (View.ld (X0_4 m c t) (Rect.unit ![0, 3072] ![256, 1024] inb_S256x4096_S256x1024_0_3072) : Vec Ideal S256x1024 .f32) y
      = pre (m ((c : Thread nD τ).loc main_arg4)) 3 r (y 1) := by
  refine Eq.trans (congrArg (X0_4 m c t) (a₂ := ix2 (y 0) ⟨3 * 1024 + (y 1).val, by have : (y 1).val < 1024 := (y 1).isLt; omega⟩) ?_) (read_g m c t (y 0) _ r hr)
  blk_ext [Rect.idx_unit_val]

/-- What a point computes of the branches. -/
theorem blk_wide (z : Vec Ideal S256x512 .bf16) (p : Vec Ideal S512x1024 .bf16) (Z : Vec Ideal S8192x512 .bf16) (P : Vec Ideal S512x1024 .bf16)
    (y : S256x1024.Idx) (r : Fin 8192) (hz : ∀ k, z (ix2 (y 0) k) = Z (ix2 r k)) (hp : ∀ j, p j = P j) : k0_pay5 (F := Ideal) z p y = wide Z P r (y 1) := by
  rw [pay5]; exact Finset.sum_congr rfl fun k _ => congrArg₂ (· * ·) (hz k) (hp _)

theorem blk_slim (z : Vec Ideal S256x256 .bf16) (p : Vec Ideal S256x1024 .bf16) (Z : Vec Ideal S8192x256 .bf16) (P : Vec Ideal S256x1024 .bf16)
    (y : S256x1024.Idx) (r : Fin 8192) (hz : ∀ k, z (ix2 (y 0) k) = Z (ix2 r k)) (hp : ∀ j, p j = P j) : k0_pay12 (F := Ideal) z p y = slim Z P r (y 1) := by
  rw [pay12]; exact Finset.sum_congr rfl fun k _ => congrArg₂ (· * ·) (hz k) (hp _)

theorem blk_a (c : Dev nD) (t : Fin cfg0.N) (y : S256x1024.Idx) (r : Fin 8192) (hr : r.val = t.val * 256 + (y 0).val) :
    k0_pay5 (F := Ideal) (iblk m c 0 t) (iblk m c 6 t) y = wide (m ((c : Thread nD τ).loc main_arg0)) (m ((c : Thread nD τ).loc main_arg6)) r (y 1) :=
  blk_wide _ _ _ _ y r (fun k => read_za m c t _ k r hr) (read_pa m c t)

theorem blk_b (c : Dev nD) (t : Fin cfg0.N) (y : S256x1024.Idx) (r : Fin 8192) (hr : r.val = t.val * 256 + (y 0).val) :
    k0_pay7 (F := Ideal) (iblk m c 1 t) (iblk m c 7 t) y = wide (m ((c : Thread nD τ).loc main_arg1)) (m ((c : Thread nD τ).loc main_arg7)) r (y 1) :=
  blk_wide _ _ _ _ y r (fun k => read_zb m c t _ k r hr) (read_pb m c t)

theorem blk_c (c : Dev nD) (t : Fin cfg0.N) (y : S256x1024.Idx) (r : Fin 8192) (hr : r.val = t.val * 256 + (y 0).val) :
    k0_pay10 (F := Ideal) (iblk m c 2 t) (iblk m c 8 t) y = wide (m ((c : Thread nD τ).loc main_arg2)) (m ((c : Thread nD τ).loc main_arg8)) r (y 1) :=
  blk_wide _ _ _ _ y r (fun k => read_zc m c t _ k r hr) (read_pc m c t)

theorem blk_m (c : Dev nD) (t : Fin cfg0.N) (y : S256x1024.Idx) (r : Fin 8192) (hr : r.val = t.val * 256 + (y 0).val) :
    k0_pay12 (F := Ideal) (iblk m c 3 t) (iblk m c 9 t) y = slim (m ((c : Thread nD τ).loc main_arg3)) (m ((c : Thread nD τ).loc main_arg9)) r (y 1) :=
  blk_slim _ _ _ _ y r (fun k => read_zm m c t _ k r hr) (read_pm m c t)

/-- The merged block of a point. -/
def mblk (c : Dev nD) (t : Fin cfg0.N) : Vec Ideal S256x1024 .bf16 :=
  k0_pay14 (F := Ideal)
    (k0_pay8 (F := Ideal) (iblk m c 0 t) (iblk m c 6 t) (View.ld (X0_4 m c t) (Rect.unit ![0, 0] ![256, 1024] inb_S256x4096_S256x1024_0_0)) (iblk m c 1 t)
      (iblk m c 7 t) (View.ld (X0_4 m c t) (Rect.unit ![0, 1024] ![256, 1024] inb_S256x4096_S256x1024_0_1024)))
    (iblk m c 2 t) (iblk m c 8 t) (View.ld (X0_4 m c t) (Rect.unit ![0, 2048] ![256, 1024] inb_S256x4096_S256x1024_0_2048)) (iblk m c 3 t)
    (iblk m c 9 t) (View.ld (X0_4 m c t) (Rect.unit ![0, 3072] ![256, 1024] inb_S256x4096_S256x1024_0_3072))

/-- The token's merged row, of the arguments. -/
def mArr (c : Dev nD) (r : Fin 8192) : Fin 1024 → EReal :=
  mrow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg7)) (m ((c : Thread nD τ).loc main_arg8))
    (m ((c : Thread nD τ).loc main_arg9)) r

theorem mblk_eq (c : Dev nD) (t : Fin cfg0.N) (y : S256x1024.Idx) (r : Fin 8192) (hr : r.val = t.val * 256 + (y 0).val) :
    mblk m c t y = mArr m c r (y 1) := by
  unfold mblk mArr mrow merged
  rw [pay14, pay8, ld0 m c t y r hr, ld1 m c t y r hr, ld2 m c t y r hr, ld3 m c t y r hr, blk_a m c t y r hr, blk_b m c t y r hr, blk_c m c t y r hr,
    blk_m m c t y r hr]

/-- The token's residual, of the arguments. -/
def rArr (c : Dev nD) (r : Fin 8192) : Fin 1024 → EReal :=
  resid (fun k => (m ((c : Thread nD τ).loc main_arg5) : Vec Ideal S8192x1024 .f32) (ix2 r k)) (mArr m c r)
    (fun k b => (m ((c : Thread nD τ).loc main_arg10) : Vec Ideal S1024x1024 .bf16) (ix2 k b))

theorem rblk_eq (c : Dev nD) (t : Fin cfg0.N) (a : Fin 256) (r : Fin 8192) (hr : r.val = t.val * 256 + a.val) :
    resid (fun k => (iblk m c 5 t : Vec Ideal S256x1024 .f32) (ix2 a k)) (fun k => mblk m c t (ix2 a k))
      (fun k b => (iblk m c 10 t : Vec Ideal S1024x1024 .bf16) (ix2 k b)) = rArr m c r := by
  unfold rArr
  have h1 : (fun k => mblk m c t (ix2 a k)) = mArr m c r := funext fun k => mblk_eq m c t (ix2 a k) r hr
  have h2 : (fun k => (iblk m c 5 t : Vec Ideal S256x1024 .f32) (ix2 a k)) = fun k => (m ((c : Thread nD τ).loc main_arg5) : Vec Ideal S8192x1024 .f32) (ix2 r k) :=
    funext fun k => read_x m c t a k r hr
  have h3 : (fun k b => (iblk m c 10 t : Vec Ideal S1024x1024 .bf16) (ix2 k b)) = fun k b => (m ((c : Thread nD τ).loc main_arg10) : Vec Ideal S1024x1024 .bf16) (ix2 k b) :=
    funext fun k => funext fun b => read_wo m c t _
  rw [h1, h2, h3]

/-! The arrays the kernel leaves. -/

theorem at_idx (f : Fin 8192 → Fin 1024 → EReal) (y : S256x1024.Idx) (i : S8192x1024.Idx) (h1 : (i 1).val = (y 1).val) : f (i 0) (y 1) = f (i 0) (i 1) := by
  rw [show y 1 = i 1 from Fin.ext h1.symm]

def wideArr (Z : Vec Ideal S8192x512 .bf16) (P : Vec Ideal S512x1024 .bf16) (i : S8192x1024.Idx) : EReal := wide Z P (i 0) (i 1)

def slimArr (Z : Vec Ideal S8192x256 .bf16) (P : Vec Ideal S256x1024 .bf16) (i : S8192x1024.Idx) : EReal := slim Z P (i 0) (i 1)

def mergedArr (c : Dev nD) (i : S8192x1024.Idx) : EReal := mArr m c (i 0) (i 1)

def normArr (c : Dev nD) (i : S8192x1024.Idx) : EReal := normed (rArr m c (i 0)) (i 1)

def rstdArr (c : Dev nD) (i : S8192x1.Idx) : EReal := rstd (rArr m c (i 0))

def nextArr (c : Dev nD) (i : S8192x1024.Idx) : EReal :=
  normed (rArr m c (i 0)) (i 1) * (m ((c : Thread nD τ).loc main_arg11) : Vec Ideal S1x1024 .f32) (ix2 0 (i 1))
    + (m ((c : Thread nD τ).loc main_arg12) : Vec Ideal S1x1024 .f32) (ix2 0 (i 1))

theorem merged_at (c : Dev nD) (t : Fin cfg0.N) (y : S256x1024.Idx) (i : S8192x1024.Idx) (h0 : (i 0).val = t.val * 256 + (y 0).val)
    (h1 : (i 1).val = (y 1).val) : mblk m c t y = mergedArr m c i :=
  (mblk_eq m c t y (i 0) h0).trans (at_idx _ y i h1)

theorem a_at (c : Dev nD) (t : Fin cfg0.N) (y : S256x1024.Idx) (i : S8192x1024.Idx) (h0 : (i 0).val = t.val * 256 + (y 0).val)
    (h1 : (i 1).val = (y 1).val) : k0_pay5 (F := Ideal) (iblk m c 0 t) (iblk m c 6 t) y
      = wideArr (m ((c : Thread nD τ).loc main_arg0)) (m ((c : Thread nD τ).loc main_arg6)) i :=
  (blk_a m c t y (i 0) h0).trans (at_idx _ y i h1)

theorem b_at (c : Dev nD) (t : Fin cfg0.N) (y : S256x1024.Idx) (i : S8192x1024.Idx) (h0 : (i 0).val = t.val * 256 + (y 0).val)
    (h1 : (i 1).val = (y 1).val) : k0_pay7 (F := Ideal) (iblk m c 1 t) (iblk m c 7 t) y
      = wideArr (m ((c : Thread nD τ).loc main_arg1)) (m ((c : Thread nD τ).loc main_arg7)) i :=
  (blk_b m c t y (i 0) h0).trans (at_idx _ y i h1)

theorem c_at (c : Dev nD) (t : Fin cfg0.N) (y : S256x1024.Idx) (i : S8192x1024.Idx) (h0 : (i 0).val = t.val * 256 + (y 0).val)
    (h1 : (i 1).val = (y 1).val) : k0_pay10 (F := Ideal) (iblk m c 2 t) (iblk m c 8 t) y
      = wideArr (m ((c : Thread nD τ).loc main_arg2)) (m ((c : Thread nD τ).loc main_arg8)) i :=
  (blk_c m c t y (i 0) h0).trans (at_idx _ y i h1)

theorem m_at (c : Dev nD) (t : Fin cfg0.N) (y : S256x1024.Idx) (i : S8192x1024.Idx) (h0 : (i 0).val = t.val * 256 + (y 0).val)
    (h1 : (i 1).val = (y 1).val) : k0_pay12 (F := Ideal) (iblk m c 3 t) (iblk m c 9 t) y
      = slimArr (m ((c : Thread nD τ).loc main_arg3)) (m ((c : Thread nD τ).loc main_arg9)) i :=
  (blk_m m c t y (i 0) h0).trans (at_idx _ y i h1)

theorem norm_at (c : Dev nD) (t : Fin cfg0.N) (y : S256x1024.Idx) (i : S8192x1024.Idx) (h0 : (i 0).val = t.val * 256 + (y 0).val)
    (h1 : (i 1).val = (y 1).val) : k0_pay3 (F := Ideal) (mblk m c t) (iblk m c 5 t) (iblk m c 10 t) y = normArr m c i := by
  rw [pay3, rblk_eq m c t (y 0) (i 0) h0]
  exact at_idx (fun r => normed (rArr m c r)) y i h1

theorem rstd_at (c : Dev nD) (t : Fin cfg0.N) (y : S256x1.Idx) (i : S8192x1.Idx) (h0 : (i 0).val = t.val * 256 + (y 0).val) :
    k0_pay2 (F := Ideal) (mblk m c t) (iblk m c 5 t) (iblk m c 10 t) y = rstdArr m c i := by
  rw [pay2, rblk_eq m c t (y 0) (i 0) h0]
  rfl

theorem next_at (c : Dev nD) (t : Fin cfg0.N) (y : S256x1024.Idx) (i : S8192x1024.Idx) (h0 : (i 0).val = t.val * 256 + (y 0).val)
    (h1 : (i 1).val = (y 1).val) : k0_pay4 (F := Ideal) (mblk m c t) (iblk m c 5 t) (iblk m c 10 t) (iblk m c 11 t) (iblk m c 12 t) y = nextArr m c i := by
  rw [pay4, rblk_eq m c t (y 0) (i 0) h0, read_lng, read_lnb]
  exact at_idx (fun r b => normed (rArr m c r) b * (m ((c : Thread nD τ).loc main_arg11) : Vec Ideal S1x1024 .f32) (ix2 0 b)
    + (m ((c : Thread nD τ).loc main_arg12) : Vec Ideal S1x1024 .f32) (ix2 0 b)) y i h1

theorem array13 (c : Dev nD) : (dats m 0 c).arrAt 13 cfg0.N = mergedArr m c := by
  refine (dats m 0 c).arrAt_eq_of_covers 13 _ (by decide +kernel) fun t hf y => ?_
  blk_simp
  rw [after0_13]
  unfold outsAt0
  dsimp only
  unfold out0_A_13
  frame_out
  refine merged_at m c t y _ ?_ ?_ <;> blk_simp [idxs t]

theorem array14 (c : Dev nD) : (dats m 0 c).arrAt 14 cfg0.N = wideArr (m ((c : Thread nD τ).loc main_arg0)) (m ((c : Thread nD τ).loc main_arg6)) := by
  refine (dats m 0 c).arrAt_eq_of_covers 14 _ (by decide +kernel) fun t hf y => ?_
  blk_simp
  rw [after0_14]
  unfold outsAt0
  dsimp only
  unfold out0_A_14
  frame_out
  refine a_at m c t y _ ?_ ?_ <;> blk_simp [idxs t]

theorem array15 (c : Dev nD) : (dats m 0 c).arrAt 15 cfg0.N = wideArr (m ((c : Thread nD τ).loc main_arg1)) (m ((c : Thread nD τ).loc main_arg7)) := by
  refine (dats m 0 c).arrAt_eq_of_covers 15 _ (by decide +kernel) fun t hf y => ?_
  blk_simp
  rw [after0_15]
  unfold outsAt0
  dsimp only
  unfold out0_A_15
  frame_out
  refine b_at m c t y _ ?_ ?_ <;> blk_simp [idxs t]

theorem array16 (c : Dev nD) : (dats m 0 c).arrAt 16 cfg0.N = wideArr (m ((c : Thread nD τ).loc main_arg2)) (m ((c : Thread nD τ).loc main_arg8)) := by
  refine (dats m 0 c).arrAt_eq_of_covers 16 _ (by decide +kernel) fun t hf y => ?_
  blk_simp
  rw [after0_16]
  unfold outsAt0
  dsimp only
  unfold out0_A_16
  frame_out
  refine c_at m c t y _ ?_ ?_ <;> blk_simp [idxs t]

theorem array17 (c : Dev nD) : (dats m 0 c).arrAt 17 cfg0.N = slimArr (m ((c : Thread nD τ).loc main_arg3)) (m ((c : Thread nD τ).loc main_arg9)) := by
  refine (dats m 0 c).arrAt_eq_of_covers 17 _ (by decide +kernel) fun t hf y => ?_
  blk_simp
  rw [after0_17]
  unfold outsAt0
  dsimp only
  unfold out0_A_17
  frame_out
  refine m_at m c t y _ ?_ ?_ <;> blk_simp [idxs t]

theorem array18 (c : Dev nD) : (dats m 0 c).arrAt 18 cfg0.N = nextArr m c := by
  refine (dats m 0 c).arrAt_eq_of_covers 18 _ (by decide +kernel) fun t hf y => ?_
  blk_simp
  rw [after0_18]
  unfold outsAt0
  dsimp only
  unfold out0_A_18
  frame_out
  refine next_at m c t y _ ?_ ?_ <;> blk_simp [idxs t]

theorem array19 (c : Dev nD) : (dats m 0 c).arrAt 19 cfg0.N = normArr m c := by
  refine (dats m 0 c).arrAt_eq_of_covers 19 _ (by decide +kernel) fun t hf y => ?_
  blk_simp
  rw [after0_19]
  unfold outsAt0
  dsimp only
  unfold out0_A_19
  frame_out
  refine norm_at m c t y _ ?_ ?_ <;> blk_simp [idxs t]

theorem array20 (c : Dev nD) : (dats m 0 c).arrAt 20 cfg0.N = rstdArr m c := by
  refine (dats m 0 c).arrAt_eq_of_covers 20 _ (by decide +kernel) fun t hf y => ?_
  blk_simp
  rw [after0_20]
  unfold outsAt0
  dsimp only
  unfold out0_A_20
  frame_out
  refine rstd_at m c t y _ ?_ <;> blk_simp [idxs t]

end Cert.MergeFwd
-- ==== Proof.MergeFwdRef.lean ====
module

public import proofs.«01_k».proof.Proof.Gen.Reference6Ideal.Read
public import proofs.«01_k».proof.Proof.MergeFwd

@[expose] public section
set_option maxRecDepth 16384
noncomputable section
open Idealize.ShloMosaic Idealize.ShloMosaic.TcCoe Idealize.SL.Sem

/-! # The reference merges the branches -/
namespace Cert.MergeFwd
open Cert.Reference6Ideal Cert.Reference6Ideal.Read Cert.Merge

variable (Za Zb Zc : Vec Ideal S8192x512 .bf16) (Zm : Vec Ideal S8192x256 .bf16) (G : Vec Ideal S8192x10368 .f32) (X : Vec Ideal S8192x1024 .f32)
  (Pa Pb Pc : Vec Ideal S512x1024 .bf16) (Pm : Vec Ideal S256x1024 .bf16) (W : Vec Ideal S1024x1024 .bf16) (g b : Vec Ideal S1x1024 .f32)

theorem ref_a : val_main_v3 (F := Ideal) Za Pa = wideArr Za Pa := by
  funext i; unfold wideArr wide branch; pointwise [val_main_v3, val_main_v1, val_main_v2]

theorem ref_b : val_main_v6 (F := Ideal) Zb Pb = wideArr Zb Pb := by
  funext i; unfold wideArr wide branch; pointwise [val_main_v6, val_main_v4, val_main_v5]

theorem ref_c : val_main_v9 (F := Ideal) Zc Pc = wideArr Zc Pc := by
  funext i; unfold wideArr wide branch; pointwise [val_main_v9, val_main_v7, val_main_v8]

theorem ref_m : val_main_v12 (F := Ideal) Zm Pm = slimArr Zm Pm := by
  funext i; unfold slimArr slim branch; pointwise [val_main_v12, val_main_v10, val_main_v11]

/-- The gates. -/
theorem ref_gate (r : Fin 8192) (n : Fin 4) (k : Fin 1024) : val_main_v19 (F := Ideal) G (ix3 r n k) = gate (pre G n r k) := by
  unfold gate pre
  pointwise [val_main_v19, val_main_v18, val_main_v17, val_main_v16, val_main_v15, val_main_v14, val_main_v13, val_main_v0, val_main_cst, val_main_cst_0]

theorem ref_gate0 (i : S8192x1024.Idx) : val_main_v21 (F := Ideal) G i = gate (pre G 0 (i 0) (i 1)) := by
  refine Eq.trans ?_ (ref_gate G (i 0) 0 (i 1))
  pointwise [val_main_v21, val_main_v20]

theorem ref_gate1 (i : S8192x1024.Idx) : val_main_v24 (F := Ideal) G i = gate (pre G 1 (i 0) (i 1)) := by
  refine Eq.trans ?_ (ref_gate G (i 0) 1 (i 1))
  pointwise [val_main_v24, val_main_v23]

theorem ref_gate2 (i : S8192x1024.Idx) : val_main_v28 (F := Ideal) G i = gate (pre G 2 (i 0) (i 1)) := by
  refine Eq.trans ?_ (ref_gate G (i 0) 2 (i 1))
  pointwise [val_main_v28, val_main_v27]

theorem ref_gate3 (i : S8192x1024.Idx) : val_main_v32 (F := Ideal) G i = gate (pre G 3 (i 0) (i 1)) := by
  refine Eq.trans ?_ (ref_gate G (i 0) 3 (i 1))
  pointwise [val_main_v32, val_main_v31]

theorem ref_merged (i : S8192x1024.Idx) : val_main_v34 (F := Ideal) Za Zb Zc Zm G Pa Pb Pc Pm i = mrow Za Zb Zc Zm G Pa Pb Pc Pm (i 0) (i 1) := by
  unfold mrow merged
  pointwise [val_main_v34, val_main_v30, val_main_v26, val_main_v22, val_main_v25, val_main_v29, val_main_v33, ref_gate0, ref_gate1, ref_gate2, ref_gate3,
    ref_a, ref_b, ref_c, ref_m, wideArr, slimArr]

theorem ref_resid (r : Fin 8192) (k : Fin 1024) : val_main_v39 (F := Ideal) Za Zb Zc Zm G X Pa Pb Pc Pm W (ix2 r k) = rrow Za Zb Zc Zm G X Pa Pb Pc Pm W r k := by
  unfold rrow resid
  pointwise [val_main_v39, val_main_v36, val_main_v35, val_main_cst_1, val_main_v38, val_main_v37, ref_merged]

/-- A token's residual less its mean. -/
theorem ref_centre (r : Fin 8192) (k : Fin 1024) : val_main_v45 (F := Ideal) Za Zb Zc Zm G X Pa Pb Pc Pm W (ix2 r k) = centre (rrow Za Zb Zc Zm G X Pa Pb Pc Pm W r) k := by
  unfold centre
  pointwise [val_main_v45, val_main_v44, val_main_v43, val_main_v42, val_main_v41, val_main_v40, val_main_cst_2, val_main_cst_3, ref_resid]

theorem ref_centre' (r : Fin 8192) (k : Fin 1024) : val_main_v55 (F := Ideal) Za Zb Zc Zm G X Pa Pb Pc Pm W (ix2 r k) = centre (rrow Za Zb Zc Zm G X Pa Pb Pc Pm W r) k := by
  unfold centre
  pointwise [val_main_v55, val_main_v54, val_main_v43, val_main_v42, val_main_v41, val_main_v40, val_main_cst_2, val_main_cst_3, ref_resid]

theorem ref_rstd (i : S8192x1.Idx) : val_main_v53 (F := Ideal) Za Zb Zc Zm G X Pa Pb Pc Pm W i = rstd (rrow Za Zb Zc Zm G X Pa Pb Pc Pm W (i 0)) := by
  unfold rstd
  pointwise [val_main_v53, val_main_v52, val_main_v51, val_main_v50, val_main_v49, val_main_v48, val_main_v47, val_main_v46, val_main_cst_4, val_main_cst_5,
    val_main_cst_6, ref_centre]

theorem ref_norm (r : Fin 8192) (k : Fin 1024) : val_main_v57 (F := Ideal) Za Zb Zc Zm G X Pa Pb Pc Pm W (ix2 r k) = normed (rrow Za Zb Zc Zm G X Pa Pb Pc Pm W r) k := by
  unfold normed
  pointwise [val_main_v57, val_main_v56, ref_centre', ref_rstd]

theorem ref_next (r : Fin 8192) (k : Fin 1024) : val_main_v66 (F := Ideal) Za Zb Zc Zm G X Pa Pb Pc Pm W g b (ix2 r k)
    = normed (rrow Za Zb Zc Zm G X Pa Pb Pc Pm W r) k * g (ix2 0 k) + b (ix2 0 k) := by
  pointwise [val_main_v66, val_main_v65, val_main_v64, val_main_v63, ref_norm]

/-! The reference's arrays. -/

theorem reference_merged : (val_main_v58 (F := Ideal) Za Zb Zc Zm G Pa Pb Pc Pm : S8192x1024.Idx → EReal)
    = fun i => mrow Za Zb Zc Zm G Pa Pb Pc Pm (i 0) (i 1) :=
  funext (ref_merged Za Zb Zc Zm G Pa Pb Pc Pm)

theorem reference_next : (val_main_v66 (F := Ideal) Za Zb Zc Zm G X Pa Pb Pc Pm W g b : S8192x1024.Idx → EReal)
    = fun i => normed (rrow Za Zb Zc Zm G X Pa Pb Pc Pm W (i 0)) (i 1) * g (ix2 0 (i 1)) + b (ix2 0 (i 1)) := by
  funext i; obtain ⟨r, k, rfl⟩ : ∃ r k, i = ix2 r k := ⟨i 0, i 1, by blk_ext []⟩
  exact ref_next Za Zb Zc Zm G X Pa Pb Pc Pm W g b r k

theorem reference_norm : (val_main_v57 (F := Ideal) Za Zb Zc Zm G X Pa Pb Pc Pm W : S8192x1024.Idx → EReal) = fun i => normed (rrow Za Zb Zc Zm G X Pa Pb Pc Pm W (i 0)) (i 1) := by
  funext i; obtain ⟨r, k, rfl⟩ : ∃ r k, i = ix2 r k := ⟨i 0, i 1, by blk_ext []⟩
  exact ref_norm Za Zb Zc Zm G X Pa Pb Pc Pm W r k

theorem reference_rstd : (val_main_v53 (F := Ideal) Za Zb Zc Zm G X Pa Pb Pc Pm W : S8192x1.Idx → EReal) = fun i => rstd (rrow Za Zb Zc Zm G X Pa Pb Pc Pm W (i 0)) :=
  funext (ref_rstd Za Zb Zc Zm G X Pa Pb Pc Pm W)

/-! The same of arguments that are given by equations. -/

section
variable {Za Zb Zc Zm G X Pa Pb Pc Pm W g b}
variable {Za' Zb' Zc' : Vec Ideal S8192x512 .bf16} {Zm' : Vec Ideal S8192x256 .bf16} {G' : Vec Ideal S8192x10368 .f32} {X' : Vec Ideal S8192x1024 .f32}
  {Pa' Pb' Pc' : Vec Ideal S512x1024 .bf16} {Pm' : Vec Ideal S256x1024 .bf16} {W' : Vec Ideal S1024x1024 .bf16} {g' b' : Vec Ideal S1x1024 .f32}
  (h0 : Za' = Za) (h1 : Zb' = Zb) (h2 : Zc' = Zc) (h3 : Zm' = Zm) (h4 : G' = G) (h5 : X' = X) (h6 : Pa' = Pa) (h7 : Pb' = Pb) (h8 : Pc' = Pc) (h9 : Pm' = Pm)
  (h10 : W' = W) (h11 : g' = g) (h12 : b' = b)
include h0 h1 h2 h3 h4 h6 h7 h8 h9

theorem merged_of : (val_main_v58 (F := Ideal) Za' Zb' Zc' Zm' G' Pa' Pb' Pc' Pm' : S8192x1024.Idx → EReal)
    = fun i => mrow Za Zb Zc Zm G Pa Pb Pc Pm (i 0) (i 1) := by
  subst h0 h1 h2 h3 h4 h6 h7 h8 h9; exact reference_merged _ _ _ _ _ _ _ _ _

include h5 h10

theorem norm_of : (val_main_v57 (F := Ideal) Za' Zb' Zc' Zm' G' X' Pa' Pb' Pc' Pm' W' : S8192x1024.Idx → EReal)
    = fun i => normed (rrow Za Zb Zc Zm G X Pa Pb Pc Pm W (i 0)) (i 1) := by
  subst h0 h1 h2 h3 h4 h5 h6 h7 h8 h9 h10; exact reference_norm _ _ _ _ _ _ _ _ _ _ _

theorem rstd_of : (val_main_v53 (F := Ideal) Za' Zb' Zc' Zm' G' X' Pa' Pb' Pc' Pm' W' : S8192x1.Idx → EReal)
    = fun i => rstd (rrow Za Zb Zc Zm G X Pa Pb Pc Pm W (i 0)) := by
  subst h0 h1 h2 h3 h4 h5 h6 h7 h8 h9 h10; exact reference_rstd _ _ _ _ _ _ _ _ _ _ _

include h11 h12

theorem next_of : (val_main_v66 (F := Ideal) Za' Zb' Zc' Zm' G' X' Pa' Pb' Pc' Pm' W' g' b' : S8192x1024.Idx → EReal)
    = fun i => normed (rrow Za Zb Zc Zm G X Pa Pb Pc Pm W (i 0)) (i 1) * g (ix2 0 (i 1)) + b (ix2 0 (i 1)) := by
  subst h0 h1 h2 h3 h4 h5 h6 h7 h8 h9 h10 h11 h12; exact reference_next _ _ _ _ _ _ _ _ _ _ _ _ _
end

end Cert.MergeFwd
-- ==== Proof.lean ====
/- The claims, assembled from the modules under `Proof`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Pre_finite
public import proofs.«01_k».proof.Proof.Gen.Pre_device
public import proofs.«01_k».proof.Proof.Equation
public import proofs.«01_k».proof.Proof.WeightGrad
public import proofs.«01_k».proof.Proof.InputGrad
public import proofs.«01_k».proof.Proof.Project
public import proofs.«01_k».proof.Proof.Adam
public import proofs.«01_k».proof.Proof.AdamMid
public import proofs.«01_k».proof.Proof.AdamSmall
public import proofs.«01_k».proof.Proof.Device
public import proofs.«01_k».proof.Proof.LossHead
public import proofs.«01_k».proof.Proof.OutBwd
public import proofs.«01_k».proof.Proof.MergeFwdRef
public import Idealize.ShloMosaic.Adequacy
public import Idealize.ShloMosaic.Init

@[expose] public section

noncomputable section

namespace Cert.Proof

open Idealize.ShloMosaic Idealize.SL.Sem Cert.Kernel

/-- On real arguments the kernel's two arrays are the reference's. -/
theorem mem_grad : Cert.algebraic_KernelIdeal_ReferenceIdeal_pre_finite := by
  intro m g m' g' hpre hagree
  refine ⟨_, _, Cert.KernelIdeal.Value.run_blocks m g, (θ_run Cert.ReferenceIdeal.defs _ _).mono (fun r h c => ?_) (Cert.ReferenceIdeal.Value.run m' g')⟩
  obtain ⟨h1, h2, h3⟩ := h c
  obtain ⟨_, a1, a2, _, a4, a5, a6⟩ := hagree c
  have H := Cert.MemGrad.real_of_pre _ (hpre c)
  refine ⟨h1.trans ?_, h2.trans ?_, h3⟩
  · rw [Cert.MemGrad.cols_array, Cert.ReferenceIdeal.Read.val_main_v75_eq, a1, a2, a4, a5, a6]
    exact Cert.MemGrad.cols_eq _ H
  · rw [Cert.MemGrad.mem_array, Cert.ReferenceIdeal.Read.val_main_v70_eq, a1, a2, a4, a5]
    exact Cert.MemGrad.mem_eq H

/-- The reference leaves its arguments as they were, and declares no semaphore. -/
theorem frame_reference : Cert.quiescent_ReferenceIdeal := fun m g _ =>
  (θ_run Cert.ReferenceIdeal.defs _ _).mono (fun r h => ⟨fun c => (h c).2.2, sem_eq_zero_of_no_sems (by decide) r.2⟩) (Cert.ReferenceIdeal.Value.run m g)

/-- The kernel's array is the gradient of the projection's weight. -/
theorem weight_grad : Cert.algebraic_Kernel2Ideal_Reference2Ideal := by
  intro m g m' g' hpre hagree
  refine ⟨_, Cert.Kernel2Ideal.Value.run_blocks m g, (θ_run Cert.Reference2Ideal.defs _ _).mono (fun r h c => ?_) (Cert.Reference2Ideal.Value.run m' g')⟩
  obtain ⟨h1, h3⟩ := h c
  obtain ⟨a0, _, a2⟩ := hagree c
  refine ⟨h1.trans ?_, h3⟩
  rw [Cert.WeightGrad.array, Cert.Reference2Ideal.Read.val_main_v5_eq, a0, a2, Cert.WeightGrad.reference]

/-- The kernel's array is the gradient of the projection and of the residual branch. -/
theorem input_grad : Cert.algebraic_Kernel3Ideal_Reference3Ideal := by
  intro m g m' g' hpre hagree
  refine ⟨_, Cert.Kernel3Ideal.Value.run_blocks m g, (θ_run Cert.Reference3Ideal.defs _ _).mono (fun r h c => ?_) (Cert.Reference3Ideal.Value.run m' g')⟩
  obtain ⟨h1, h3⟩ := h c
  obtain ⟨_, a1, a2, a3⟩ := hagree c
  refine ⟨h1.trans ?_, h3⟩
  rw [Cert.InputGrad.array, Cert.Reference3Ideal.Read.val_main_v8_eq, a1, a2, a3, Cert.InputGrad.reference]

/-- The kernel's array is the projection of the tokens. -/
theorem projection : Cert.algebraic_Kernel4Ideal_Reference4Ideal := by
  intro m g m' g' hpre hagree
  refine ⟨_, Cert.Kernel4Ideal.Value.run_blocks m g, (θ_run Cert.Reference4Ideal.defs _ _).mono (fun r h c => ?_) (Cert.Reference4Ideal.Value.run m' g')⟩
  obtain ⟨h1, h3⟩ := h c
  obtain ⟨a0, a1⟩ := hagree c
  refine ⟨h1.trans ?_, h3⟩
  rw [Cert.Project.array, Cert.Reference4Ideal.Read.val_main_v1_eq, a0, a1, Cert.Project.reference]

/-- The kernel's four arrays are the optimiser's step on the projection's weight. -/
theorem adam_step : Cert.algebraic_Kernel5Ideal_Reference5Ideal := by
  intro m g m' g' hpre hagree
  refine ⟨_, _, _, _, Cert.Kernel5Ideal.Value.run_blocks m g, (θ_run Cert.Reference5Ideal.defs _ _).mono (fun r h c => ?_) (Cert.Reference5Ideal.Value.run m' g')⟩
  obtain ⟨h1, h2, h3, h4, h5⟩ := h c
  obtain ⟨a0, a1, a2, a3⟩ := hagree c
  refine ⟨h1.trans ?_, h2.trans ?_, h3.trans ?_, h4.trans ?_, h5⟩
  · rw [Cert.Adam.array4, Cert.Reference5Ideal.Read.val_main_v27_eq, a3, Cert.Adam.ref_g]
  · rw [Cert.Adam.array5, Cert.Reference5Ideal.Read.val_main_v28_eq, a0, a1, a2, a3, Cert.Adam.ref_d]
  · rw [Cert.Adam.array6, Cert.Reference5Ideal.Read.val_main_v29_eq, a1, a3, Cert.Adam.ref_m]
  · rw [Cert.Adam.array7, Cert.Reference5Ideal.Read.val_main_v30_eq, a2, a3, Cert.Adam.ref_v]

/-- The kernel's four arrays are the optimiser's step on the rows of the six weights. -/
theorem adam_step_mid : Cert.algebraic_Kernel7Ideal_Reference7Ideal := by
  intro m g m' g' hpre hagree
  refine ⟨_, _, _, _, Cert.Kernel7Ideal.Value.run_blocks m g, (θ_run Cert.Reference7Ideal.defs _ _).mono (fun r h c => ?_) (Cert.Reference7Ideal.Value.run m' g')⟩
  obtain ⟨h1, h2, h3, h4, h5⟩ := h c
  obtain ⟨a0, a1, a2, a3, a4, a5, b0, b1, b2, b3, b4, b5, c0, c1, c2, c3, c4, c5, a18⟩ := hagree c
  refine ⟨h1.trans ?_, h2.trans ?_, h3.trans ?_, h4.trans ?_, h5⟩
  · rw [Cert.AdamMid.array4]
    exact Cert.AdamMid.g_of a18
  · rw [Cert.AdamMid.array5, Cert.AdamMid.rows0, Cert.AdamMid.rows1, Cert.AdamMid.rows2]
    exact Cert.AdamMid.d_of a0 a1 a2 a3 a4 a5 b0 b1 b2 b3 b4 b5 c0 c1 c2 c3 c4 c5 a18
  · rw [Cert.AdamMid.array6, Cert.AdamMid.rows1]
    exact Cert.AdamMid.m_of b0 b1 b2 b3 b4 b5 a18
  · rw [Cert.AdamMid.array7, Cert.AdamMid.rows2]
    exact Cert.AdamMid.v_of c0 c1 c2 c3 c4 c5 a18

set_option maxHeartbeats 1000000 in
/-- The kernel's four arrays are the optimiser's step on the rows of the ten small weights. -/
theorem adam_step_small : Cert.algebraic_Kernel8Ideal_Reference8Ideal_pre_device := by
  intro m g m' g' hpre hagree
  have hd (c : Dev Cert.Kernel8Ideal.nD) : ∃ q : Nat, q < 8 ∧ m ((c.tc : Thread Cert.Kernel8Ideal.nD Cert.Kernel8Ideal.τ).loc Cert.Kernel8Ideal.main_arg31) = fun _ => BitVec.ofNat 32 q :=
    Cert.AdamSmall.device_of _ (Shape.Idx.first Cert.Kernel8Ideal.Gen.h_S_) (congrFun (hpre c) (Shape.Idx.first Cert.Kernel8Ideal.Gen.h_S_))
  refine ⟨_, _, _, _, Cert.Kernel8Ideal.Value.run_blocks m g, (θ_run Cert.Reference8Ideal.defs _ _).mono (fun r h c => ?_) (Cert.Reference8Ideal.Value.run m' g')⟩
  obtain ⟨h1, h2, h3, h4, h5⟩ := h c
  obtain ⟨a0, a1, a2, a3, a4, a5, a6, a7, a8, a9, b0, b1, b2, b3, b4, b5, b6, b7, b8, b9, c0, c1, c2, c3, c4, c5, c6, c7, c8, c9, p, d⟩ := hagree c
  obtain ⟨q, hq, hme⟩ := hd c
  refine ⟨h1.trans ?_, h2.trans ?_, h3.trans ?_, h4.trans ?_, h5⟩
  · rw [Cert.AdamSmall.array4, Cert.Reference8Ideal.Read.val_main_v55_eq]
    exact Cert.AdamSmall.g_of p
  · rw [Cert.AdamSmall.array5, Cert.AdamSmall.rows0 m c q hq hme, Cert.AdamSmall.rows1 m c q hq hme, Cert.AdamSmall.rows2 m c q hq hme, Cert.Reference8Ideal.Read.val_main_v79_eq]
    exact Cert.AdamSmall.d_of (Cert.AdamSmall.rowsW a0 a1 a2 a3 a4 a5 a6 a7 a8 a9 d) (Cert.AdamSmall.rowsM b0 b1 b2 b3 b4 b5 b6 b7 b8 b9 d) (Cert.AdamSmall.rowsV c0 c1 c2 c3 c4 c5 c6 c7 c8 c9 d) p
  · rw [Cert.AdamSmall.array6, Cert.AdamSmall.rows1 m c q hq hme]
    refine (Cert.Reference8Ideal.Read.val_main_v60_eq _ _ _ _ _ _ _ _ _ _ _ _).trans ?_
    exact Cert.AdamSmall.m_of (Cert.AdamSmall.rowsM b0 b1 b2 b3 b4 b5 b6 b7 b8 b9 d) p
  · rw [Cert.AdamSmall.array7, Cert.AdamSmall.rows2 m c q hq hme]
    refine (Cert.Reference8Ideal.Read.val_main_v66_eq _ _ _ _ _ _ _ _ _ _ _ _).trans ?_
    exact Cert.AdamSmall.v_of (Cert.AdamSmall.rowsV c0 c1 c2 c3 c4 c5 c6 c7 c8 c9 d) p

/-- The gradient of the layer norm and of the output projection. -/
theorem out_grad : Cert.algebraic_Kernel10Ideal_Reference10Ideal := by
  intro m g m' g' hpre hagree
  refine ⟨_, _, _, _, _, Cert.Kernel10Ideal.Value.run_blocks m g, (θ_run Cert.Reference10Ideal.defs _ _).mono (fun r h c => ?_) (Cert.Reference10Ideal.Value.run m' g')⟩
  obtain ⟨h1, h2, h3, h4, h5, hlast⟩ := h c
  obtain ⟨a0, a1, a2, a3, a4, a5⟩ := hagree c
  refine ⟨h1.trans ?_, h2.trans ?_, h3.trans ?_, h4.trans ?_, h5.trans ?_, hlast⟩
  · rw [Cert.OutBwd.array6, Cert.Reference10Ideal.Read.val_main_v17_eq, a0, a1, a2, a5, Cert.OutBwd.ref_resid]
  · rw [Cert.OutBwd.array7, Cert.Reference10Ideal.Read.val_main_v20_eq, a0, a1, a2, a4, a5, Cert.OutBwd.ref_m]
  · rw [Cert.OutBwd.array8, Cert.Reference10Ideal.Read.val_main_v23_eq, a0, a1, a2, a3, a5, Cert.OutBwd.ref_w]
  · rw [Cert.OutBwd.array9, Cert.Reference10Ideal.Read.val_main_v26_eq, a0, a1, Cert.OutBwd.ref_g]
  · rw [Cert.OutBwd.array10, Cert.Reference10Ideal.Read.val_main_v28_eq, a0, Cert.OutBwd.ref_b]

/-- The kernel's cotangents and its number are the loss head's. -/
theorem loss_head : Cert.algebraic_Kernel9Ideal_Reference9Ideal := by
  intro m g m' g' hpre hagree
  refine ⟨_, _, Cert.Kernel9Ideal.Value.run_blocks m g, (θ_run Cert.Reference9Ideal.defs _ _).mono (fun r h c => ?_) (Cert.Reference9Ideal.Value.run m' g')⟩
  obtain ⟨h1, h2, h3⟩ := h c
  obtain ⟨a0, a1⟩ := hagree c
  refine ⟨h1.trans ?_, h2.trans ?_, h3⟩
  · rw [Cert.LossHead.array2, Cert.Reference9Ideal.Read.val_main_v14_eq, a0, a1, Cert.LossHead.reference_slope]
  · rw [Cert.LossHead.array3, Cert.Reference9Ideal.Read.val_main_v15_eq, a0, a1, Cert.LossHead.reference_loss]

/-- The kernel's eight arrays are the merge of the branches and the residual's layer norm. -/
theorem merge_forward : Cert.algebraic_Kernel6Ideal_Reference6Ideal := by
  intro m g m' g' hpre hagree
  refine ⟨_, _, _, _, _, _, _, _, Cert.Kernel6Ideal.Value.run_blocks m g, (θ_run Cert.Reference6Ideal.defs _ _).mono (fun r h c => ?_) (Cert.Reference6Ideal.Value.run m' g')⟩
  obtain ⟨h1, h2, h3, h4, h5, h6, h7, h8, h9⟩ := h c
  obtain ⟨a0, a1, a2, a3, a4, a5, a6, a7, a8, a9, a10, a11, a12⟩ := hagree c
  refine ⟨h1.trans ?_, h2.trans ?_, h3.trans ?_, h4.trans ?_, h5.trans ?_, h6.trans ?_, h7.trans ?_, h8.trans ?_, h9⟩
  · rw [Cert.MergeFwd.array13, Cert.Reference6Ideal.Read.val_main_v58_eq]
    exact (Cert.MergeFwd.merged_of a0 a1 a2 a3 a4 a6 a7 a8 a9)
  · rw [Cert.MergeFwd.array14, Cert.Reference6Ideal.Read.val_main_v59_eq, a0, a6]
    exact Cert.MergeFwd.ref_a _ _
  · rw [Cert.MergeFwd.array15, Cert.Reference6Ideal.Read.val_main_v60_eq, a1, a7]
    exact Cert.MergeFwd.ref_b _ _
  · rw [Cert.MergeFwd.array16, Cert.Reference6Ideal.Read.val_main_v61_eq, a2, a8]
    exact Cert.MergeFwd.ref_c _ _
  · rw [Cert.MergeFwd.array17, Cert.Reference6Ideal.Read.val_main_v62_eq, a3, a9]
    exact Cert.MergeFwd.ref_m _ _
  · rw [Cert.MergeFwd.array18, Cert.Reference6Ideal.Read.val_main_v66_eq]
    exact (Cert.MergeFwd.next_of a0 a1 a2 a3 a4 a5 a6 a7 a8 a9 a10 a11 a12)
  · rw [Cert.MergeFwd.array19, Cert.Reference6Ideal.Read.val_main_v57_eq]
    exact (Cert.MergeFwd.norm_of a0 a1 a2 a3 a4 a5 a6 a7 a8 a9 a10)
  · rw [Cert.MergeFwd.array20, Cert.Reference6Ideal.Read.val_main_v53_eq]
    exact (Cert.MergeFwd.rstd_of a0 a1 a2 a3 a4 a5 a6 a7 a8 a9 a10)

theorem frame_reference5 : Cert.quiescent_Reference5Ideal := fun m g _ =>
  (θ_run Cert.Reference5Ideal.defs _ _).mono (fun r h => ⟨fun c => (h c).2.2.2.2, sem_eq_zero_of_no_sems (by decide) r.2⟩) (Cert.Reference5Ideal.Value.run m g)

theorem frame_reference6 : Cert.quiescent_Reference6Ideal := fun m g _ =>
  (θ_run Cert.Reference6Ideal.defs _ _).mono (fun r h => ⟨fun c => (h c).2.2.2.2.2.2.2.2, sem_eq_zero_of_no_sems (by decide) r.2⟩)
    (Cert.Reference6Ideal.Value.run m g)

theorem frame_reference7 : Cert.quiescent_Reference7Ideal := fun m g _ =>
  (θ_run Cert.Reference7Ideal.defs _ _).mono (fun r h => ⟨fun c => (h c).2.2.2.2, sem_eq_zero_of_no_sems (by decide) r.2⟩) (Cert.Reference7Ideal.Value.run m g)

theorem frame_reference8 : Cert.quiescent_Reference8Ideal := fun m g _ =>
  (θ_run Cert.Reference8Ideal.defs _ _).mono (fun r h => ⟨fun c => (h c).2.2.2.2, sem_eq_zero_of_no_sems (by decide) r.2⟩) (Cert.Reference8Ideal.Value.run m g)

theorem frame_reference9 : Cert.quiescent_Reference9Ideal := fun m g _ =>
  (θ_run Cert.Reference9Ideal.defs _ _).mono (fun r h => ⟨fun c => (h c).2.2, sem_eq_zero_of_no_sems (by decide) r.2⟩) (Cert.Reference9Ideal.Value.run m g)

theorem frame_reference10 : Cert.quiescent_Reference10Ideal := fun m g _ =>
  (θ_run Cert.Reference10Ideal.defs _ _).mono (fun r h => ⟨fun c => (h c).2.2.2.2.2, sem_eq_zero_of_no_sems (by decide) r.2⟩) (Cert.Reference10Ideal.Value.run m g)

theorem frame_reference2 : Cert.quiescent_Reference2Ideal := fun m g _ =>
  (θ_run Cert.Reference2Ideal.defs _ _).mono (fun r h => ⟨fun c => (h c).2, sem_eq_zero_of_no_sems (by decide) r.2⟩) (Cert.Reference2Ideal.Value.run m g)

theorem frame_reference3 : Cert.quiescent_Reference3Ideal := fun m g _ =>
  (θ_run Cert.Reference3Ideal.defs _ _).mono (fun r h => ⟨fun c => (h c).2, sem_eq_zero_of_no_sems (by decide) r.2⟩) (Cert.Reference3Ideal.Value.run m g)

theorem frame_reference4 : Cert.quiescent_Reference4Ideal := fun m g _ =>
  (θ_run Cert.Reference4Ideal.defs _ _).mono (fun r h => ⟨fun c => (h c).2, sem_eq_zero_of_no_sems (by decide) r.2⟩) (Cert.Reference4Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Pre_finite.Gen.facts, Cert.Pre_device.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  fun m g _ => Cert.Kernel2.Gen.frame m g,
  fun m g _ => Cert.Kernel2Ideal.Gen.frame m g,
  frame_reference2,
  fun m g _ => Cert.Kernel3.Gen.frame m g,
  fun m g _ => Cert.Kernel3Ideal.Gen.frame m g,
  frame_reference3,
  fun m g _ => Cert.Kernel4.Gen.frame m g,
  fun m g _ => Cert.Kernel4Ideal.Gen.frame m g,
  frame_reference4,
  fun m g _ => Cert.Kernel5.Gen.frame m g,
  fun m g _ => Cert.Kernel5Ideal.Gen.frame m g,
  frame_reference5,
  fun m g _ => Cert.Kernel6.Gen.frame m g,
  fun m g _ => Cert.Kernel6Ideal.Gen.frame m g,
  frame_reference6,
  fun m g _ => Cert.Kernel7.Gen.frame m g,
  fun m g _ => Cert.Kernel7Ideal.Gen.frame m g,
  frame_reference7,
  fun m g _ => Cert.Kernel8.Gen.frame m g,
  fun m g _ => Cert.Kernel8Ideal.Gen.frame m g,
  fun m g _ => Cert.Kernel8Ideal.Gen.frame m g,
  frame_reference8,
  fun m g _ => frame_reference8 m g trivial,
  fun m g _ => Cert.Kernel9.Gen.frame m g,
  fun m g _ => Cert.Kernel9Ideal.Gen.frame m g,
  frame_reference9,
  fun m g _ => Cert.Kernel10.Gen.frame m g,
  fun m g _ => Cert.Kernel10Ideal.Gen.frame m g,
  frame_reference10,
  trivial, mem_grad, trivial, weight_grad, trivial, input_grad, trivial, projection, trivial, adam_step, trivial, merge_forward, trivial, adam_step_mid, trivial, adam_step_small, trivial, loss_head, trivial, out_grad⟩

end Cert.Proof

end
